-- ==== Defs.lean ====
def Pre_Kernel [hPre_batch_in_range : Cert.Pre_batch_in_range.Facts] (m : (ℓ : Loc Cert.Kernel.nD Cert.Kernel.τ Cert.Kernel.sig) → Buf (Elt Bits) ℓ) : Prop :=
  ∀ c : Dev Cert.Kernel.nD,
    (Cert.Pre_batch_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_batch_in_range : Cert.Pre_batch_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_batch_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_KernelIdeal_boxes_in_range [hPre_boxes_in_range : Cert.Pre_boxes_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_boxes_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_boxes_in_range [hPre_boxes_in_range : Cert.Pre_boxes_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_boxes_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] [hPre_batch_in_range : Cert.Pre_batch_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] [hPre_batch_in_range : Cert.Pre_batch_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_boxes_in_range [hKernelIdeal : Cert.KernelIdeal.Facts] [hPre_boxes_in_range : Cert.Pre_boxes_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_boxes_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_boxes_in_range [hReferenceIdeal : Cert.ReferenceIdeal.Facts] [hPre_boxes_in_range : Cert.Pre_boxes_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_boxes_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal_pre_boxes_in_range [hKernelIdeal : Cert.KernelIdeal.Facts] [hReferenceIdeal : Cert.ReferenceIdeal.Facts] [hPre_boxes_in_range : Cert.Pre_boxes_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_boxes_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v347) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_batch_in_range : Cert.Pre_batch_in_range.Facts) (hPre_boxes_in_range : Cert.Pre_boxes_in_range.Facts),
    quiescent_Kernel (hKernel := hKernel) (hPre_batch_in_range := hPre_batch_in_range)
    ∧ quiescent_KernelIdeal (hKernelIdeal := hKernelIdeal) (hPre_batch_in_range := hPre_batch_in_range)
    ∧ quiescent_KernelIdeal_pre_boxes_in_range (hKernelIdeal := hKernelIdeal) (hPre_boxes_in_range := hPre_boxes_in_range)
    ∧ quiescent_ReferenceIdeal (hReferenceIdeal := hReferenceIdeal)
    ∧ quiescent_ReferenceIdeal_pre_boxes_in_range (hReferenceIdeal := hReferenceIdeal) (hPre_boxes_in_range := hPre_boxes_in_range)
    ∧ preserves_Kernel_KernelIdeal
    ∧ algebraic_KernelIdeal_ReferenceIdeal_pre_boxes_in_range (hKernelIdeal := hKernelIdeal) (hReferenceIdeal := hReferenceIdeal) (hPre_boxes_in_range := hPre_boxes_in_range)
-- ==== Pre_batch_in_range.lean ====
abbrev S4x64x256x256 : Shape := ⟨4, ![4, 64, 256, 256]⟩
abbrev S4096x5 : Shape := ⟨2, ![4096, 5]⟩
abbrev S128x64x3x3 : Shape := ⟨4, ![128, 64, 3, 3]⟩
abbrev S128 : Shape := ⟨1, ![128]⟩
abbrev S128x128x3x3 : Shape := ⟨4, ![128, 128, 3, 3]⟩
abbrev S6272x256 : Shape := ⟨2, ![6272, 256]⟩
abbrev S256 : Shape := ⟨1, ![256]⟩
abbrev S256x1 : Shape := ⟨2, ![256, 1]⟩
abbrev S1 : Shape := ⟨1, ![1]⟩
abbrev S4096x1 : Shape := ⟨2, ![4096, 1]⟩
abbrev S4096 : Shape := ⟨1, ![4096]⟩
abbrev S_ : Shape := ⟨0, ![]⟩

class Facts : Prop where
  slices_S4096x5_S4096x1_0_0 : S4096x5.Slices ![0, 0] S4096x1
  shapeCasts_S4096x1_S4096 : S4096x1.ShapeCasts S4096
  bcast_S_S4096 : S_.BroadcastsInDim S4096 (![] : Fin 0 → Fin S4096.rank)
  reducesTo_S4096_S_d0 : S4096.ReducesTo [0] S_
  h_S_ : 0 < S_.numel

variable [Facts]

def fn {F : FTy → Type} [FloatOps F] (main_arg0 : FVec F S4x64x256x256 .f32) (main_arg1 : FVec F S4096x5 .f32) (main_arg2 : FVec F S128x64x3x3 .f32) (main_arg3 : FVec F S128 .f32) (main_arg4 : FVec F S128x128x3x3 .f32) (main_arg5 : FVec F S128 .f32) (main_arg6 : FVec F S6272x256 .f32) (main_arg7 : FVec F S256 .f32) (main_arg8 : FVec F S256x1 .f32) (main_arg9 : FVec F S1 .f32) : IVec S_ 1 :=
  let main_v0 : FVec F S4096x1 .f32 := (extractStridedSlice S4096x1 ![0, 0] · slices_S4096x5_S4096x1_0_0) main_arg1
  let main_v1 : FVec F S4096 .f32 := shapeCast S4096 main_v0 shapeCasts_S4096x1_S4096
  let main_v2 : IVec S4096 32 := fptosi 32 main_v1
  let main_c : IVec S_ 32 := constantI S_ 32 0#32
  let main_v3 : IVec S4096 32 := broadcastInDim S4096 ![] bcast_S_S4096 main_c
  let main_v4 : IVec S4096 1 := cmpi .sge main_v2 main_v3
  let main_c_0 : IVec S_ 32 := constantI S_ 32 3#32
  let main_v5 : IVec S4096 32 := broadcastInDim S4096 ![] bcast_S_S4096 main_c_0
  let main_v6 : IVec S4096 1 := cmpi .sle main_v2 main_v5
  let main_v7 : IVec S4096 1 := andi main_v4 main_v6
  let main_c_1 : IVec S_ 1 := constantI S_ 1 1#1
  let main_v8 : IVec S_ 1 := (fun x v => Host.reduce IntOp.andi x v reducesTo_S4096_S_d0 h_S_) main_v7 main_c_1
  main_v8
-- ==== Pre_boxes_in_range.lean ====
abbrev S4x64x256x256 : Shape := ⟨4, ![4, 64, 256, 256]⟩
abbrev S4096x5 : Shape := ⟨2, ![4096, 5]⟩
abbrev S128x64x3x3 : Shape := ⟨4, ![128, 64, 3, 3]⟩
abbrev S128 : Shape := ⟨1, ![128]⟩
abbrev S128x128x3x3 : Shape := ⟨4, ![128, 128, 3, 3]⟩
abbrev S6272x256 : Shape := ⟨2, ![6272, 256]⟩
abbrev S256 : Shape := ⟨1, ![256]⟩
abbrev S256x1 : Shape := ⟨2, ![256, 1]⟩
abbrev S1 : Shape := ⟨1, ![1]⟩
abbrev S4096x1 : Shape := ⟨2, ![4096, 1]⟩
abbrev S4096 : Shape := ⟨1, ![4096]⟩
abbrev S_ : Shape := ⟨0, ![]⟩

class Facts : Prop where
  slices_S4096x5_S4096x1_0_0 : S4096x5.Slices ![0, 0] S4096x1
  shapeCasts_S4096x1_S4096 : S4096x1.ShapeCasts S4096
  slices_S4096x5_S4096x1_0_1 : S4096x5.Slices ![0, 1] S4096x1
  slices_S4096x5_S4096x1_0_2 : S4096x5.Slices ![0, 2] S4096x1
  slices_S4096x5_S4096x1_0_3 : S4096x5.Slices ![0, 3] S4096x1
  slices_S4096x5_S4096x1_0_4 : S4096x5.Slices ![0, 4] S4096x1
  bcast_S_S4096 : S_.BroadcastsInDim S4096 (![] : Fin 0 → Fin S4096.rank)
  reducesTo_S4096_S_d0 : S4096.ReducesTo [0] S_
  h_S_ : 0 < S_.numel

variable [Facts]

def fn_part1 {F : FTy → Type} [FloatOps F] (main_v4 : FVec F S4096 .f32) (main_v6 : FVec F S4096 .f32) (main_v8 : FVec F S4096 .f32) (main_v10 : FVec F S4096 .f32) (main_v18 : IVec S4096 1) (main_v19 : FVec F S4096 .f32) : IVec S_ 1 :=
  let main_v20 : IVec S4096 1 := cmpf .ole main_v4 main_v19
  let main_v21 : IVec S4096 1 := andi main_v18 main_v20
  let main_cst_2 : FVec F S_ .f32 := constant S_ .f32 0x00000000#32
  let main_v22 : FVec F S4096 .f32 := broadcastInDim S4096 ![] bcast_S_S4096 main_cst_2
  let main_v23 : IVec S4096 1 := cmpf .oge main_v6 main_v22
  let main_v24 : IVec S4096 1 := andi main_v21 main_v23
  let main_cst_3 : FVec F S_ .f32 := constant S_ .f32 0x43710000#32
  let main_v25 : FVec F S4096 .f32 := broadcastInDim S4096 ![] bcast_S_S4096 main_cst_3
  let main_v26 : IVec S4096 1 := cmpf .ole main_v6 main_v25
  let main_v27 : IVec S4096 1 := andi main_v24 main_v26
  let main_v28 : FVec F S4096 .f32 := subf main_v8 main_v4
  let main_cst_4 : FVec F S_ .f32 := constant S_ .f32 0x41680000#32
  let main_v29 : FVec F S4096 .f32 := broadcastInDim S4096 ![] bcast_S_S4096 main_cst_4
  let main_v30 : IVec S4096 1 := cmpf .ole main_v28 main_v29
  let main_v31 : IVec S4096 1 := andi main_v27 main_v30
  let main_v32 : FVec F S4096 .f32 := subf main_v10 main_v6
  let main_cst_5 : FVec F S_ .f32 := constant S_ .f32 0x41680000#32
  let main_v33 : FVec F S4096 .f32 := broadcastInDim S4096 ![] bcast_S_S4096 main_cst_5
  let main_v34 : IVec S4096 1 := cmpf .ole main_v32 main_v33
  let main_v35 : IVec S4096 1 := andi main_v31 main_v34
  let main_c_6 : IVec S_ 1 := constantI S_ 1 1#1
  let main_v36 : IVec S_ 1 := (fun x v => Host.reduce IntOp.andi x v reducesTo_S4096_S_d0 h_S_) main_v35 main_c_6
  main_v36

def fn {F : FTy → Type} [FloatOps F] (main_arg0 : FVec F S4x64x256x256 .f32) (main_arg1 : FVec F S4096x5 .f32) (main_arg2 : FVec F S128x64x3x3 .f32) (main_arg3 : FVec F S128 .f32) (main_arg4 : FVec F S128x128x3x3 .f32) (main_arg5 : FVec F S128 .f32) (main_arg6 : FVec F S6272x256 .f32) (main_arg7 : FVec F S256 .f32) (main_arg8 : FVec F S256x1 .f32) (main_arg9 : FVec F S1 .f32) : IVec S_ 1 :=
  let main_v0 : FVec F S4096x1 .f32 := (extractStridedSlice S4096x1 ![0, 0] · slices_S4096x5_S4096x1_0_0) main_arg1
  let main_v1 : FVec F S4096 .f32 := shapeCast S4096 main_v0 shapeCasts_S4096x1_S4096
  let main_v2 : IVec S4096 32 := fptosi 32 main_v1
  let main_v3 : FVec F S4096x1 .f32 := (extractStridedSlice S4096x1 ![0, 1] · slices_S4096x5_S4096x1_0_1) main_arg1
  let main_v4 : FVec F S4096 .f32 := shapeCast S4096 main_v3 shapeCasts_S4096x1_S4096
  let main_v5 : FVec F S4096x1 .f32 := (extractStridedSlice S4096x1 ![0, 2] · slices_S4096x5_S4096x1_0_2) main_arg1
  let main_v6 : FVec F S4096 .f32 := shapeCast S4096 main_v5 shapeCasts_S4096x1_S4096
  let main_v7 : FVec F S4096x1 .f32 := (extractStridedSlice S4096x1 ![0, 3] · slices_S4096x5_S4096x1_0_3) main_arg1
  let main_v8 : FVec F S4096 .f32 := shapeCast S4096 main_v7 shapeCasts_S4096x1_S4096
  let main_v9 : FVec F S4096x1 .f32 := (extractStridedSlice S4096x1 ![0, 4] · slices_S4096x5_S4096x1_0_4) main_arg1
  let main_v10 : FVec F S4096 .f32 := shapeCast S4096 main_v9 shapeCasts_S4096x1_S4096
  let main_c : IVec S_ 32 := constantI S_ 32 0#32
  let main_v11 : IVec S4096 32 := broadcastInDim S4096 ![] bcast_S_S4096 main_c
  let main_v12 : IVec S4096 1 := cmpi .sge main_v2 main_v11
  let main_c_0 : IVec S_ 32 := constantI S_ 32 3#32
  let main_v13 : IVec S4096 32 := broadcastInDim S4096 ![] bcast_S_S4096 main_c_0
  let main_v14 : IVec S4096 1 := cmpi .sle main_v2 main_v13
  let main_v15 : IVec S4096 1 := andi main_v12 main_v14
  let main_cst : FVec F S_ .f32 := constant S_ .f32 0x00000000#32
  let main_v16 : FVec F S4096 .f32 := broadcastInDim S4096 ![] bcast_S_S4096 main_cst
  let main_v17 : IVec S4096 1 := cmpf .oge main_v4 main_v16
  let main_v18 : IVec S4096 1 := andi main_v15 main_v17
  let main_cst_1 : FVec F S_ .f32 := constant S_ .f32 0x43710000#32
  let main_v19 : FVec F S4096 .f32 := broadcastInDim S4096 ![] bcast_S_S4096 main_cst_1
  fn_part1 (F := F) main_v4 main_v6 main_v8 main_v10 main_v18 main_v19
-- ==== Kernel.lean ====
abbrev S4x64x256x256 : Shape := ⟨4, ![4, 64, 256, 256]⟩
abbrev S4096x5 : Shape := ⟨2, ![4096, 5]⟩
abbrev S128x64x3x3 : Shape := ⟨4, ![128, 64, 3, 3]⟩
abbrev S128 : Shape := ⟨1, ![128]⟩
abbrev S128x128x3x3 : Shape := ⟨4, ![128, 128, 3, 3]⟩
abbrev S6272x256 : Shape := ⟨2, ![6272, 256]⟩
abbrev S256 : Shape := ⟨1, ![256]⟩
abbrev S256x1 : Shape := ⟨2, ![256, 1]⟩
abbrev S1 : Shape := ⟨1, ![1]⟩
abbrev S4x256x256x64 : Shape := ⟨4, ![4, 256, 256, 64]⟩
abbrev S4096x1 : Shape := ⟨2, ![4096, 1]⟩
abbrev S4096 : Shape := ⟨1, ![4096]⟩
abbrev S_ : Shape := ⟨0, ![]⟩
abbrev S4096x8 : Shape := ⟨2, ![4096, 8]⟩
abbrev S3x3x64x128 : Shape := ⟨4, ![3, 3, 64, 128]⟩
abbrev S576x128 : Shape := ⟨2, ![576, 128]⟩
abbrev S3x3x128x128 : Shape := ⟨4, ![3, 3, 128, 128]⟩
abbrev S1152x128 : Shape := ⟨2, ![1152, 128]⟩
abbrev S128x7x7x256 : Shape := ⟨4, ![128, 7, 7, 256]⟩
abbrev S7x7x128x256 : Shape := ⟨4, ![7, 7, 128, 256]⟩
abbrev S256x127 : Shape := ⟨2, ![256, 127]⟩
abbrev S256x128 : Shape := ⟨2, ![256, 128]⟩
abbrev S127 : Shape := ⟨1, ![127]⟩
abbrev S1x128 : Shape := ⟨2, ![1, 128]⟩
abbrev S1x256 : Shape := ⟨2, ![1, 256]⟩
abbrev S64x8 : Shape := ⟨2, ![64, 8]⟩
abbrev S64x1 : Shape := ⟨2, ![64, 1]⟩
abbrev S64x16x16x64 : Shape := ⟨4, ![64, 16, 16, 64]⟩
abbrev S64 : Shape := ⟨1, ![64]⟩
abbrev S1x16x16x64 : Shape := ⟨4, ![1, 16, 16, 64]⟩
abbrev S16x16x64 : Shape := ⟨3, ![16, 16, 64]⟩
abbrev S64x14 : Shape := ⟨2, ![64, 14]⟩
abbrev S64x14x1 : Shape := ⟨3, ![64, 14, 1]⟩
abbrev S64x14x16 : Shape := ⟨3, ![64, 14, 16]⟩
abbrev S64x7x2x16 : Shape := ⟨4, ![64, 7, 2, 16]⟩
abbrev S64x7x16 : Shape := ⟨3, ![64, 7, 16]⟩
abbrev S64x7x1 : Shape := ⟨3, ![64, 7, 1]⟩
abbrev S64x7 : Shape := ⟨2, ![64, 7]⟩
abbrev S64x7x1x1 : Shape := ⟨4, ![64, 7, 1, 1]⟩
abbrev S64x1x16x64 : Shape := ⟨4, ![64, 1, 16, 64]⟩
abbrev S64x16x64 : Shape := ⟨3, ![64, 16, 64]⟩
abbrev S64x7x16x64 : Shape := ⟨4, ![64, 7, 16, 64]⟩
abbrev S64x7x1x64 : Shape := ⟨4, ![64, 7, 1, 64]⟩
abbrev S64x7x64 : Shape := ⟨3, ![64, 7, 64]⟩
abbrev S64x1x7x64 : Shape := ⟨4, ![64, 1, 7, 64]⟩
abbrev S64x7x7x64 : Shape := ⟨4, ![64, 7, 7, 64]⟩
abbrev S64x8x7x64 : Shape := ⟨4, ![64, 8, 7, 64]⟩
abbrev S64x9x7x64 : Shape := ⟨4, ![64, 9, 7, 64]⟩
abbrev S64x9x1x64 : Shape := ⟨4, ![64, 9, 1, 64]⟩
abbrev S64x9x8x64 : Shape := ⟨4, ![64, 9, 8, 64]⟩
abbrev S64x9x9x64 : Shape := ⟨4, ![64, 9, 9, 64]⟩
abbrev S64x7x7x576 : Shape := ⟨4, ![64, 7, 7, 576]⟩
abbrev S3136x576 : Shape := ⟨2, ![3136, 576]⟩
abbrev S3136x128 : Shape := ⟨2, ![3136, 128]⟩
abbrev S64x7x7x128 : Shape := ⟨4, ![64, 7, 7, 128]⟩
abbrev S64x1x7x128 : Shape := ⟨4, ![64, 1, 7, 128]⟩
abbrev S64x8x7x128 : Shape := ⟨4, ![64, 8, 7, 128]⟩
abbrev S64x9x7x128 : Shape := ⟨4, ![64, 9, 7, 128]⟩
abbrev S64x9x1x128 : Shape := ⟨4, ![64, 9, 1, 128]⟩
abbrev S64x9x8x128 : Shape := ⟨4, ![64, 9, 8, 128]⟩
abbrev S64x9x9x128 : Shape := ⟨4, ![64, 9, 9, 128]⟩
abbrev S128x128 : Shape := ⟨2, ![128, 128]⟩
abbrev S64x6272 : Shape := ⟨2, ![64, 6272]⟩
abbrev S64x256 : Shape := ⟨2, ![64, 256]⟩
abbrev S64x128 : Shape := ⟨2, ![64, 128]⟩

abbrev nBuf : Space → Nat
  | .hbm => 86
  | .vmem => 13
  | .smem => 3
  | _ => 0

abbrev bufTy : (tb : Table) → Fin (tcTables nBuf tb) → BufTy
  | .hbm, ⟨0, _⟩ => ⟨S4x64x256x256, .f32⟩
  | .hbm, ⟨1, _⟩ => ⟨S4096x5, .f32⟩
  | .hbm, ⟨2, _⟩ => ⟨S128x64x3x3, .f32⟩
  | .hbm, ⟨3, _⟩ => ⟨S128, .f32⟩
  | .hbm, ⟨4, _⟩ => ⟨S128x128x3x3, .f32⟩
  | .hbm, ⟨5, _⟩ => ⟨S128, .f32⟩
  | .hbm, ⟨6, _⟩ => ⟨S6272x256, .f32⟩
  | .hbm, ⟨7, _⟩ => ⟨S256, .f32⟩
  | .hbm, ⟨8, _⟩ => ⟨S256x1, .f32⟩
  | .hbm, ⟨9, _⟩ => ⟨S1, .f32⟩
  | .hbm, ⟨10, _⟩ => ⟨S4x256x256x64, .f32⟩
  | .hbm, ⟨11, _⟩ => ⟨S4096x1, .f32⟩
  | .hbm, ⟨12, _⟩ => ⟨S4096, .f32⟩
  | .hbm, ⟨13, _⟩ => ⟨S4096x1, .f32⟩
  | .hbm, ⟨14, _⟩ => ⟨S4096, .f32⟩
  | .hbm, ⟨15, _⟩ => ⟨S4096x1, .f32⟩
  | .hbm, ⟨16, _⟩ => ⟨S4096, .f32⟩
  | .hbm, ⟨17, _⟩ => ⟨S4096x1, .f32⟩
  | .hbm, ⟨18, _⟩ => ⟨S4096, .f32⟩
  | .hbm, ⟨19, _⟩ => ⟨S4096, .f32⟩
  | .hbm, ⟨20, _⟩ => ⟨S_, .f32⟩
  | .hbm, ⟨21, _⟩ => ⟨S4096, .f32⟩
  | .hbm, ⟨22, _⟩ => ⟨S4096, .f32⟩
  | .hbm, ⟨23, _⟩ => ⟨S_, .f32⟩
  | .hbm, ⟨24, _⟩ => ⟨S4096, .f32⟩
  | .hbm, ⟨25, _⟩ => ⟨S4096, .f32⟩
  | .hbm, ⟨26, _⟩ => ⟨S4096x1, .f32⟩
  | .hbm, ⟨27, _⟩ => ⟨S4096, .f32⟩
  | .hbm, ⟨28, _⟩ => ⟨S4096, .f32⟩
  | .hbm, ⟨29, _⟩ => ⟨S_, .f32⟩
  | .hbm, ⟨30, _⟩ => ⟨S4096, .f32⟩
  | .hbm, ⟨31, _⟩ => ⟨S4096, .f32⟩
  | .hbm, ⟨32, _⟩ => ⟨S_, .f32⟩
  | .hbm, ⟨33, _⟩ => ⟨S4096, .f32⟩
  | .hbm, ⟨34, _⟩ => ⟨S4096, .f32⟩
  | .hbm, ⟨35, _⟩ => ⟨S4096, .f32⟩
  | .hbm, ⟨36, _⟩ => ⟨S4096, .i32⟩
  | .hbm, ⟨37, _⟩ => ⟨S_, .i32⟩
  | .hbm, ⟨38, _⟩ => ⟨S_, .i32⟩
  | .hbm, ⟨39, _⟩ => ⟨S_, .i32⟩
  | .hbm, ⟨40, _⟩ => ⟨S4096, .i32⟩
  | .hbm, ⟨41, _⟩ => ⟨S4096, .i32⟩
  | .hbm, ⟨42, _⟩ => ⟨S_, .i32⟩
  | .hbm, ⟨43, _⟩ => ⟨S4096, .i32⟩
  | .hbm, ⟨44, _⟩ => ⟨S4096, .f32⟩
  | .hbm, ⟨45, _⟩ => ⟨S4096, .i32⟩
  | .hbm, ⟨46, _⟩ => ⟨S_, .i32⟩
  | .hbm, ⟨47, _⟩ => ⟨S_, .i32⟩
  | .hbm, ⟨48, _⟩ => ⟨S_, .i32⟩
  | .hbm, ⟨49, _⟩ => ⟨S4096, .i32⟩
  | .hbm, ⟨50, _⟩ => ⟨S4096, .i32⟩
  | .hbm, ⟨51, _⟩ => ⟨S_, .i32⟩
  | .hbm, ⟨52, _⟩ => ⟨S4096, .i32⟩
  | .hbm, ⟨53, _⟩ => ⟨S_, .f32⟩
  | .hbm, ⟨54, _⟩ => ⟨S4096, .f32⟩
  | .hbm, ⟨55, _⟩ => ⟨S4096, .f32⟩
  | .hbm, ⟨56, _⟩ => ⟨S4096, .f32⟩
  | .hbm, ⟨57, _⟩ => ⟨S4096, .f32⟩
  | .hbm, ⟨58, _⟩ => ⟨S4096, .f32⟩
  | .hbm, ⟨59, _⟩ => ⟨S4096x1, .f32⟩
  | .hbm, ⟨60, _⟩ => ⟨S4096x1, .f32⟩
  | .hbm, ⟨61, _⟩ => ⟨S4096x1, .f32⟩
  | .hbm, ⟨62, _⟩ => ⟨S4096x1, .f32⟩
  | .hbm, ⟨63, _⟩ => ⟨S4096x1, .f32⟩
  | .hbm, ⟨64, _⟩ => ⟨S4096x1, .f32⟩
  | .hbm, ⟨65, _⟩ => ⟨S4096x1, .f32⟩
  | .hbm, ⟨66, _⟩ => ⟨S4096x1, .f32⟩
  | .hbm, ⟨67, _⟩ => ⟨S4096x8, .f32⟩
  | .hbm, ⟨68, _⟩ => ⟨S3x3x64x128, .f32⟩
  | .hbm, ⟨69, _⟩ => ⟨S576x128, .f32⟩
  | .hbm, ⟨70, _⟩ => ⟨S3x3x128x128, .f32⟩
  | .hbm, ⟨71, _⟩ => ⟨S1152x128, .f32⟩
  | .hbm, ⟨72, _⟩ => ⟨S128x7x7x256, .f32⟩
  | .hbm, ⟨73, _⟩ => ⟨S7x7x128x256, .f32⟩
  | .hbm, ⟨74, _⟩ => ⟨S6272x256, .f32⟩
  | .hbm, ⟨75, _⟩ => ⟨S_, .f32⟩
  | .hbm, ⟨76, _⟩ => ⟨S256x127, .f32⟩
  | .hbm, ⟨77, _⟩ => ⟨S256x128, .f32⟩
  | .hbm, ⟨78, _⟩ => ⟨S_, .f32⟩
  | .hbm, ⟨79, _⟩ => ⟨S127, .f32⟩
  | .hbm, ⟨80, _⟩ => ⟨S128, .f32⟩
  | .hbm, ⟨81, _⟩ => ⟨S1x128, .f32⟩
  | .hbm, ⟨82, _⟩ => ⟨S1x128, .f32⟩
  | .hbm, ⟨83, _⟩ => ⟨S1x128, .f32⟩
  | .hbm, ⟨84, _⟩ => ⟨S1x256, .f32⟩
  | .hbm, ⟨85, _⟩ => ⟨S4096x1, .f32⟩
  | .local _ .vmem, ⟨0, _⟩ => ⟨S64x8, .f32⟩
  | .local _ .vmem, ⟨1, _⟩ => ⟨S64x8, .f32⟩
  | .local _ .vmem, ⟨2, _⟩ => ⟨S576x128, .f32⟩
  | .local _ .vmem, ⟨3, _⟩ => ⟨S1x128, .f32⟩
  | .local _ .vmem, ⟨4, _⟩ => ⟨S1152x128, .f32⟩
  | .local _ .vmem, ⟨5, _⟩ => ⟨S1x128, .f32⟩
  | .local _ .vmem, ⟨6, _⟩ => ⟨S6272x256, .f32⟩
  | .local _ .vmem, ⟨7, _⟩ => ⟨S1x256, .f32⟩
  | .local _ .vmem, ⟨8, _⟩ => ⟨S256x128, .f32⟩
  | .local _ .vmem, ⟨9, _⟩ => ⟨S1x128, .f32⟩
  | .local _ .vmem, ⟨10, _⟩ => ⟨S64x1, .f32⟩
  | .local _ .vmem, ⟨11, _⟩ => ⟨S64x1, .f32⟩
  | .local _ .vmem, ⟨12, _⟩ => ⟨S64x16x16x64, .f32⟩
  | .local _ .smem, ⟨0, _⟩ => ⟨S4096, .i32⟩
  | .local _ .smem, ⟨1, _⟩ => ⟨S4096, .i32⟩
  | .local _ .smem, ⟨2, _⟩ => ⟨S4096, .i32⟩
  | _, _ => ⟨S4x64x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 76 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | _ => false

abbrev sig : RefSig :=
  ofTc nBuf bufTy 0 76 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_cst_0 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_1 : Ref sig .tc := ⟨.hbm, 29, rfl⟩
abbrev main_v18 : Ref sig .tc := ⟨.hbm, 30, rfl⟩
abbrev main_v19 : Ref sig .tc := ⟨.hbm, 31, rfl⟩
abbrev main_cst_2 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c : Ref sig .tc := ⟨.hbm, 37, rfl⟩
abbrev main_c_3 : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_call0_v3 : Ref sig .tc := ⟨.hbm, 42, rfl⟩
abbrev main_call0_v4 : Ref sig .tc := ⟨.hbm, 43, rfl⟩
abbrev main_v25 : Ref sig .tc := ⟨.hbm, 44, rfl⟩
abbrev main_v26 : Ref sig .tc := ⟨.hbm, 45, rfl⟩
abbrev main_c_4 : Ref sig .tc := ⟨.hbm, 46, rfl⟩
abbrev main_c_5 : Ref sig .tc := ⟨.hbm, 47, rfl⟩
abbrev main_call1_v0 : Ref sig .tc := ⟨.hbm, 48, rfl⟩
abbrev main_call1_v1 : Ref sig .tc := ⟨.hbm, 49, rfl⟩
abbrev main_call1_v2 : Ref sig .tc := ⟨.hbm, 50, rfl⟩
abbrev main_call1_v3 : Ref sig .tc := ⟨.hbm, 51, rfl⟩
abbrev main_call1_v4 : Ref sig .tc := ⟨.hbm, 52, rfl⟩
abbrev main_cst_6 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_cst_7 : Ref sig .tc := ⟨.hbm, 75, rfl⟩
abbrev main_v49 : Ref sig .tc := ⟨.hbm, 76, rfl⟩
abbrev main_v50 : Ref sig .tc := ⟨.hbm, 77, rfl⟩
abbrev main_cst_8 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v3 : Ref sig .tc := ⟨.smem, 0, rfl⟩
abbrev main_v24 : Ref sig .tc := ⟨.smem, 1, rfl⟩
abbrev main_v27 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![64], ![false]⟩

abbrev pre0 : Pipeline.Prefetch sig := ⟨3, ![main_v3.idx, main_v24.idx, main_v27.idx], fun | 0 => main_v3.names | 1 => main_v24.names | 2 => main_v27.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let c64_i32 : BitVec 32 := 64#32
  let v0 : BitVec 32 := Scalar.muli arg0 c64_i32
  let c0_i32 : BitVec 32 := 0#32
  let v1 : BitVec 32 := Scalar.addi v0 c0_i32
  let v2 : Index := Scalar.indexCast v1
  ![v2.toNat]
def k0_off2 (v3 : BitVec 32) (v5 : BitVec 32) (v7 : BitVec 32) : Fin 4 → Nat :=
  let c0_i32_5 : BitVec 32 := 0#32
  ![v3.toNat, v5.toNat, v7.toNat, 0]

def k0_off3 (i : grid0.Coords) : Fin 1 → Nat :=
  let arg0 : BitVec 32 := BitVec.ofNat 32 (i 0).val
  let c64_i32_6 : BitVec 32 := 64#32
  let v14 : BitVec 32 := Scalar.muli arg0 c64_i32_6
  let c1_i32 : BitVec 32 := 1#32
  let v15 : BitVec 32 := Scalar.addi v14 c1_i32
  let v16 : Index := Scalar.indexCast v15
  ![v16.toNat]
def k0_off4 (v17 : BitVec 32) (v19 : BitVec 32) (v21 : BitVec 32) : Fin 4 → Nat :=
  let c0_i32_12 : BitVec 32 := 0#32
  ![v17.toNat, v19.toNat, v21.toNat, 0]

def k0_off5 (i : grid0.Coords) : Fin 1 → Nat :=
  let arg0 : BitVec 32 := BitVec.ofNat 32 (i 0).val
  let c64_i32_13 : BitVec 32 := 64#32
  let v28 : BitVec 32 := Scalar.muli arg0 c64_i32_13
  let c2_i32 : BitVec 32 := 2#32
  let v29 : BitVec 32 := Scalar.addi v28 c2_i32
  let v30 : Index := Scalar.indexCast v29
  ![v30.toNat]
def k0_off6 (v31 : BitVec 32) (v33 : BitVec 32) (v35 : BitVec 32) : Fin 4 → Nat :=
  let c0_i32_19 : BitVec 32 := 0#32
  ![v31.toNat, v33.toNat, v35.toNat, 0]

def k0_off7 (i : grid0.Coords) : Fin 1 → Nat :=
  let arg0 : BitVec 32 := BitVec.ofNat 32 (i 0).val
  let c64_i32_20 : BitVec 32 := 64#32
  let v42 : BitVec 32 := Scalar.muli arg0 c64_i32_20
  let c3_i32 : BitVec 32 := 3#32
  let v43 : BitVec 32 := Scalar.addi v42 c3_i32
  let v44 : Index := Scalar.indexCast v43
  ![v44.toNat]
def k0_off8 (v45 : BitVec 32) (v47 : BitVec 32) (v49 : BitVec 32) : Fin 4 → Nat :=
  let c0_i32_26 : BitVec 32 := 0#32
  ![v45.toNat, v47.toNat, v49.toNat, 0]

def k0_off9 (i : grid0.Coords) : Fin 1 → Nat :=
  let arg0 : BitVec 32 := BitVec.ofNat 32 (i 0).val
  let c64_i32_27 : BitVec 32 := 64#32
  let v56 : BitVec 32 := Scalar.muli arg0 c64_i32_27
  let c4_i32 : BitVec 32 := 4#32
  let v57 : BitVec 32 := Scalar.addi v56 c4_i32
  let v58 : Index := Scalar.indexCast v57
  ![v58.toNat]
def k0_off10 (v59 : BitVec 32) (v61 : BitVec 32) (v63 : BitVec 32) : Fin 4 → Nat :=
  let c0_i32_33 : BitVec 32 := 0#32
  ![v59.toNat, v61.toNat, v63.toNat, 0]

def k0_off11 (i : grid0.Coords) : Fin 1 → Nat :=
  let arg0 : BitVec 32 := BitVec.ofNat 32 (i 0).val
  let c64_i32_34 : BitVec 32 := 64#32
  let v70 : BitVec 32 := Scalar.muli arg0 c64_i32_34
  let c5_i32 : BitVec 32 := 5#32
  let v71 : BitVec 32 := Scalar.addi v70 c5_i32
  let v72 : Index := Scalar.indexCast v71
  ![v72.toNat]
def k0_off12 (v73 : BitVec 32) (v75 : BitVec 32) (v77 : BitVec 32) : Fin 4 → Nat :=
  let c0_i32_40 : BitVec 32 := 0#32
  ![v73.toNat, v75.toNat, v77.toNat, 0]

def k0_off13 (i : grid0.Coords) : Fin 1 → Nat :=
  let arg0 : BitVec 32 := BitVec.ofNat 32 (i 0).val
  let c64_i32_41 : BitVec 32 := 64#32
  let v84 : BitVec 32 := Scalar.muli arg0 c64_i32_41
  let c6_i32 : BitVec 32 := 6#32
  let v85 : BitVec 32 := Scalar.addi v84 c6_i32
  let v86 : Index := Scalar.indexCast v85
  ![v86.toNat]
def k0_off14 (v87 : BitVec 32) (v89 : BitVec 32) (v91 : BitVec 32) : Fin 4 → Nat :=
  let c0_i32_47 : BitVec 32 := 0#32
  ![v87.toNat, v89.toNat, v91.toNat, 0]

def k0_off15 (i : grid0.Coords) : Fin 1 → Nat :=
  let arg0 : BitVec 32 := BitVec.ofNat 32 (i 0).val
  let c64_i32_48 : BitVec 32 := 64#32
  let v98 : BitVec 32 := Scalar.muli arg0 c64_i32_48
  let c7_i32 : BitVec 32 := 7#32
  let v99 : BitVec 32 := Scalar.addi v98 c7_i32
  let v100 : Index := Scalar.indexCast v99
  ![v100.toNat]
def k0_off16 (v101 : BitVec 32) (v103 : BitVec 32) (v105 : BitVec 32) : Fin 4 → Nat :=
  let c0_i32_54 : BitVec 32 := 0#32
  ![v101.toNat, v103.toNat, v105.toNat, 0]

def k0_off17 (i : grid0.Coords) : Fin 1 → Nat :=
  let arg0 : BitVec 32 := BitVec.ofNat 32 (i 0).val
  let c64_i32_55 : BitVec 32 := 64#32
  let v112 : BitVec 32 := Scalar.muli arg0 c64_i32_55
  let c8_i32 : BitVec 32 := 8#32
  let v113 : BitVec 32 := Scalar.addi v112 c8_i32
  let v114 : Index := Scalar.indexCast v113
  ![v114.toNat]
def k0_off18 (v115 : BitVec 32) (v117 : BitVec 32) (v119 : BitVec 32) : Fin 4 → Nat :=
  let c0_i32_61 : BitVec 32 := 0#32
  ![v115.toNat, v117.toNat, v119.toNat, 0]

def k0_off19 (i : grid0.Coords) : Fin 1 → Nat :=
  let arg0 : BitVec 32 := BitVec.ofNat 32 (i 0).val
  let c64_i32_62 : BitVec 32 := 64#32
  let v126 : BitVec 32 := Scalar.muli arg0 c64_i32_62
  let c9_i32 : BitVec 32 := 9#32
  let v127 : BitVec 32 := Scalar.addi v126 c9_i32
  let v128 : Index := Scalar.indexCast v127
  ![v128.toNat]
def k0_off20 (v129 : BitVec 32) (v131 : BitVec 32) (v133 : BitVec 32) : Fin 4 → Nat :=
  let c0_i32_68 : BitVec 32 := 0#32
  ![v129.toNat, v131.toNat, v133.toNat, 0]

def k0_off21 (i : grid0.Coords) : Fin 1 → Nat :=
  let arg0 : BitVec 32 := BitVec.ofNat 32 (i 0).val
  let c64_i32_69 : BitVec 32 := 64#32
  let v140 : BitVec 32 := Scalar.muli arg0 c64_i32_69
  let c10_i32 : BitVec 32 := 10#32
  let v141 : BitVec 32 := Scalar.addi v140 c10_i32
  let v142 : Index := Scalar.indexCast v141
  ![v142.toNat]
def k0_off22 (v143 : BitVec 32) (v145 : BitVec 32) (v147 : BitVec 32) : Fin 4 → Nat :=
  let c0_i32_75 : BitVec 32 := 0#32
  ![v143.toNat, v145.toNat, v147.toNat, 0]

def k0_off23 (i : grid0.Coords) : Fin 1 → Nat :=
  let arg0 : BitVec 32 := BitVec.ofNat 32 (i 0).val
  let c64_i32_76 : BitVec 32 := 64#32
  let v154 : BitVec 32 := Scalar.muli arg0 c64_i32_76
  let c11_i32 : BitVec 32 := 11#32
  let v155 : BitVec 32 := Scalar.addi v154 c11_i32
  let v156 : Index := Scalar.indexCast v155
  ![v156.toNat]
def k0_off24 (v157 : BitVec 32) (v159 : BitVec 32) (v161 : BitVec 32) : Fin 4 → Nat :=
  let c0_i32_82 : BitVec 32 := 0#32
  ![v157.toNat, v159.toNat, v161.toNat, 0]

def k0_off25 (i : grid0.Coords) : Fin 1 → Nat :=
  let arg0 : BitVec 32 := BitVec.ofNat 32 (i 0).val
  let c64_i32_83 : BitVec 32 := 64#32
  let v168 : BitVec 32 := Scalar.muli arg0 c64_i32_83
  let c12_i32 : BitVec 32 := 12#32
  let v169 : BitVec 32 := Scalar.addi v168 c12_i32
  let v170 : Index := Scalar.indexCast v169
  ![v170.toNat]
def k0_off26 (v171 : BitVec 32) (v173 : BitVec 32) (v175 : BitVec 32) : Fin 4 → Nat :=
  let c0_i32_89 : BitVec 32 := 0#32
  ![v171.toNat, v173.toNat, v175.toNat, 0]

def k0_off27 (i : grid0.Coords) : Fin 1 → Nat :=
  let arg0 : BitVec 32 := BitVec.ofNat 32 (i 0).val
  let c64_i32_90 : BitVec 32 := 64#32
  let v182 : BitVec 32 := Scalar.muli arg0 c64_i32_90
  let c13_i32 : BitVec 32 := 13#32
  let v183 : BitVec 32 := Scalar.addi v182 c13_i32
  let v184 : Index := Scalar.indexCast v183
  ![v184.toNat]
def k0_off28 (v185 : BitVec 32) (v187 : BitVec 32) (v189 : BitVec 32) : Fin 4 → Nat :=
  let c0_i32_96 : BitVec 32 := 0#32
  ![v185.toNat, v187.toNat, v189.toNat, 0]

def k0_off29 (i : grid0.Coords) : Fin 1 → Nat :=
  let arg0 : BitVec 32 := BitVec.ofNat 32 (i 0).val
  let c64_i32_97 : BitVec 32 := 64#32
  let v196 : BitVec 32 := Scalar.muli arg0 c64_i32_97
  let c14_i32 : BitVec 32 := 14#32
  let v197 : BitVec 32 := Scalar.addi v196 c14_i32
  let v198 : Index := Scalar.indexCast v197
  ![v198.toNat]
def k0_off30 (v199 : BitVec 32) (v201 : BitVec 32) (v203 : BitVec 32) : Fin 4 → Nat :=
  let c0_i32_103 : BitVec 32 := 0#32
  ![v199.toNat, v201.toNat, v203.toNat, 0]

def k0_off31 (i : grid0.Coords) : Fin 1 → Nat :=
  let arg0 : BitVec 32 := BitVec.ofNat 32 (i 0).val
  let c64_i32_104 : BitVec 32 := 64#32
  let v210 : BitVec 32 := Scalar.muli arg0 c64_i32_104
  let c15_i32 : BitVec 32 := 15#32
  let v211 : BitVec 32 := Scalar.addi v210 c15_i32
  let v212 : Index := Scalar.indexCast v211
  ![v212.toNat]
def k0_off32 (v213 : BitVec 32) (v215 : BitVec 32) (v217 : BitVec 32) : Fin 4 → Nat :=
  let c0_i32_110 : BitVec 32 := 0#32
  ![v213.toNat, v215.toNat, v217.toNat, 0]

def k0_off33 (i : grid0.Coords) : Fin 1 → Nat :=
  let arg0 : BitVec 32 := BitVec.ofNat 32 (i 0).val
  let c64_i32_111 : BitVec 32 := 64#32
  let v224 : BitVec 32 := Scalar.muli arg0 c64_i32_111
  let c16_i32 : BitVec 32 := 16#32
  let v225 : BitVec 32 := Scalar.addi v224 c16_i32
  let v226 : Index := Scalar.indexCast v225
  ![v226.toNat]
def k0_off34 (v227 : BitVec 32) (v229 : BitVec 32) (v231 : BitVec 32) : Fin 4 → Nat :=
  let c0_i32_117 : BitVec 32 := 0#32
  ![v227.toNat, v229.toNat, v231.toNat, 0]

def k0_off35 (i : grid0.Coords) : Fin 1 → Nat :=
  let arg0 : BitVec 32 := BitVec.ofNat 32 (i 0).val
  let c64_i32_118 : BitVec 32 := 64#32
  let v238 : BitVec 32 := Scalar.muli arg0 c64_i32_118
  let c17_i32 : BitVec 32 := 17#32
  let v239 : BitVec 32 := Scalar.addi v238 c17_i32
  let v240 : Index := Scalar.indexCast v239
  ![v240.toNat]
def k0_off36 (v241 : BitVec 32) (v243 : BitVec 32) (v245 : BitVec 32) : Fin 4 → Nat :=
  let c0_i32_124 : BitVec 32 := 0#32
  ![v241.toNat, v243.toNat, v245.toNat, 0]

def k0_off37 (i : grid0.Coords) : Fin 1 → Nat :=
  let arg0 : BitVec 32 := BitVec.ofNat 32 (i 0).val
  let c64_i32_125 : BitVec 32 := 64#32
  let v252 : BitVec 32 := Scalar.muli arg0 c64_i32_125
  let c18_i32 : BitVec 32 := 18#32
  let v253 : BitVec 32 := Scalar.addi v252 c18_i32
  let v254 : Index := Scalar.indexCast v253
  ![v254.toNat]
def k0_off38 (v255 : BitVec 32) (v257 : BitVec 32) (v259 : BitVec 32) : Fin 4 → Nat :=
  let c0_i32_131 : BitVec 32 := 0#32
  ![v255.toNat, v257.toNat, v259.toNat, 0]

def k0_off39 (i : grid0.Coords) : Fin 1 → Nat :=
  let arg0 : BitVec 32 := BitVec.ofNat 32 (i 0).val
  let c64_i32_132 : BitVec 32 := 64#32
  let v266 : BitVec 32 := Scalar.muli arg0 c64_i32_132
  let c19_i32 : BitVec 32 := 19#32
  let v267 : BitVec 32 := Scalar.addi v266 c19_i32
  let v268 : Index := Scalar.indexCast v267
  ![v268.toNat]
def k0_off40 (v269 : BitVec 32) (v271 : BitVec 32) (v273 : BitVec 32) : Fin 4 → Nat :=
  let c0_i32_138 : BitVec 32 := 0#32
  ![v269.toNat, v271.toNat, v273.toNat, 0]

def k0_off41 (i : grid0.Coords) : Fin 1 → Nat :=
  let arg0 : BitVec 32 := BitVec.ofNat 32 (i 0).val
  let c64_i32_139 : BitVec 32 := 64#32
  let v280 : BitVec 32 := Scalar.muli arg0 c64_i32_139
  let c20_i32 : BitVec 32 := 20#32
  let v281 : BitVec 32 := Scalar.addi v280 c20_i32
  let v282 : Index := Scalar.indexCast v281
  ![v282.toNat]
def k0_off42 (v283 : BitVec 32) (v285 : BitVec 32) (v287 : BitVec 32) : Fin 4 → Nat :=
  let c0_i32_145 : BitVec 32 := 0#32
  ![v283.toNat, v285.toNat, v287.toNat, 0]

def k0_off43 (i : grid0.Coords) : Fin 1 → Nat :=
  let arg0 : BitVec 32 := BitVec.ofNat 32 (i 0).val
  let c64_i32_146 : BitVec 32 := 64#32
  let v294 : BitVec 32 := Scalar.muli arg0 c64_i32_146
  let c21_i32 : BitVec 32 := 21#32
  let v295 : BitVec 32 := Scalar.addi v294 c21_i32
  let v296 : Index := Scalar.indexCast v295
  ![v296.toNat]
def k0_off44 (v297 : BitVec 32) (v299 : BitVec 32) (v301 : BitVec 32) : Fin 4 → Nat :=
  let c0_i32_152 : BitVec 32 := 0#32
  ![v297.toNat, v299.toNat, v301.toNat, 0]

def k0_off45 (i : grid0.Coords) : Fin 1 → Nat :=
  let arg0 : BitVec 32 := BitVec.ofNat 32 (i 0).val
  let c64_i32_153 : BitVec 32 := 64#32
  let v308 : BitVec 32 := Scalar.muli arg0 c64_i32_153
  let c22_i32 : BitVec 32 := 22#32
  let v309 : BitVec 32 := Scalar.addi v308 c22_i32
  let v310 : Index := Scalar.indexCast v309
  ![v310.toNat]
def k0_off46 (v311 : BitVec 32) (v313 : BitVec 32) (v315 : BitVec 32) : Fin 4 → Nat :=
  let c0_i32_159 : BitVec 32 := 0#32
  ![v311.toNat, v313.toNat, v315.toNat, 0]

def k0_off47 (i : grid0.Coords) : Fin 1 → Nat :=
  let arg0 : BitVec 32 := BitVec.ofNat 32 (i 0).val
  let c64_i32_160 : BitVec 32 := 64#32
  let v322 : BitVec 32 := Scalar.muli arg0 c64_i32_160
  let c23_i32 : BitVec 32 := 23#32
  let v323 : BitVec 32 := Scalar.addi v322 c23_i32
  let v324 : Index := Scalar.indexCast v323
  ![v324.toNat]
def k0_off48 (v325 : BitVec 32) (v327 : BitVec 32) (v329 : BitVec 32) : Fin 4 → Nat :=
  let c0_i32_166 : BitVec 32 := 0#32
  ![v325.toNat, v327.toNat, v329.toNat, 0]

def k0_off49 (i : grid0.Coords) : Fin 1 → Nat :=
  let arg0 : BitVec 32 := BitVec.ofNat 32 (i 0).val
  let c64_i32_167 : BitVec 32 := 64#32
  let v336 : BitVec 32 := Scalar.muli arg0 c64_i32_167
  let c24_i32 : BitVec 32 := 24#32
  let v337 : BitVec 32 := Scalar.addi v336 c24_i32
  let v338 : Index := Scalar.indexCast v337
  ![v338.toNat]
def k0_off50 (v339 : BitVec 32) (v341 : BitVec 32) (v343 : BitVec 32) : Fin 4 → Nat :=
  let c0_i32_173 : BitVec 32 := 0#32
  ![v339.toNat, v341.toNat, v343.toNat, 0]

def k0_off51 (i : grid0.Coords) : Fin 1 → Nat :=
  let arg0 : BitVec 32 := BitVec.ofNat 32 (i 0).val
  let c64_i32_174 : BitVec 32 := 64#32
  let v350 : BitVec 32 := Scalar.muli arg0 c64_i32_174
  let c25_i32 : BitVec 32 := 25#32
  let v351 : BitVec 32 := Scalar.addi v350 c25_i32
  let v352 : Index := Scalar.indexCast v351
  ![v352.toNat]
def k0_off52 (v353 : BitVec 32) (v355 : BitVec 32) (v357 : BitVec 32) : Fin 4 → Nat :=
  let c0_i32_180 : BitVec 32 := 0#32
  ![v353.toNat, v355.toNat, v357.toNat, 0]

def k0_off53 (i : grid0.Coords) : Fin 1 → Nat :=
  let arg0 : BitVec 32 := BitVec.ofNat 32 (i 0).val
  let c64_i32_181 : BitVec 32 := 64#32
  let v364 : BitVec 32 := Scalar.muli arg0 c64_i32_181
  let c26_i32 : BitVec 32 := 26#32
  let v365 : BitVec 32 := Scalar.addi v364 c26_i32
  let v366 : Index := Scalar.indexCast v365
  ![v366.toNat]
def k0_off54 (v367 : BitVec 32) (v369 : BitVec 32) (v371 : BitVec 32) : Fin 4 → Nat :=
  let c0_i32_187 : BitVec 32 := 0#32
  ![v367.toNat, v369.toNat, v371.toNat, 0]

def k0_off55 (i : grid0.Coords) : Fin 1 → Nat :=
  let arg0 : BitVec 32 := BitVec.ofNat 32 (i 0).val
  let c64_i32_188 : BitVec 32 := 64#32
  let v378 : BitVec 32 := Scalar.muli arg0 c64_i32_188
  let c27_i32 : BitVec 32 := 27#32
  let v379 : BitVec 32 := Scalar.addi v378 c27_i32
  let v380 : Index := Scalar.indexCast v379
  ![v380.toNat]
def k0_off56 (v381 : BitVec 32) (v383 : BitVec 32) (v385 : BitVec 32) : Fin 4 → Nat :=
  let c0_i32_194 : BitVec 32 := 0#32
  ![v381.toNat, v383.toNat, v385.toNat, 0]

def k0_off57 (i : grid0.Coords) : Fin 1 → Nat :=
  let arg0 : BitVec 32 := BitVec.ofNat 32 (i 0).val
  let c64_i32_195 : BitVec 32 := 64#32
  let v392 : BitVec 32 := Scalar.muli arg0 c64_i32_195
  let c28_i32 : BitVec 32 := 28#32
  let v393 : BitVec 32 := Scalar.addi v392 c28_i32
  let v394 : Index := Scalar.indexCast v393
  ![v394.toNat]
def k0_off58 (v395 : BitVec 32) (v397 : BitVec 32) (v399 : BitVec 32) : Fin 4 → Nat :=
  let c0_i32_201 : BitVec 32 := 0#32
  ![v395.toNat, v397.toNat, v399.toNat, 0]

def k0_off59 (i : grid0.Coords) : Fin 1 → Nat :=
  let arg0 : BitVec 32 := BitVec.ofNat 32 (i 0).val
  let c64_i32_202 : BitVec 32 := 64#32
  let v406 : BitVec 32 := Scalar.muli arg0 c64_i32_202
  let c29_i32 : BitVec 32 := 29#32
  let v407 : BitVec 32 := Scalar.addi v406 c29_i32
  let v408 : Index := Scalar.indexCast v407
  ![v408.toNat]
def k0_off60 (v409 : BitVec 32) (v411 : BitVec 32) (v413 : BitVec 32) : Fin 4 → Nat :=
  let c0_i32_208 : BitVec 32 := 0#32
  ![v409.toNat, v411.toNat, v413.toNat, 0]

def k0_off61 (i : grid0.Coords) : Fin 1 → Nat :=
  let arg0 : BitVec 32 := BitVec.ofNat 32 (i 0).val
  let c64_i32_209 : BitVec 32 := 64#32
  let v420 : BitVec 32 := Scalar.muli arg0 c64_i32_209
  let c30_i32 : BitVec 32 := 30#32
  let v421 : BitVec 32 := Scalar.addi v420 c30_i32
  let v422 : Index := Scalar.indexCast v421
  ![v422.toNat]
def k0_off62 (v423 : BitVec 32) (v425 : BitVec 32) (v427 : BitVec 32) : Fin 4 → Nat :=
  let c0_i32_215 : BitVec 32 := 0#32
  ![v423.toNat, v425.toNat, v427.toNat, 0]

def k0_off63 (i : grid0.Coords) : Fin 1 → Nat :=
  let arg0 : BitVec 32 := BitVec.ofNat 32 (i 0).val
  let c64_i32_216 : BitVec 32 := 64#32
  let v434 : BitVec 32 := Scalar.muli arg0 c64_i32_216
  let c31_i32 : BitVec 32 := 31#32
  let v435 : BitVec 32 := Scalar.addi v434 c31_i32
  let v436 : Index := Scalar.indexCast v435
  ![v436.toNat]
def k0_off64 (v437 : BitVec 32) (v439 : BitVec 32) (v441 : BitVec 32) : Fin 4 → Nat :=
  let c0_i32_222 : BitVec 32 := 0#32
  ![v437.toNat, v439.toNat, v441.toNat, 0]

def k0_off65 (i : grid0.Coords) : Fin 1 → Nat :=
  let arg0 : BitVec 32 := BitVec.ofNat 32 (i 0).val
  let c64_i32_223 : BitVec 32 := 64#32
  let v448 : BitVec 32 := Scalar.muli arg0 c64_i32_223
  let c32_i32 : BitVec 32 := 32#32
  let v449 : BitVec 32 := Scalar.addi v448 c32_i32
  let v450 : Index := Scalar.indexCast v449
  ![v450.toNat]
def k0_off66 (v451 : BitVec 32) (v453 : BitVec 32) (v455 : BitVec 32) : Fin 4 → Nat :=
  let c0_i32_229 : BitVec 32 := 0#32
  ![v451.toNat, v453.toNat, v455.toNat, 0]

def k0_off67 (i : grid0.Coords) : Fin 1 → Nat :=
  let arg0 : BitVec 32 := BitVec.ofNat 32 (i 0).val
  let c64_i32_230 : BitVec 32 := 64#32
  let v462 : BitVec 32 := Scalar.muli arg0 c64_i32_230
  let c33_i32 : BitVec 32 := 33#32
  let v463 : BitVec 32 := Scalar.addi v462 c33_i32
  let v464 : Index := Scalar.indexCast v463
  ![v464.toNat]
def k0_off68 (v465 : BitVec 32) (v467 : BitVec 32) (v469 : BitVec 32) : Fin 4 → Nat :=
  let c0_i32_236 : BitVec 32 := 0#32
  ![v465.toNat, v467.toNat, v469.toNat, 0]

def k0_off69 (i : grid0.Coords) : Fin 1 → Nat :=
  let arg0 : BitVec 32 := BitVec.ofNat 32 (i 0).val
  let c64_i32_237 : BitVec 32 := 64#32
  let v476 : BitVec 32 := Scalar.muli arg0 c64_i32_237
  let c34_i32 : BitVec 32 := 34#32
  let v477 : BitVec 32 := Scalar.addi v476 c34_i32
  let v478 : Index := Scalar.indexCast v477
  ![v478.toNat]
def k0_off70 (v479 : BitVec 32) (v481 : BitVec 32) (v483 : BitVec 32) : Fin 4 → Nat :=
  let c0_i32_243 : BitVec 32 := 0#32
  ![v479.toNat, v481.toNat, v483.toNat, 0]

def k0_off71 (i : grid0.Coords) : Fin 1 → Nat :=
  let arg0 : BitVec 32 := BitVec.ofNat 32 (i 0).val
  let c64_i32_244 : BitVec 32 := 64#32
  let v490 : BitVec 32 := Scalar.muli arg0 c64_i32_244
  let c35_i32 : BitVec 32 := 35#32
  let v491 : BitVec 32 := Scalar.addi v490 c35_i32
  let v492 : Index := Scalar.indexCast v491
  ![v492.toNat]
def k0_off72 (v493 : BitVec 32) (v495 : BitVec 32) (v497 : BitVec 32) : Fin 4 → Nat :=
  let c0_i32_250 : BitVec 32 := 0#32
  ![v493.toNat, v495.toNat, v497.toNat, 0]

def k0_off73 (i : grid0.Coords) : Fin 1 → Nat :=
  let arg0 : BitVec 32 := BitVec.ofNat 32 (i 0).val
  let c64_i32_251 : BitVec 32 := 64#32
  let v504 : BitVec 32 := Scalar.muli arg0 c64_i32_251
  let c36_i32 : BitVec 32 := 36#32
  let v505 : BitVec 32 := Scalar.addi v504 c36_i32
  let v506 : Index := Scalar.indexCast v505
  ![v506.toNat]
def k0_off74 (v507 : BitVec 32) (v509 : BitVec 32) (v511 : BitVec 32) : Fin 4 → Nat :=
  let c0_i32_257 : BitVec 32 := 0#32
  ![v507.toNat, v509.toNat, v511.toNat, 0]

def k0_off75 (i : grid0.Coords) : Fin 1 → Nat :=
  let arg0 : BitVec 32 := BitVec.ofNat 32 (i 0).val
  let c64_i32_258 : BitVec 32 := 64#32
  let v518 : BitVec 32 := Scalar.muli arg0 c64_i32_258
  let c37_i32 : BitVec 32 := 37#32
  let v519 : BitVec 32 := Scalar.addi v518 c37_i32
  let v520 : Index := Scalar.indexCast v519
  ![v520.toNat]
def k0_off76 (v521 : BitVec 32) (v523 : BitVec 32) (v525 : BitVec 32) : Fin 4 → Nat :=
  let c0_i32_264 : BitVec 32 := 0#32
  ![v521.toNat, v523.toNat, v525.toNat, 0]

def k0_off77 (i : grid0.Coords) : Fin 1 → Nat :=
  let arg0 : BitVec 32 := BitVec.ofNat 32 (i 0).val
  let c64_i32_265 : BitVec 32 := 64#32
  let v532 : BitVec 32 := Scalar.muli arg0 c64_i32_265
  let c38_i32 : BitVec 32 := 38#32
  let v533 : BitVec 32 := Scalar.addi v532 c38_i32
  let v534 : Index := Scalar.indexCast v533
  ![v534.toNat]
def k0_off78 (v535 : BitVec 32) (v537 : BitVec 32) (v539 : BitVec 32) : Fin 4 → Nat :=
  let c0_i32_271 : BitVec 32 := 0#32
  ![v535.toNat, v537.toNat, v539.toNat, 0]

def k0_off79 (i : grid0.Coords) : Fin 1 → Nat :=
  let arg0 : BitVec 32 := BitVec.ofNat 32 (i 0).val
  let c64_i32_272 : BitVec 32 := 64#32
  let v546 : BitVec 32 := Scalar.muli arg0 c64_i32_272
  let c39_i32 : BitVec 32 := 39#32
  let v547 : BitVec 32 := Scalar.addi v546 c39_i32
  let v548 : Index := Scalar.indexCast v547
  ![v548.toNat]
def k0_off80 (v549 : BitVec 32) (v551 : BitVec 32) (v553 : BitVec 32) : Fin 4 → Nat :=
  let c0_i32_278 : BitVec 32 := 0#32
  ![v549.toNat, v551.toNat, v553.toNat, 0]

def k0_off81 (i : grid0.Coords) : Fin 1 → Nat :=
  let arg0 : BitVec 32 := BitVec.ofNat 32 (i 0).val
  let c64_i32_279 : BitVec 32 := 64#32
  let v560 : BitVec 32 := Scalar.muli arg0 c64_i32_279
  let c40_i32 : BitVec 32 := 40#32
  let v561 : BitVec 32 := Scalar.addi v560 c40_i32
  let v562 : Index := Scalar.indexCast v561
  ![v562.toNat]
def k0_off82 (v563 : BitVec 32) (v565 : BitVec 32) (v567 : BitVec 32) : Fin 4 → Nat :=
  let c0_i32_285 : BitVec 32 := 0#32
  ![v563.toNat, v565.toNat, v567.toNat, 0]

def k0_off83 (i : grid0.Coords) : Fin 1 → Nat :=
  let arg0 : BitVec 32 := BitVec.ofNat 32 (i 0).val
  let c64_i32_286 : BitVec 32 := 64#32
  let v574 : BitVec 32 := Scalar.muli arg0 c64_i32_286
  let c41_i32 : BitVec 32 := 41#32
  let v575 : BitVec 32 := Scalar.addi v574 c41_i32
  let v576 : Index := Scalar.indexCast v575
  ![v576.toNat]
def k0_off84 (v577 : BitVec 32) (v579 : BitVec 32) (v581 : BitVec 32) : Fin 4 → Nat :=
  let c0_i32_292 : BitVec 32 := 0#32
  ![v577.toNat, v579.toNat, v581.toNat, 0]

def k0_off85 (i : grid0.Coords) : Fin 1 → Nat :=
  let arg0 : BitVec 32 := BitVec.ofNat 32 (i 0).val
  let c64_i32_293 : BitVec 32 := 64#32
  let v588 : BitVec 32 := Scalar.muli arg0 c64_i32_293
  let c42_i32 : BitVec 32 := 42#32
  let v589 : BitVec 32 := Scalar.addi v588 c42_i32
  let v590 : Index := Scalar.indexCast v589
  ![v590.toNat]
def k0_off86 (v591 : BitVec 32) (v593 : BitVec 32) (v595 : BitVec 32) : Fin 4 → Nat :=
  let c0_i32_299 : BitVec 32 := 0#32
  ![v591.toNat, v593.toNat, v595.toNat, 0]

def k0_off87 (i : grid0.Coords) : Fin 1 → Nat :=
  let arg0 : BitVec 32 := BitVec.ofNat 32 (i 0).val
  let c64_i32_300 : BitVec 32 := 64#32
  let v602 : BitVec 32 := Scalar.muli arg0 c64_i32_300
  let c43_i32 : BitVec 32 := 43#32
  let v603 : BitVec 32 := Scalar.addi v602 c43_i32
  let v604 : Index := Scalar.indexCast v603
  ![v604.toNat]
def k0_off88 (v605 : BitVec 32) (v607 : BitVec 32) (v609 : BitVec 32) : Fin 4 → Nat :=
  let c0_i32_306 : BitVec 32 := 0#32
  ![v605.toNat, v607.toNat, v609.toNat, 0]

def k0_off89 (i : grid0.Coords) : Fin 1 → Nat :=
  let arg0 : BitVec 32 := BitVec.ofNat 32 (i 0).val
  let c64_i32_307 : BitVec 32 := 64#32
  let v616 : BitVec 32 := Scalar.muli arg0 c64_i32_307
  let c44_i32 : BitVec 32 := 44#32
  let v617 : BitVec 32 := Scalar.addi v616 c44_i32
  let v618 : Index := Scalar.indexCast v617
  ![v618.toNat]
def k0_off90 (v619 : BitVec 32) (v621 : BitVec 32) (v623 : BitVec 32) : Fin 4 → Nat :=
  let c0_i32_313 : BitVec 32 := 0#32
  ![v619.toNat, v621.toNat, v623.toNat, 0]

def k0_off91 (i : grid0.Coords) : Fin 1 → Nat :=
  let arg0 : BitVec 32 := BitVec.ofNat 32 (i 0).val
  let c64_i32_314 : BitVec 32 := 64#32
  let v630 : BitVec 32 := Scalar.muli arg0 c64_i32_314
  let c45_i32 : BitVec 32 := 45#32
  let v631 : BitVec 32 := Scalar.addi v630 c45_i32
  let v632 : Index := Scalar.indexCast v631
  ![v632.toNat]
def k0_off92 (v633 : BitVec 32) (v635 : BitVec 32) (v637 : BitVec 32) : Fin 4 → Nat :=
  let c0_i32_320 : BitVec 32 := 0#32
  ![v633.toNat, v635.toNat, v637.toNat, 0]

def k0_off93 (i : grid0.Coords) : Fin 1 → Nat :=
  let arg0 : BitVec 32 := BitVec.ofNat 32 (i 0).val
  let c64_i32_321 : BitVec 32 := 64#32
  let v644 : BitVec 32 := Scalar.muli arg0 c64_i32_321
  let c46_i32 : BitVec 32 := 46#32
  let v645 : BitVec 32 := Scalar.addi v644 c46_i32
  let v646 : Index := Scalar.indexCast v645
  ![v646.toNat]
def k0_off94 (v647 : BitVec 32) (v649 : BitVec 32) (v651 : BitVec 32) : Fin 4 → Nat :=
  let c0_i32_327 : BitVec 32 := 0#32
  ![v647.toNat, v649.toNat, v651.toNat, 0]

def k0_off95 (i : grid0.Coords) : Fin 1 → Nat :=
  let arg0 : BitVec 32 := BitVec.ofNat 32 (i 0).val
  let c64_i32_328 : BitVec 32 := 64#32
  let v658 : BitVec 32 := Scalar.muli arg0 c64_i32_328
  let c47_i32 : BitVec 32 := 47#32
  let v659 : BitVec 32 := Scalar.addi v658 c47_i32
  let v660 : Index := Scalar.indexCast v659
  ![v660.toNat]
def k0_off96 (v661 : BitVec 32) (v663 : BitVec 32) (v665 : BitVec 32) : Fin 4 → Nat :=
  let c0_i32_334 : BitVec 32 := 0#32
  ![v661.toNat, v663.toNat, v665.toNat, 0]

def k0_off97 (i : grid0.Coords) : Fin 1 → Nat :=
  let arg0 : BitVec 32 := BitVec.ofNat 32 (i 0).val
  let c64_i32_335 : BitVec 32 := 64#32
  let v672 : BitVec 32 := Scalar.muli arg0 c64_i32_335
  let c48_i32 : BitVec 32 := 48#32
  let v673 : BitVec 32 := Scalar.addi v672 c48_i32
  let v674 : Index := Scalar.indexCast v673
  ![v674.toNat]
def k0_off98 (v675 : BitVec 32) (v677 : BitVec 32) (v679 : BitVec 32) : Fin 4 → Nat :=
  let c0_i32_341 : BitVec 32 := 0#32
  ![v675.toNat, v677.toNat, v679.toNat, 0]

def k0_off99 (i : grid0.Coords) : Fin 1 → Nat :=
  let arg0 : BitVec 32 := BitVec.ofNat 32 (i 0).val
  let c64_i32_342 : BitVec 32 := 64#32
  let v686 : BitVec 32 := Scalar.muli arg0 c64_i32_342
  let c49_i32 : BitVec 32 := 49#32
  let v687 : BitVec 32 := Scalar.addi v686 c49_i32
  let v688 : Index := Scalar.indexCast v687
  ![v688.toNat]
def k0_off100 (v689 : BitVec 32) (v691 : BitVec 32) (v693 : BitVec 32) : Fin 4 → Nat :=
  let c0_i32_348 : BitVec 32 := 0#32
  ![v689.toNat, v691.toNat, v693.toNat, 0]

def k0_off101 (i : grid0.Coords) : Fin 1 → Nat :=
  let arg0 : BitVec 32 := BitVec.ofNat 32 (i 0).val
  let c64_i32_349 : BitVec 32 := 64#32
  let v700 : BitVec 32 := Scalar.muli arg0 c64_i32_349
  let c50_i32 : BitVec 32 := 50#32
  let v701 : BitVec 32 := Scalar.addi v700 c50_i32
  let v702 : Index := Scalar.indexCast v701
  ![v702.toNat]
def k0_off102 (v703 : BitVec 32) (v705 : BitVec 32) (v707 : BitVec 32) : Fin 4 → Nat :=
  let c0_i32_355 : BitVec 32 := 0#32
  ![v703.toNat, v705.toNat, v707.toNat, 0]

def k0_off103 (i : grid0.Coords) : Fin 1 → Nat :=
  let arg0 : BitVec 32 := BitVec.ofNat 32 (i 0).val
  let c64_i32_356 : BitVec 32 := 64#32
  let v714 : BitVec 32 := Scalar.muli arg0 c64_i32_356
  let c51_i32 : BitVec 32 := 51#32
  let v715 : BitVec 32 := Scalar.addi v714 c51_i32
  let v716 : Index := Scalar.indexCast v715
  ![v716.toNat]
def k0_off104 (v717 : BitVec 32) (v719 : BitVec 32) (v721 : BitVec 32) : Fin 4 → Nat :=
  let c0_i32_362 : BitVec 32 := 0#32
  ![v717.toNat, v719.toNat, v721.toNat, 0]

def k0_off105 (i : grid0.Coords) : Fin 1 → Nat :=
  let arg0 : BitVec 32 := BitVec.ofNat 32 (i 0).val
  let c64_i32_363 : BitVec 32 := 64#32
  let v728 : BitVec 32 := Scalar.muli arg0 c64_i32_363
  let c52_i32 : BitVec 32 := 52#32
  let v729 : BitVec 32 := Scalar.addi v728 c52_i32
  let v730 : Index := Scalar.indexCast v729
  ![v730.toNat]
def k0_off106 (v731 : BitVec 32) (v733 : BitVec 32) (v735 : BitVec 32) : Fin 4 → Nat :=
  let c0_i32_369 : BitVec 32 := 0#32
  ![v731.toNat, v733.toNat, v735.toNat, 0]

def k0_off107 (i : grid0.Coords) : Fin 1 → Nat :=
  let arg0 : BitVec 32 := BitVec.ofNat 32 (i 0).val
  let c64_i32_370 : BitVec 32 := 64#32
  let v742 : BitVec 32 := Scalar.muli arg0 c64_i32_370
  let c53_i32 : BitVec 32 := 53#32
  let v743 : BitVec 32 := Scalar.addi v742 c53_i32
  let v744 : Index := Scalar.indexCast v743
  ![v744.toNat]
def k0_off108 (v745 : BitVec 32) (v747 : BitVec 32) (v749 : BitVec 32) : Fin 4 → Nat :=
  let c0_i32_376 : BitVec 32 := 0#32
  ![v745.toNat, v747.toNat, v749.toNat, 0]

def k0_off109 (i : grid0.Coords) : Fin 1 → Nat :=
  let arg0 : BitVec 32 := BitVec.ofNat 32 (i 0).val
  let c64_i32_377 : BitVec 32 := 64#32
  let v756 : BitVec 32 := Scalar.muli arg0 c64_i32_377
  let c54_i32 : BitVec 32 := 54#32
  let v757 : BitVec 32 := Scalar.addi v756 c54_i32
  let v758 : Index := Scalar.indexCast v757
  ![v758.toNat]
def k0_off110 (v759 : BitVec 32) (v761 : BitVec 32) (v763 : BitVec 32) : Fin 4 → Nat :=
  let c0_i32_383 : BitVec 32 := 0#32
  ![v759.toNat, v761.toNat, v763.toNat, 0]

def k0_off111 (i : grid0.Coords) : Fin 1 → Nat :=
  let arg0 : BitVec 32 := BitVec.ofNat 32 (i 0).val
  let c64_i32_384 : BitVec 32 := 64#32
  let v770 : BitVec 32 := Scalar.muli arg0 c64_i32_384
  let c55_i32 : BitVec 32 := 55#32
  let v771 : BitVec 32 := Scalar.addi v770 c55_i32
  let v772 : Index := Scalar.indexCast v771
  ![v772.toNat]
def k0_off112 (v773 : BitVec 32) (v775 : BitVec 32) (v777 : BitVec 32) : Fin 4 → Nat :=
  let c0_i32_390 : BitVec 32 := 0#32
  ![v773.toNat, v775.toNat, v777.toNat, 0]

def k0_off113 (i : grid0.Coords) : Fin 1 → Nat :=
  let arg0 : BitVec 32 := BitVec.ofNat 32 (i 0).val
  let c64_i32_391 : BitVec 32 := 64#32
  let v784 : BitVec 32 := Scalar.muli arg0 c64_i32_391
  let c56_i32 : BitVec 32 := 56#32
  let v785 : BitVec 32 := Scalar.addi v784 c56_i32
  let v786 : Index := Scalar.indexCast v785
  ![v786.toNat]
def k0_off114 (v787 : BitVec 32) (v789 : BitVec 32) (v791 : BitVec 32) : Fin 4 → Nat :=
  let c0_i32_397 : BitVec 32 := 0#32
  ![v787.toNat, v789.toNat, v791.toNat, 0]

def k0_off115 (i : grid0.Coords) : Fin 1 → Nat :=
  let arg0 : BitVec 32 := BitVec.ofNat 32 (i 0).val
  let c64_i32_398 : BitVec 32 := 64#32
  let v798 : BitVec 32 := Scalar.muli arg0 c64_i32_398
  let c57_i32 : BitVec 32 := 57#32
  let v799 : BitVec 32 := Scalar.addi v798 c57_i32
  let v800 : Index := Scalar.indexCast v799
  ![v800.toNat]
def k0_off116 (v801 : BitVec 32) (v803 : BitVec 32) (v805 : BitVec 32) : Fin 4 → Nat :=
  let c0_i32_404 : BitVec 32 := 0#32
  ![v801.toNat, v803.toNat, v805.toNat, 0]

def k0_off117 (i : grid0.Coords) : Fin 1 → Nat :=
  let arg0 : BitVec 32 := BitVec.ofNat 32 (i 0).val
  let c64_i32_405 : BitVec 32 := 64#32
  let v812 : BitVec 32 := Scalar.muli arg0 c64_i32_405
  let c58_i32 : BitVec 32 := 58#32
  let v813 : BitVec 32 := Scalar.addi v812 c58_i32
  let v814 : Index := Scalar.indexCast v813
  ![v814.toNat]
def k0_off118 (v815 : BitVec 32) (v817 : BitVec 32) (v819 : BitVec 32) : Fin 4 → Nat :=
  let c0_i32_411 : BitVec 32 := 0#32
  ![v815.toNat, v817.toNat, v819.toNat, 0]

def k0_off119 (i : grid0.Coords) : Fin 1 → Nat :=
  let arg0 : BitVec 32 := BitVec.ofNat 32 (i 0).val
  let c64_i32_412 : BitVec 32 := 64#32
  let v826 : BitVec 32 := Scalar.muli arg0 c64_i32_412
  let c59_i32 : BitVec 32 := 59#32
  let v827 : BitVec 32 := Scalar.addi v826 c59_i32
  let v828 : Index := Scalar.indexCast v827
  ![v828.toNat]
def k0_off120 (v829 : BitVec 32) (v831 : BitVec 32) (v833 : BitVec 32) : Fin 4 → Nat :=
  let c0_i32_418 : BitVec 32 := 0#32
  ![v829.toNat, v831.toNat, v833.toNat, 0]

def k0_off121 (i : grid0.Coords) : Fin 1 → Nat :=
  let arg0 : BitVec 32 := BitVec.ofNat 32 (i 0).val
  let c64_i32_419 : BitVec 32 := 64#32
  let v840 : BitVec 32 := Scalar.muli arg0 c64_i32_419
  let c60_i32 : BitVec 32 := 60#32
  let v841 : BitVec 32 := Scalar.addi v840 c60_i32
  let v842 : Index := Scalar.indexCast v841
  ![v842.toNat]
def k0_off122 (v843 : BitVec 32) (v845 : BitVec 32) (v847 : BitVec 32) : Fin 4 → Nat :=
  let c0_i32_425 : BitVec 32 := 0#32
  ![v843.toNat, v845.toNat, v847.toNat, 0]

def k0_off123 (i : grid0.Coords) : Fin 1 → Nat :=
  let arg0 : BitVec 32 := BitVec.ofNat 32 (i 0).val
  let c64_i32_426 : BitVec 32 := 64#32
  let v854 : BitVec 32 := Scalar.muli arg0 c64_i32_426
  let c61_i32 : BitVec 32 := 61#32
  let v855 : BitVec 32 := Scalar.addi v854 c61_i32
  let v856 : Index := Scalar.indexCast v855
  ![v856.toNat]
def k0_off124 (v857 : BitVec 32) (v859 : BitVec 32) (v861 : BitVec 32) : Fin 4 → Nat :=
  let c0_i32_432 : BitVec 32 := 0#32
  ![v857.toNat, v859.toNat, v861.toNat, 0]

def k0_off125 (i : grid0.Coords) : Fin 1 → Nat :=
  let arg0 : BitVec 32 := BitVec.ofNat 32 (i 0).val
  let c64_i32_433 : BitVec 32 := 64#32
  let v868 : BitVec 32 := Scalar.muli arg0 c64_i32_433
  let c62_i32 : BitVec 32 := 62#32
  let v869 : BitVec 32 := Scalar.addi v868 c62_i32
  let v870 : Index := Scalar.indexCast v869
  ![v870.toNat]
def k0_off126 (v871 : BitVec 32) (v873 : BitVec 32) (v875 : BitVec 32) : Fin 4 → Nat :=
  let c0_i32_439 : BitVec 32 := 0#32
  ![v871.toNat, v873.toNat, v875.toNat, 0]

def k0_off127 (i : grid0.Coords) : Fin 1 → Nat :=
  let arg0 : BitVec 32 := BitVec.ofNat 32 (i 0).val
  let c64_i32_440 : BitVec 32 := 64#32
  let v882 : BitVec 32 := Scalar.muli arg0 c64_i32_440
  let c63_i32 : BitVec 32 := 63#32
  let v883 : BitVec 32 := Scalar.addi v882 c63_i32
  let v884 : Index := Scalar.indexCast v883
  ![v884.toNat]
def k0_off128 (v885 : BitVec 32) (v887 : BitVec 32) (v889 : BitVec 32) : Fin 4 → Nat :=
  let c0_i32_446 : BitVec 32 := 0#32
  ![v885.toNat, v887.toNat, v889.toNat, 0]

def k0_chk64 (v885 : BitVec 32) (v887 : BitVec 32) (v889 : BitVec 32) : Prop :=
  (∀ a, (k0_off128 v885 v887 v889) a + S1x16x16x64.size a ≤ S4x256x256x64.size a)
theorem k0_off128_inb : ∀ (v885 : BitVec 32) (v887 : BitVec 32) (v889 : BitVec 32) (k0_hw64 : k0_chk64 v885 v887 v889), ∀ a, (k0_off128 v885 v887 v889) a + S1x16x16x64.size a ≤ S4x256x256x64.size a := fun v885 v887 v889 k0_hw64 => k0_hw64

def k0_off129 (v3 : BitVec 32) (v5 : BitVec 32) (v7 : BitVec 32) : Fin 4 → Nat :=
  let c0_i32_452 : BitVec 32 := 0#32
  ![v3.toNat, v5.toNat, v7.toNat, 0]

def k0_chk1 (v3 : BitVec 32) (v5 : BitVec 32) (v7 : BitVec 32) : Prop :=
  (∀ a, (k0_off2 v3 v5 v7) a + S1x16x16x64.size a ≤ S4x256x256x64.size a) ∧
  (∀ a, (k0_off129 v3 v5 v7) a + S1x16x16x64.size a ≤ S4x256x256x64.size a)
theorem k0_off2_inb : ∀ (v3 : BitVec 32) (v5 : BitVec 32) (v7 : BitVec 32) (k0_hw1 : k0_chk1 v3 v5 v7), ∀ a, (k0_off2 v3 v5 v7) a + S1x16x16x64.size a ≤ S4x256x256x64.size a := fun v3 v5 v7 k0_hw1 => k0_hw1.1
theorem k0_off129_inb : ∀ (v3 : BitVec 32) (v5 : BitVec 32) (v7 : BitVec 32) (k0_hw1 : k0_chk1 v3 v5 v7), ∀ a, (k0_off129 v3 v5 v7) a + S1x16x16x64.size a ≤ S4x256x256x64.size a := fun v3 v5 v7 k0_hw1 => k0_hw1.2

def k0_off130 (v17 : BitVec 32) (v19 : BitVec 32) (v21 : BitVec 32) : Fin 4 → Nat :=
  let c0_i32_458 : BitVec 32 := 0#32
  ![v17.toNat, v19.toNat, v21.toNat, 0]

def k0_chk2 (v17 : BitVec 32) (v19 : BitVec 32) (v21 : BitVec 32) : Prop :=
  (∀ a, (k0_off4 v17 v19 v21) a + S1x16x16x64.size a ≤ S4x256x256x64.size a) ∧
  (∀ a, (k0_off130 v17 v19 v21) a + S1x16x16x64.size a ≤ S4x256x256x64.size a)
theorem k0_off4_inb : ∀ (v17 : BitVec 32) (v19 : BitVec 32) (v21 : BitVec 32) (k0_hw2 : k0_chk2 v17 v19 v21), ∀ a, (k0_off4 v17 v19 v21) a + S1x16x16x64.size a ≤ S4x256x256x64.size a := fun v17 v19 v21 k0_hw2 => k0_hw2.1
theorem k0_off130_inb : ∀ (v17 : BitVec 32) (v19 : BitVec 32) (v21 : BitVec 32) (k0_hw2 : k0_chk2 v17 v19 v21), ∀ a, (k0_off130 v17 v19 v21) a + S1x16x16x64.size a ≤ S4x256x256x64.size a := fun v17 v19 v21 k0_hw2 => k0_hw2.2

def k0_off131 (v31 : BitVec 32) (v33 : BitVec 32) (v35 : BitVec 32) : Fin 4 → Nat :=
  let c0_i32_464 : BitVec 32 := 0#32
  ![v31.toNat, v33.toNat, v35.toNat, 0]

def k0_chk3 (v31 : BitVec 32) (v33 : BitVec 32) (v35 : BitVec 32) : Prop :=
  (∀ a, (k0_off6 v31 v33 v35) a + S1x16x16x64.size a ≤ S4x256x256x64.size a) ∧
  (∀ a, (k0_off131 v31 v33 v35) a + S1x16x16x64.size a ≤ S4x256x256x64.size a)
theorem k0_off6_inb : ∀ (v31 : BitVec 32) (v33 : BitVec 32) (v35 : BitVec 32) (k0_hw3 : k0_chk3 v31 v33 v35), ∀ a, (k0_off6 v31 v33 v35) a + S1x16x16x64.size a ≤ S4x256x256x64.size a := fun v31 v33 v35 k0_hw3 => k0_hw3.1
theorem k0_off131_inb : ∀ (v31 : BitVec 32) (v33 : BitVec 32) (v35 : BitVec 32) (k0_hw3 : k0_chk3 v31 v33 v35), ∀ a, (k0_off131 v31 v33 v35) a + S1x16x16x64.size a ≤ S4x256x256x64.size a := fun v31 v33 v35 k0_hw3 => k0_hw3.2

def k0_off132 (v45 : BitVec 32) (v47 : BitVec 32) (v49 : BitVec 32) : Fin 4 → Nat :=
  let c0_i32_470 : BitVec 32 := 0#32
  ![v45.toNat, v47.toNat, v49.toNat, 0]

def k0_chk4 (v45 : BitVec 32) (v47 : BitVec 32) (v49 : BitVec 32) : Prop :=
  (∀ a, (k0_off8 v45 v47 v49) a + S1x16x16x64.size a ≤ S4x256x256x64.size a) ∧
  (∀ a, (k0_off132 v45 v47 v49) a + S1x16x16x64.size a ≤ S4x256x256x64.size a)
theorem k0_off8_inb : ∀ (v45 : BitVec 32) (v47 : BitVec 32) (v49 : BitVec 32) (k0_hw4 : k0_chk4 v45 v47 v49), ∀ a, (k0_off8 v45 v47 v49) a + S1x16x16x64.size a ≤ S4x256x256x64.size a := fun v45 v47 v49 k0_hw4 => k0_hw4.1
theorem k0_off132_inb : ∀ (v45 : BitVec 32) (v47 : BitVec 32) (v49 : BitVec 32) (k0_hw4 : k0_chk4 v45 v47 v49), ∀ a, (k0_off132 v45 v47 v49) a + S1x16x16x64.size a ≤ S4x256x256x64.size a := fun v45 v47 v49 k0_hw4 => k0_hw4.2

def k0_off133 (v59 : BitVec 32) (v61 : BitVec 32) (v63 : BitVec 32) : Fin 4 → Nat :=
  let c0_i32_476 : BitVec 32 := 0#32
  ![v59.toNat, v61.toNat, v63.toNat, 0]

def k0_chk5 (v59 : BitVec 32) (v61 : BitVec 32) (v63 : BitVec 32) : Prop :=
  (∀ a, (k0_off10 v59 v61 v63) a + S1x16x16x64.size a ≤ S4x256x256x64.size a) ∧
  (∀ a, (k0_off133 v59 v61 v63) a + S1x16x16x64.size a ≤ S4x256x256x64.size a)
theorem k0_off10_inb : ∀ (v59 : BitVec 32) (v61 : BitVec 32) (v63 : BitVec 32) (k0_hw5 : k0_chk5 v59 v61 v63), ∀ a, (k0_off10 v59 v61 v63) a + S1x16x16x64.size a ≤ S4x256x256x64.size a := fun v59 v61 v63 k0_hw5 => k0_hw5.1
theorem k0_off133_inb : ∀ (v59 : BitVec 32) (v61 : BitVec 32) (v63 : BitVec 32) (k0_hw5 : k0_chk5 v59 v61 v63), ∀ a, (k0_off133 v59 v61 v63) a + S1x16x16x64.size a ≤ S4x256x256x64.size a := fun v59 v61 v63 k0_hw5 => k0_hw5.2

def k0_off134 (v73 : BitVec 32) (v75 : BitVec 32) (v77 : BitVec 32) : Fin 4 → Nat :=
  let c0_i32_482 : BitVec 32 := 0#32
  ![v73.toNat, v75.toNat, v77.toNat, 0]

def k0_chk6 (v73 : BitVec 32) (v75 : BitVec 32) (v77 : BitVec 32) : Prop :=
  (∀ a, (k0_off12 v73 v75 v77) a + S1x16x16x64.size a ≤ S4x256x256x64.size a) ∧
  (∀ a, (k0_off134 v73 v75 v77) a + S1x16x16x64.size a ≤ S4x256x256x64.size a)
theorem k0_off12_inb : ∀ (v73 : BitVec 32) (v75 : BitVec 32) (v77 : BitVec 32) (k0_hw6 : k0_chk6 v73 v75 v77), ∀ a, (k0_off12 v73 v75 v77) a + S1x16x16x64.size a ≤ S4x256x256x64.size a := fun v73 v75 v77 k0_hw6 => k0_hw6.1
theorem k0_off134_inb : ∀ (v73 : BitVec 32) (v75 : BitVec 32) (v77 : BitVec 32) (k0_hw6 : k0_chk6 v73 v75 v77), ∀ a, (k0_off134 v73 v75 v77) a + S1x16x16x64.size a ≤ S4x256x256x64.size a := fun v73 v75 v77 k0_hw6 => k0_hw6.2

def k0_off135 (v87 : BitVec 32) (v89 : BitVec 32) (v91 : BitVec 32) : Fin 4 → Nat :=
  let c0_i32_488 : BitVec 32 := 0#32
  ![v87.toNat, v89.toNat, v91.toNat, 0]

def k0_chk7 (v87 : BitVec 32) (v89 : BitVec 32) (v91 : BitVec 32) : Prop :=
  (∀ a, (k0_off14 v87 v89 v91) a + S1x16x16x64.size a ≤ S4x256x256x64.size a) ∧
  (∀ a, (k0_off135 v87 v89 v91) a + S1x16x16x64.size a ≤ S4x256x256x64.size a)
theorem k0_off14_inb : ∀ (v87 : BitVec 32) (v89 : BitVec 32) (v91 : BitVec 32) (k0_hw7 : k0_chk7 v87 v89 v91), ∀ a, (k0_off14 v87 v89 v91) a + S1x16x16x64.size a ≤ S4x256x256x64.size a := fun v87 v89 v91 k0_hw7 => k0_hw7.1
theorem k0_off135_inb : ∀ (v87 : BitVec 32) (v89 : BitVec 32) (v91 : BitVec 32) (k0_hw7 : k0_chk7 v87 v89 v91), ∀ a, (k0_off135 v87 v89 v91) a + S1x16x16x64.size a ≤ S4x256x256x64.size a := fun v87 v89 v91 k0_hw7 => k0_hw7.2

def k0_off136 (v101 : BitVec 32) (v103 : BitVec 32) (v105 : BitVec 32) : Fin 4 → Nat :=
  let c0_i32_494 : BitVec 32 := 0#32
  ![v101.toNat, v103.toNat, v105.toNat, 0]

def k0_chk8 (v101 : BitVec 32) (v103 : BitVec 32) (v105 : BitVec 32) : Prop :=
  (∀ a, (k0_off16 v101 v103 v105) a + S1x16x16x64.size a ≤ S4x256x256x64.size a) ∧
  (∀ a, (k0_off136 v101 v103 v105) a + S1x16x16x64.size a ≤ S4x256x256x64.size a)
theorem k0_off16_inb : ∀ (v101 : BitVec 32) (v103 : BitVec 32) (v105 : BitVec 32) (k0_hw8 : k0_chk8 v101 v103 v105), ∀ a, (k0_off16 v101 v103 v105) a + S1x16x16x64.size a ≤ S4x256x256x64.size a := fun v101 v103 v105 k0_hw8 => k0_hw8.1
theorem k0_off136_inb : ∀ (v101 : BitVec 32) (v103 : BitVec 32) (v105 : BitVec 32) (k0_hw8 : k0_chk8 v101 v103 v105), ∀ a, (k0_off136 v101 v103 v105) a + S1x16x16x64.size a ≤ S4x256x256x64.size a := fun v101 v103 v105 k0_hw8 => k0_hw8.2

def k0_off137 (v115 : BitVec 32) (v117 : BitVec 32) (v119 : BitVec 32) : Fin 4 → Nat :=
  let c0_i32_500 : BitVec 32 := 0#32
  ![v115.toNat, v117.toNat, v119.toNat, 0]

def k0_chk9 (v115 : BitVec 32) (v117 : BitVec 32) (v119 : BitVec 32) : Prop :=
  (∀ a, (k0_off18 v115 v117 v119) a + S1x16x16x64.size a ≤ S4x256x256x64.size a) ∧
  (∀ a, (k0_off137 v115 v117 v119) a + S1x16x16x64.size a ≤ S4x256x256x64.size a)
theorem k0_off18_inb : ∀ (v115 : BitVec 32) (v117 : BitVec 32) (v119 : BitVec 32) (k0_hw9 : k0_chk9 v115 v117 v119), ∀ a, (k0_off18 v115 v117 v119) a + S1x16x16x64.size a ≤ S4x256x256x64.size a := fun v115 v117 v119 k0_hw9 => k0_hw9.1
theorem k0_off137_inb : ∀ (v115 : BitVec 32) (v117 : BitVec 32) (v119 : BitVec 32) (k0_hw9 : k0_chk9 v115 v117 v119), ∀ a, (k0_off137 v115 v117 v119) a + S1x16x16x64.size a ≤ S4x256x256x64.size a := fun v115 v117 v119 k0_hw9 => k0_hw9.2

def k0_off138 (v129 : BitVec 32) (v131 : BitVec 32) (v133 : BitVec 32) : Fin 4 → Nat :=
  let c0_i32_506 : BitVec 32 := 0#32
  ![v129.toNat, v131.toNat, v133.toNat, 0]

def k0_chk10 (v129 : BitVec 32) (v131 : BitVec 32) (v133 : BitVec 32) : Prop :=
  (∀ a, (k0_off20 v129 v131 v133) a + S1x16x16x64.size a ≤ S4x256x256x64.size a) ∧
  (∀ a, (k0_off138 v129 v131 v133) a + S1x16x16x64.size a ≤ S4x256x256x64.size a)
theorem k0_off20_inb : ∀ (v129 : BitVec 32) (v131 : BitVec 32) (v133 : BitVec 32) (k0_hw10 : k0_chk10 v129 v131 v133), ∀ a, (k0_off20 v129 v131 v133) a + S1x16x16x64.size a ≤ S4x256x256x64.size a := fun v129 v131 v133 k0_hw10 => k0_hw10.1
theorem k0_off138_inb : ∀ (v129 : BitVec 32) (v131 : BitVec 32) (v133 : BitVec 32) (k0_hw10 : k0_chk10 v129 v131 v133), ∀ a, (k0_off138 v129 v131 v133) a + S1x16x16x64.size a ≤ S4x256x256x64.size a := fun v129 v131 v133 k0_hw10 => k0_hw10.2

def k0_off139 (v143 : BitVec 32) (v145 : BitVec 32) (v147 : BitVec 32) : Fin 4 → Nat :=
  let c0_i32_512 : BitVec 32 := 0#32
  ![v143.toNat, v145.toNat, v147.toNat, 0]

def k0_chk11 (v143 : BitVec 32) (v145 : BitVec 32) (v147 : BitVec 32) : Prop :=
  (∀ a, (k0_off22 v143 v145 v147) a + S1x16x16x64.size a ≤ S4x256x256x64.size a) ∧
  (∀ a, (k0_off139 v143 v145 v147) a + S1x16x16x64.size a ≤ S4x256x256x64.size a)
theorem k0_off22_inb : ∀ (v143 : BitVec 32) (v145 : BitVec 32) (v147 : BitVec 32) (k0_hw11 : k0_chk11 v143 v145 v147), ∀ a, (k0_off22 v143 v145 v147) a + S1x16x16x64.size a ≤ S4x256x256x64.size a := fun v143 v145 v147 k0_hw11 => k0_hw11.1
theorem k0_off139_inb : ∀ (v143 : BitVec 32) (v145 : BitVec 32) (v147 : BitVec 32) (k0_hw11 : k0_chk11 v143 v145 v147), ∀ a, (k0_off139 v143 v145 v147) a + S1x16x16x64.size a ≤ S4x256x256x64.size a := fun v143 v145 v147 k0_hw11 => k0_hw11.2

def k0_off140 (v157 : BitVec 32) (v159 : BitVec 32) (v161 : BitVec 32) : Fin 4 → Nat :=
  let c0_i32_518 : BitVec 32 := 0#32
  ![v157.toNat, v159.toNat, v161.toNat, 0]

def k0_chk12 (v157 : BitVec 32) (v159 : BitVec 32) (v161 : BitVec 32) : Prop :=
  (∀ a, (k0_off24 v157 v159 v161) a + S1x16x16x64.size a ≤ S4x256x256x64.size a) ∧
  (∀ a, (k0_off140 v157 v159 v161) a + S1x16x16x64.size a ≤ S4x256x256x64.size a)
theorem k0_off24_inb : ∀ (v157 : BitVec 32) (v159 : BitVec 32) (v161 : BitVec 32) (k0_hw12 : k0_chk12 v157 v159 v161), ∀ a, (k0_off24 v157 v159 v161) a + S1x16x16x64.size a ≤ S4x256x256x64.size a := fun v157 v159 v161 k0_hw12 => k0_hw12.1
theorem k0_off140_inb : ∀ (v157 : BitVec 32) (v159 : BitVec 32) (v161 : BitVec 32) (k0_hw12 : k0_chk12 v157 v159 v161), ∀ a, (k0_off140 v157 v159 v161) a + S1x16x16x64.size a ≤ S4x256x256x64.size a := fun v157 v159 v161 k0_hw12 => k0_hw12.2

def k0_off141 (v171 : BitVec 32) (v173 : BitVec 32) (v175 : BitVec 32) : Fin 4 → Nat :=
  let c0_i32_524 : BitVec 32 := 0#32
  ![v171.toNat, v173.toNat, v175.toNat, 0]

def k0_chk13 (v171 : BitVec 32) (v173 : BitVec 32) (v175 : BitVec 32) : Prop :=
  (∀ a, (k0_off26 v171 v173 v175) a + S1x16x16x64.size a ≤ S4x256x256x64.size a) ∧
  (∀ a, (k0_off141 v171 v173 v175) a + S1x16x16x64.size a ≤ S4x256x256x64.size a)
theorem k0_off26_inb : ∀ (v171 : BitVec 32) (v173 : BitVec 32) (v175 : BitVec 32) (k0_hw13 : k0_chk13 v171 v173 v175), ∀ a, (k0_off26 v171 v173 v175) a + S1x16x16x64.size a ≤ S4x256x256x64.size a := fun v171 v173 v175 k0_hw13 => k0_hw13.1
theorem k0_off141_inb : ∀ (v171 : BitVec 32) (v173 : BitVec 32) (v175 : BitVec 32) (k0_hw13 : k0_chk13 v171 v173 v175), ∀ a, (k0_off141 v171 v173 v175) a + S1x16x16x64.size a ≤ S4x256x256x64.size a := fun v171 v173 v175 k0_hw13 => k0_hw13.2

def k0_off142 (v185 : BitVec 32) (v187 : BitVec 32) (v189 : BitVec 32) : Fin 4 → Nat :=
  let c0_i32_530 : BitVec 32 := 0#32
  ![v185.toNat, v187.toNat, v189.toNat, 0]

def k0_chk14 (v185 : BitVec 32) (v187 : BitVec 32) (v189 : BitVec 32) : Prop :=
  (∀ a, (k0_off28 v185 v187 v189) a + S1x16x16x64.size a ≤ S4x256x256x64.size a) ∧
  (∀ a, (k0_off142 v185 v187 v189) a + S1x16x16x64.size a ≤ S4x256x256x64.size a)
theorem k0_off28_inb : ∀ (v185 : BitVec 32) (v187 : BitVec 32) (v189 : BitVec 32) (k0_hw14 : k0_chk14 v185 v187 v189), ∀ a, (k0_off28 v185 v187 v189) a + S1x16x16x64.size a ≤ S4x256x256x64.size a := fun v185 v187 v189 k0_hw14 => k0_hw14.1
theorem k0_off142_inb : ∀ (v185 : BitVec 32) (v187 : BitVec 32) (v189 : BitVec 32) (k0_hw14 : k0_chk14 v185 v187 v189), ∀ a, (k0_off142 v185 v187 v189) a + S1x16x16x64.size a ≤ S4x256x256x64.size a := fun v185 v187 v189 k0_hw14 => k0_hw14.2

def k0_off143 (v199 : BitVec 32) (v201 : BitVec 32) (v203 : BitVec 32) : Fin 4 → Nat :=
  let c0_i32_536 : BitVec 32 := 0#32
  ![v199.toNat, v201.toNat, v203.toNat, 0]

def k0_chk15 (v199 : BitVec 32) (v201 : BitVec 32) (v203 : BitVec 32) : Prop :=
  (∀ a, (k0_off30 v199 v201 v203) a + S1x16x16x64.size a ≤ S4x256x256x64.size a) ∧
  (∀ a, (k0_off143 v199 v201 v203) a + S1x16x16x64.size a ≤ S4x256x256x64.size a)
theorem k0_off30_inb : ∀ (v199 : BitVec 32) (v201 : BitVec 32) (v203 : BitVec 32) (k0_hw15 : k0_chk15 v199 v201 v203), ∀ a, (k0_off30 v199 v201 v203) a + S1x16x16x64.size a ≤ S4x256x256x64.size a := fun v199 v201 v203 k0_hw15 => k0_hw15.1
theorem k0_off143_inb : ∀ (v199 : BitVec 32) (v201 : BitVec 32) (v203 : BitVec 32) (k0_hw15 : k0_chk15 v199 v201 v203), ∀ a, (k0_off143 v199 v201 v203) a + S1x16x16x64.size a ≤ S4x256x256x64.size a := fun v199 v201 v203 k0_hw15 => k0_hw15.2

def k0_off144 (v213 : BitVec 32) (v215 : BitVec 32) (v217 : BitVec 32) : Fin 4 → Nat :=
  let c0_i32_542 : BitVec 32 := 0#32
  ![v213.toNat, v215.toNat, v217.toNat, 0]

def k0_chk16 (v213 : BitVec 32) (v215 : BitVec 32) (v217 : BitVec 32) : Prop :=
  (∀ a, (k0_off32 v213 v215 v217) a + S1x16x16x64.size a ≤ S4x256x256x64.size a) ∧
  (∀ a, (k0_off144 v213 v215 v217) a + S1x16x16x64.size a ≤ S4x256x256x64.size a)
theorem k0_off32_inb : ∀ (v213 : BitVec 32) (v215 : BitVec 32) (v217 : BitVec 32) (k0_hw16 : k0_chk16 v213 v215 v217), ∀ a, (k0_off32 v213 v215 v217) a + S1x16x16x64.size a ≤ S4x256x256x64.size a := fun v213 v215 v217 k0_hw16 => k0_hw16.1
theorem k0_off144_inb : ∀ (v213 : BitVec 32) (v215 : BitVec 32) (v217 : BitVec 32) (k0_hw16 : k0_chk16 v213 v215 v217), ∀ a, (k0_off144 v213 v215 v217) a + S1x16x16x64.size a ≤ S4x256x256x64.size a := fun v213 v215 v217 k0_hw16 => k0_hw16.2

def k0_off145 (v227 : BitVec 32) (v229 : BitVec 32) (v231 : BitVec 32) : Fin 4 → Nat :=
  let c0_i32_548 : BitVec 32 := 0#32
  ![v227.toNat, v229.toNat, v231.toNat, 0]

def k0_chk17 (v227 : BitVec 32) (v229 : BitVec 32) (v231 : BitVec 32) : Prop :=
  (∀ a, (k0_off34 v227 v229 v231) a + S1x16x16x64.size a ≤ S4x256x256x64.size a) ∧
  (∀ a, (k0_off145 v227 v229 v231) a + S1x16x16x64.size a ≤ S4x256x256x64.size a)
theorem k0_off34_inb : ∀ (v227 : BitVec 32) (v229 : BitVec 32) (v231 : BitVec 32) (k0_hw17 : k0_chk17 v227 v229 v231), ∀ a, (k0_off34 v227 v229 v231) a + S1x16x16x64.size a ≤ S4x256x256x64.size a := fun v227 v229 v231 k0_hw17 => k0_hw17.1
theorem k0_off145_inb : ∀ (v227 : BitVec 32) (v229 : BitVec 32) (v231 : BitVec 32) (k0_hw17 : k0_chk17 v227 v229 v231), ∀ a, (k0_off145 v227 v229 v231) a + S1x16x16x64.size a ≤ S4x256x256x64.size a := fun v227 v229 v231 k0_hw17 => k0_hw17.2

def k0_off146 (v241 : BitVec 32) (v243 : BitVec 32) (v245 : BitVec 32) : Fin 4 → Nat :=
  let c0_i32_554 : BitVec 32 := 0#32
  ![v241.toNat, v243.toNat, v245.toNat, 0]

def k0_chk18 (v241 : BitVec 32) (v243 : BitVec 32) (v245 : BitVec 32) : Prop :=
  (∀ a, (k0_off36 v241 v243 v245) a + S1x16x16x64.size a ≤ S4x256x256x64.size a) ∧
  (∀ a, (k0_off146 v241 v243 v245) a + S1x16x16x64.size a ≤ S4x256x256x64.size a)
theorem k0_off36_inb : ∀ (v241 : BitVec 32) (v243 : BitVec 32) (v245 : BitVec 32) (k0_hw18 : k0_chk18 v241 v243 v245), ∀ a, (k0_off36 v241 v243 v245) a + S1x16x16x64.size a ≤ S4x256x256x64.size a := fun v241 v243 v245 k0_hw18 => k0_hw18.1
theorem k0_off146_inb : ∀ (v241 : BitVec 32) (v243 : BitVec 32) (v245 : BitVec 32) (k0_hw18 : k0_chk18 v241 v243 v245), ∀ a, (k0_off146 v241 v243 v245) a + S1x16x16x64.size a ≤ S4x256x256x64.size a := fun v241 v243 v245 k0_hw18 => k0_hw18.2

def k0_off147 (v255 : BitVec 32) (v257 : BitVec 32) (v259 : BitVec 32) : Fin 4 → Nat :=
  let c0_i32_560 : BitVec 32 := 0#32
  ![v255.toNat, v257.toNat, v259.toNat, 0]

def k0_chk19 (v255 : BitVec 32) (v257 : BitVec 32) (v259 : BitVec 32) : Prop :=
  (∀ a, (k0_off38 v255 v257 v259) a + S1x16x16x64.size a ≤ S4x256x256x64.size a) ∧
  (∀ a, (k0_off147 v255 v257 v259) a + S1x16x16x64.size a ≤ S4x256x256x64.size a)
theorem k0_off38_inb : ∀ (v255 : BitVec 32) (v257 : BitVec 32) (v259 : BitVec 32) (k0_hw19 : k0_chk19 v255 v257 v259), ∀ a, (k0_off38 v255 v257 v259) a + S1x16x16x64.size a ≤ S4x256x256x64.size a := fun v255 v257 v259 k0_hw19 => k0_hw19.1
theorem k0_off147_inb : ∀ (v255 : BitVec 32) (v257 : BitVec 32) (v259 : BitVec 32) (k0_hw19 : k0_chk19 v255 v257 v259), ∀ a, (k0_off147 v255 v257 v259) a + S1x16x16x64.size a ≤ S4x256x256x64.size a := fun v255 v257 v259 k0_hw19 => k0_hw19.2

def k0_off148 (v269 : BitVec 32) (v271 : BitVec 32) (v273 : BitVec 32) : Fin 4 → Nat :=
  let c0_i32_566 : BitVec 32 := 0#32
  ![v269.toNat, v271.toNat, v273.toNat, 0]

def k0_chk20 (v269 : BitVec 32) (v271 : BitVec 32) (v273 : BitVec 32) : Prop :=
  (∀ a, (k0_off40 v269 v271 v273) a + S1x16x16x64.size a ≤ S4x256x256x64.size a) ∧
  (∀ a, (k0_off148 v269 v271 v273) a + S1x16x16x64.size a ≤ S4x256x256x64.size a)
theorem k0_off40_inb : ∀ (v269 : BitVec 32) (v271 : BitVec 32) (v273 : BitVec 32) (k0_hw20 : k0_chk20 v269 v271 v273), ∀ a, (k0_off40 v269 v271 v273) a + S1x16x16x64.size a ≤ S4x256x256x64.size a := fun v269 v271 v273 k0_hw20 => k0_hw20.1
theorem k0_off148_inb : ∀ (v269 : BitVec 32) (v271 : BitVec 32) (v273 : BitVec 32) (k0_hw20 : k0_chk20 v269 v271 v273), ∀ a, (k0_off148 v269 v271 v273) a + S1x16x16x64.size a ≤ S4x256x256x64.size a := fun v269 v271 v273 k0_hw20 => k0_hw20.2

def k0_off149 (v283 : BitVec 32) (v285 : BitVec 32) (v287 : BitVec 32) : Fin 4 → Nat :=
  let c0_i32_572 : BitVec 32 := 0#32
  ![v283.toNat, v285.toNat, v287.toNat, 0]

def k0_chk21 (v283 : BitVec 32) (v285 : BitVec 32) (v287 : BitVec 32) : Prop :=
  (∀ a, (k0_off42 v283 v285 v287) a + S1x16x16x64.size a ≤ S4x256x256x64.size a) ∧
  (∀ a, (k0_off149 v283 v285 v287) a + S1x16x16x64.size a ≤ S4x256x256x64.size a)
theorem k0_off42_inb : ∀ (v283 : BitVec 32) (v285 : BitVec 32) (v287 : BitVec 32) (k0_hw21 : k0_chk21 v283 v285 v287), ∀ a, (k0_off42 v283 v285 v287) a + S1x16x16x64.size a ≤ S4x256x256x64.size a := fun v283 v285 v287 k0_hw21 => k0_hw21.1
theorem k0_off149_inb : ∀ (v283 : BitVec 32) (v285 : BitVec 32) (v287 : BitVec 32) (k0_hw21 : k0_chk21 v283 v285 v287), ∀ a, (k0_off149 v283 v285 v287) a + S1x16x16x64.size a ≤ S4x256x256x64.size a := fun v283 v285 v287 k0_hw21 => k0_hw21.2

def k0_off150 (v297 : BitVec 32) (v299 : BitVec 32) (v301 : BitVec 32) : Fin 4 → Nat :=
  let c0_i32_578 : BitVec 32 := 0#32
  ![v297.toNat, v299.toNat, v301.toNat, 0]

def k0_chk22 (v297 : BitVec 32) (v299 : BitVec 32) (v301 : BitVec 32) : Prop :=
  (∀ a, (k0_off44 v297 v299 v301) a + S1x16x16x64.size a ≤ S4x256x256x64.size a) ∧
  (∀ a, (k0_off150 v297 v299 v301) a + S1x16x16x64.size a ≤ S4x256x256x64.size a)
theorem k0_off44_inb : ∀ (v297 : BitVec 32) (v299 : BitVec 32) (v301 : BitVec 32) (k0_hw22 : k0_chk22 v297 v299 v301), ∀ a, (k0_off44 v297 v299 v301) a + S1x16x16x64.size a ≤ S4x256x256x64.size a := fun v297 v299 v301 k0_hw22 => k0_hw22.1
theorem k0_off150_inb : ∀ (v297 : BitVec 32) (v299 : BitVec 32) (v301 : BitVec 32) (k0_hw22 : k0_chk22 v297 v299 v301), ∀ a, (k0_off150 v297 v299 v301) a + S1x16x16x64.size a ≤ S4x256x256x64.size a := fun v297 v299 v301 k0_hw22 => k0_hw22.2

def k0_off151 (v311 : BitVec 32) (v313 : BitVec 32) (v315 : BitVec 32) : Fin 4 → Nat :=
  let c0_i32_584 : BitVec 32 := 0#32
  ![v311.toNat, v313.toNat, v315.toNat, 0]

def k0_chk23 (v311 : BitVec 32) (v313 : BitVec 32) (v315 : BitVec 32) : Prop :=
  (∀ a, (k0_off46 v311 v313 v315) a + S1x16x16x64.size a ≤ S4x256x256x64.size a) ∧
  (∀ a, (k0_off151 v311 v313 v315) a + S1x16x16x64.size a ≤ S4x256x256x64.size a)
theorem k0_off46_inb : ∀ (v311 : BitVec 32) (v313 : BitVec 32) (v315 : BitVec 32) (k0_hw23 : k0_chk23 v311 v313 v315), ∀ a, (k0_off46 v311 v313 v315) a + S1x16x16x64.size a ≤ S4x256x256x64.size a := fun v311 v313 v315 k0_hw23 => k0_hw23.1
theorem k0_off151_inb : ∀ (v311 : BitVec 32) (v313 : BitVec 32) (v315 : BitVec 32) (k0_hw23 : k0_chk23 v311 v313 v315), ∀ a, (k0_off151 v311 v313 v315) a + S1x16x16x64.size a ≤ S4x256x256x64.size a := fun v311 v313 v315 k0_hw23 => k0_hw23.2

def k0_off152 (v325 : BitVec 32) (v327 : BitVec 32) (v329 : BitVec 32) : Fin 4 → Nat :=
  let c0_i32_590 : BitVec 32 := 0#32
  ![v325.toNat, v327.toNat, v329.toNat, 0]

def k0_chk24 (v325 : BitVec 32) (v327 : BitVec 32) (v329 : BitVec 32) : Prop :=
  (∀ a, (k0_off48 v325 v327 v329) a + S1x16x16x64.size a ≤ S4x256x256x64.size a) ∧
  (∀ a, (k0_off152 v325 v327 v329) a + S1x16x16x64.size a ≤ S4x256x256x64.size a)
theorem k0_off48_inb : ∀ (v325 : BitVec 32) (v327 : BitVec 32) (v329 : BitVec 32) (k0_hw24 : k0_chk24 v325 v327 v329), ∀ a, (k0_off48 v325 v327 v329) a + S1x16x16x64.size a ≤ S4x256x256x64.size a := fun v325 v327 v329 k0_hw24 => k0_hw24.1
theorem k0_off152_inb : ∀ (v325 : BitVec 32) (v327 : BitVec 32) (v329 : BitVec 32) (k0_hw24 : k0_chk24 v325 v327 v329), ∀ a, (k0_off152 v325 v327 v329) a + S1x16x16x64.size a ≤ S4x256x256x64.size a := fun v325 v327 v329 k0_hw24 => k0_hw24.2

def k0_off153 (v339 : BitVec 32) (v341 : BitVec 32) (v343 : BitVec 32) : Fin 4 → Nat :=
  let c0_i32_596 : BitVec 32 := 0#32
  ![v339.toNat, v341.toNat, v343.toNat, 0]

def k0_chk25 (v339 : BitVec 32) (v341 : BitVec 32) (v343 : BitVec 32) : Prop :=
  (∀ a, (k0_off50 v339 v341 v343) a + S1x16x16x64.size a ≤ S4x256x256x64.size a) ∧
  (∀ a, (k0_off153 v339 v341 v343) a + S1x16x16x64.size a ≤ S4x256x256x64.size a)
theorem k0_off50_inb : ∀ (v339 : BitVec 32) (v341 : BitVec 32) (v343 : BitVec 32) (k0_hw25 : k0_chk25 v339 v341 v343), ∀ a, (k0_off50 v339 v341 v343) a + S1x16x16x64.size a ≤ S4x256x256x64.size a := fun v339 v341 v343 k0_hw25 => k0_hw25.1
theorem k0_off153_inb : ∀ (v339 : BitVec 32) (v341 : BitVec 32) (v343 : BitVec 32) (k0_hw25 : k0_chk25 v339 v341 v343), ∀ a, (k0_off153 v339 v341 v343) a + S1x16x16x64.size a ≤ S4x256x256x64.size a := fun v339 v341 v343 k0_hw25 => k0_hw25.2

def k0_off154 (v353 : BitVec 32) (v355 : BitVec 32) (v357 : BitVec 32) : Fin 4 → Nat :=
  let c0_i32_602 : BitVec 32 := 0#32
  ![v353.toNat, v355.toNat, v357.toNat, 0]

def k0_chk26 (v353 : BitVec 32) (v355 : BitVec 32) (v357 : BitVec 32) : Prop :=
  (∀ a, (k0_off52 v353 v355 v357) a + S1x16x16x64.size a ≤ S4x256x256x64.size a) ∧
  (∀ a, (k0_off154 v353 v355 v357) a + S1x16x16x64.size a ≤ S4x256x256x64.size a)
theorem k0_off52_inb : ∀ (v353 : BitVec 32) (v355 : BitVec 32) (v357 : BitVec 32) (k0_hw26 : k0_chk26 v353 v355 v357), ∀ a, (k0_off52 v353 v355 v357) a + S1x16x16x64.size a ≤ S4x256x256x64.size a := fun v353 v355 v357 k0_hw26 => k0_hw26.1
theorem k0_off154_inb : ∀ (v353 : BitVec 32) (v355 : BitVec 32) (v357 : BitVec 32) (k0_hw26 : k0_chk26 v353 v355 v357), ∀ a, (k0_off154 v353 v355 v357) a + S1x16x16x64.size a ≤ S4x256x256x64.size a := fun v353 v355 v357 k0_hw26 => k0_hw26.2

def k0_off155 (v367 : BitVec 32) (v369 : BitVec 32) (v371 : BitVec 32) : Fin 4 → Nat :=
  let c0_i32_608 : BitVec 32 := 0#32
  ![v367.toNat, v369.toNat, v371.toNat, 0]

def k0_chk27 (v367 : BitVec 32) (v369 : BitVec 32) (v371 : BitVec 32) : Prop :=
  (∀ a, (k0_off54 v367 v369 v371) a + S1x16x16x64.size a ≤ S4x256x256x64.size a) ∧
  (∀ a, (k0_off155 v367 v369 v371) a + S1x16x16x64.size a ≤ S4x256x256x64.size a)
theorem k0_off54_inb : ∀ (v367 : BitVec 32) (v369 : BitVec 32) (v371 : BitVec 32) (k0_hw27 : k0_chk27 v367 v369 v371), ∀ a, (k0_off54 v367 v369 v371) a + S1x16x16x64.size a ≤ S4x256x256x64.size a := fun v367 v369 v371 k0_hw27 => k0_hw27.1
theorem k0_off155_inb : ∀ (v367 : BitVec 32) (v369 : BitVec 32) (v371 : BitVec 32) (k0_hw27 : k0_chk27 v367 v369 v371), ∀ a, (k0_off155 v367 v369 v371) a + S1x16x16x64.size a ≤ S4x256x256x64.size a := fun v367 v369 v371 k0_hw27 => k0_hw27.2

def k0_off156 (v381 : BitVec 32) (v383 : BitVec 32) (v385 : BitVec 32) : Fin 4 → Nat :=
  let c0_i32_614 : BitVec 32 := 0#32
  ![v381.toNat, v383.toNat, v385.toNat, 0]

def k0_chk28 (v381 : BitVec 32) (v383 : BitVec 32) (v385 : BitVec 32) : Prop :=
  (∀ a, (k0_off56 v381 v383 v385) a + S1x16x16x64.size a ≤ S4x256x256x64.size a) ∧
  (∀ a, (k0_off156 v381 v383 v385) a + S1x16x16x64.size a ≤ S4x256x256x64.size a)
theorem k0_off56_inb : ∀ (v381 : BitVec 32) (v383 : BitVec 32) (v385 : BitVec 32) (k0_hw28 : k0_chk28 v381 v383 v385), ∀ a, (k0_off56 v381 v383 v385) a + S1x16x16x64.size a ≤ S4x256x256x64.size a := fun v381 v383 v385 k0_hw28 => k0_hw28.1
theorem k0_off156_inb : ∀ (v381 : BitVec 32) (v383 : BitVec 32) (v385 : BitVec 32) (k0_hw28 : k0_chk28 v381 v383 v385), ∀ a, (k0_off156 v381 v383 v385) a + S1x16x16x64.size a ≤ S4x256x256x64.size a := fun v381 v383 v385 k0_hw28 => k0_hw28.2

def k0_off157 (v395 : BitVec 32) (v397 : BitVec 32) (v399 : BitVec 32) : Fin 4 → Nat :=
  let c0_i32_620 : BitVec 32 := 0#32
  ![v395.toNat, v397.toNat, v399.toNat, 0]

def k0_chk29 (v395 : BitVec 32) (v397 : BitVec 32) (v399 : BitVec 32) : Prop :=
  (∀ a, (k0_off58 v395 v397 v399) a + S1x16x16x64.size a ≤ S4x256x256x64.size a) ∧
  (∀ a, (k0_off157 v395 v397 v399) a + S1x16x16x64.size a ≤ S4x256x256x64.size a)
theorem k0_off58_inb : ∀ (v395 : BitVec 32) (v397 : BitVec 32) (v399 : BitVec 32) (k0_hw29 : k0_chk29 v395 v397 v399), ∀ a, (k0_off58 v395 v397 v399) a + S1x16x16x64.size a ≤ S4x256x256x64.size a := fun v395 v397 v399 k0_hw29 => k0_hw29.1
theorem k0_off157_inb : ∀ (v395 : BitVec 32) (v397 : BitVec 32) (v399 : BitVec 32) (k0_hw29 : k0_chk29 v395 v397 v399), ∀ a, (k0_off157 v395 v397 v399) a + S1x16x16x64.size a ≤ S4x256x256x64.size a := fun v395 v397 v399 k0_hw29 => k0_hw29.2

def k0_off158 (v409 : BitVec 32) (v411 : BitVec 32) (v413 : BitVec 32) : Fin 4 → Nat :=
  let c0_i32_626 : BitVec 32 := 0#32
  ![v409.toNat, v411.toNat, v413.toNat, 0]

def k0_chk30 (v409 : BitVec 32) (v411 : BitVec 32) (v413 : BitVec 32) : Prop :=
  (∀ a, (k0_off60 v409 v411 v413) a + S1x16x16x64.size a ≤ S4x256x256x64.size a) ∧
  (∀ a, (k0_off158 v409 v411 v413) a + S1x16x16x64.size a ≤ S4x256x256x64.size a)
theorem k0_off60_inb : ∀ (v409 : BitVec 32) (v411 : BitVec 32) (v413 : BitVec 32) (k0_hw30 : k0_chk30 v409 v411 v413), ∀ a, (k0_off60 v409 v411 v413) a + S1x16x16x64.size a ≤ S4x256x256x64.size a := fun v409 v411 v413 k0_hw30 => k0_hw30.1
theorem k0_off158_inb : ∀ (v409 : BitVec 32) (v411 : BitVec 32) (v413 : BitVec 32) (k0_hw30 : k0_chk30 v409 v411 v413), ∀ a, (k0_off158 v409 v411 v413) a + S1x16x16x64.size a ≤ S4x256x256x64.size a := fun v409 v411 v413 k0_hw30 => k0_hw30.2

def k0_off159 (v423 : BitVec 32) (v425 : BitVec 32) (v427 : BitVec 32) : Fin 4 → Nat :=
  let c0_i32_632 : BitVec 32 := 0#32
  ![v423.toNat, v425.toNat, v427.toNat, 0]

def k0_chk31 (v423 : BitVec 32) (v425 : BitVec 32) (v427 : BitVec 32) : Prop :=
  (∀ a, (k0_off62 v423 v425 v427) a + S1x16x16x64.size a ≤ S4x256x256x64.size a) ∧
  (∀ a, (k0_off159 v423 v425 v427) a + S1x16x16x64.size a ≤ S4x256x256x64.size a)
theorem k0_off62_inb : ∀ (v423 : BitVec 32) (v425 : BitVec 32) (v427 : BitVec 32) (k0_hw31 : k0_chk31 v423 v425 v427), ∀ a, (k0_off62 v423 v425 v427) a + S1x16x16x64.size a ≤ S4x256x256x64.size a := fun v423 v425 v427 k0_hw31 => k0_hw31.1
theorem k0_off159_inb : ∀ (v423 : BitVec 32) (v425 : BitVec 32) (v427 : BitVec 32) (k0_hw31 : k0_chk31 v423 v425 v427), ∀ a, (k0_off159 v423 v425 v427) a + S1x16x16x64.size a ≤ S4x256x256x64.size a := fun v423 v425 v427 k0_hw31 => k0_hw31.2

def k0_off160 (v437 : BitVec 32) (v439 : BitVec 32) (v441 : BitVec 32) : Fin 4 → Nat :=
  let c0_i32_638 : BitVec 32 := 0#32
  ![v437.toNat, v439.toNat, v441.toNat, 0]

def k0_chk32 (v437 : BitVec 32) (v439 : BitVec 32) (v441 : BitVec 32) : Prop :=
  (∀ a, (k0_off64 v437 v439 v441) a + S1x16x16x64.size a ≤ S4x256x256x64.size a) ∧
  (∀ a, (k0_off160 v437 v439 v441) a + S1x16x16x64.size a ≤ S4x256x256x64.size a)
theorem k0_off64_inb : ∀ (v437 : BitVec 32) (v439 : BitVec 32) (v441 : BitVec 32) (k0_hw32 : k0_chk32 v437 v439 v441), ∀ a, (k0_off64 v437 v439 v441) a + S1x16x16x64.size a ≤ S4x256x256x64.size a := fun v437 v439 v441 k0_hw32 => k0_hw32.1
theorem k0_off160_inb : ∀ (v437 : BitVec 32) (v439 : BitVec 32) (v441 : BitVec 32) (k0_hw32 : k0_chk32 v437 v439 v441), ∀ a, (k0_off160 v437 v439 v441) a + S1x16x16x64.size a ≤ S4x256x256x64.size a := fun v437 v439 v441 k0_hw32 => k0_hw32.2

def k0_off161 (v451 : BitVec 32) (v453 : BitVec 32) (v455 : BitVec 32) : Fin 4 → Nat :=
  let c0_i32_644 : BitVec 32 := 0#32
  ![v451.toNat, v453.toNat, v455.toNat, 0]

def k0_chk33 (v451 : BitVec 32) (v453 : BitVec 32) (v455 : BitVec 32) : Prop :=
  (∀ a, (k0_off66 v451 v453 v455) a + S1x16x16x64.size a ≤ S4x256x256x64.size a) ∧
  (∀ a, (k0_off161 v451 v453 v455) a + S1x16x16x64.size a ≤ S4x256x256x64.size a)
theorem k0_off66_inb : ∀ (v451 : BitVec 32) (v453 : BitVec 32) (v455 : BitVec 32) (k0_hw33 : k0_chk33 v451 v453 v455), ∀ a, (k0_off66 v451 v453 v455) a + S1x16x16x64.size a ≤ S4x256x256x64.size a := fun v451 v453 v455 k0_hw33 => k0_hw33.1
theorem k0_off161_inb : ∀ (v451 : BitVec 32) (v453 : BitVec 32) (v455 : BitVec 32) (k0_hw33 : k0_chk33 v451 v453 v455), ∀ a, (k0_off161 v451 v453 v455) a + S1x16x16x64.size a ≤ S4x256x256x64.size a := fun v451 v453 v455 k0_hw33 => k0_hw33.2

def k0_off162 (v465 : BitVec 32) (v467 : BitVec 32) (v469 : BitVec 32) : Fin 4 → Nat :=
  let c0_i32_650 : BitVec 32 := 0#32
  ![v465.toNat, v467.toNat, v469.toNat, 0]

def k0_chk34 (v465 : BitVec 32) (v467 : BitVec 32) (v469 : BitVec 32) : Prop :=
  (∀ a, (k0_off68 v465 v467 v469) a + S1x16x16x64.size a ≤ S4x256x256x64.size a) ∧
  (∀ a, (k0_off162 v465 v467 v469) a + S1x16x16x64.size a ≤ S4x256x256x64.size a)
theorem k0_off68_inb : ∀ (v465 : BitVec 32) (v467 : BitVec 32) (v469 : BitVec 32) (k0_hw34 : k0_chk34 v465 v467 v469), ∀ a, (k0_off68 v465 v467 v469) a + S1x16x16x64.size a ≤ S4x256x256x64.size a := fun v465 v467 v469 k0_hw34 => k0_hw34.1
theorem k0_off162_inb : ∀ (v465 : BitVec 32) (v467 : BitVec 32) (v469 : BitVec 32) (k0_hw34 : k0_chk34 v465 v467 v469), ∀ a, (k0_off162 v465 v467 v469) a + S1x16x16x64.size a ≤ S4x256x256x64.size a := fun v465 v467 v469 k0_hw34 => k0_hw34.2

def k0_off163 (v479 : BitVec 32) (v481 : BitVec 32) (v483 : BitVec 32) : Fin 4 → Nat :=
  let c0_i32_656 : BitVec 32 := 0#32
  ![v479.toNat, v481.toNat, v483.toNat, 0]

def k0_chk35 (v479 : BitVec 32) (v481 : BitVec 32) (v483 : BitVec 32) : Prop :=
  (∀ a, (k0_off70 v479 v481 v483) a + S1x16x16x64.size a ≤ S4x256x256x64.size a) ∧
  (∀ a, (k0_off163 v479 v481 v483) a + S1x16x16x64.size a ≤ S4x256x256x64.size a)
theorem k0_off70_inb : ∀ (v479 : BitVec 32) (v481 : BitVec 32) (v483 : BitVec 32) (k0_hw35 : k0_chk35 v479 v481 v483), ∀ a, (k0_off70 v479 v481 v483) a + S1x16x16x64.size a ≤ S4x256x256x64.size a := fun v479 v481 v483 k0_hw35 => k0_hw35.1
theorem k0_off163_inb : ∀ (v479 : BitVec 32) (v481 : BitVec 32) (v483 : BitVec 32) (k0_hw35 : k0_chk35 v479 v481 v483), ∀ a, (k0_off163 v479 v481 v483) a + S1x16x16x64.size a ≤ S4x256x256x64.size a := fun v479 v481 v483 k0_hw35 => k0_hw35.2

def k0_off164 (v493 : BitVec 32) (v495 : BitVec 32) (v497 : BitVec 32) : Fin 4 → Nat :=
  let c0_i32_662 : BitVec 32 := 0#32
  ![v493.toNat, v495.toNat, v497.toNat, 0]

def k0_chk36 (v493 : BitVec 32) (v495 : BitVec 32) (v497 : BitVec 32) : Prop :=
  (∀ a, (k0_off72 v493 v495 v497) a + S1x16x16x64.size a ≤ S4x256x256x64.size a) ∧
  (∀ a, (k0_off164 v493 v495 v497) a + S1x16x16x64.size a ≤ S4x256x256x64.size a)
theorem k0_off72_inb : ∀ (v493 : BitVec 32) (v495 : BitVec 32) (v497 : BitVec 32) (k0_hw36 : k0_chk36 v493 v495 v497), ∀ a, (k0_off72 v493 v495 v497) a + S1x16x16x64.size a ≤ S4x256x256x64.size a := fun v493 v495 v497 k0_hw36 => k0_hw36.1
theorem k0_off164_inb : ∀ (v493 : BitVec 32) (v495 : BitVec 32) (v497 : BitVec 32) (k0_hw36 : k0_chk36 v493 v495 v497), ∀ a, (k0_off164 v493 v495 v497) a + S1x16x16x64.size a ≤ S4x256x256x64.size a := fun v493 v495 v497 k0_hw36 => k0_hw36.2

def k0_off165 (v507 : BitVec 32) (v509 : BitVec 32) (v511 : BitVec 32) : Fin 4 → Nat :=
  let c0_i32_668 : BitVec 32 := 0#32
  ![v507.toNat, v509.toNat, v511.toNat, 0]

def k0_chk37 (v507 : BitVec 32) (v509 : BitVec 32) (v511 : BitVec 32) : Prop :=
  (∀ a, (k0_off74 v507 v509 v511) a + S1x16x16x64.size a ≤ S4x256x256x64.size a) ∧
  (∀ a, (k0_off165 v507 v509 v511) a + S1x16x16x64.size a ≤ S4x256x256x64.size a)
theorem k0_off74_inb : ∀ (v507 : BitVec 32) (v509 : BitVec 32) (v511 : BitVec 32) (k0_hw37 : k0_chk37 v507 v509 v511), ∀ a, (k0_off74 v507 v509 v511) a + S1x16x16x64.size a ≤ S4x256x256x64.size a := fun v507 v509 v511 k0_hw37 => k0_hw37.1
theorem k0_off165_inb : ∀ (v507 : BitVec 32) (v509 : BitVec 32) (v511 : BitVec 32) (k0_hw37 : k0_chk37 v507 v509 v511), ∀ a, (k0_off165 v507 v509 v511) a + S1x16x16x64.size a ≤ S4x256x256x64.size a := fun v507 v509 v511 k0_hw37 => k0_hw37.2

def k0_off166 (v521 : BitVec 32) (v523 : BitVec 32) (v525 : BitVec 32) : Fin 4 → Nat :=
  let c0_i32_674 : BitVec 32 := 0#32
  ![v521.toNat, v523.toNat, v525.toNat, 0]

def k0_chk38 (v521 : BitVec 32) (v523 : BitVec 32) (v525 : BitVec 32) : Prop :=
  (∀ a, (k0_off76 v521 v523 v525) a + S1x16x16x64.size a ≤ S4x256x256x64.size a) ∧
  (∀ a, (k0_off166 v521 v523 v525) a + S1x16x16x64.size a ≤ S4x256x256x64.size a)
theorem k0_off76_inb : ∀ (v521 : BitVec 32) (v523 : BitVec 32) (v525 : BitVec 32) (k0_hw38 : k0_chk38 v521 v523 v525), ∀ a, (k0_off76 v521 v523 v525) a + S1x16x16x64.size a ≤ S4x256x256x64.size a := fun v521 v523 v525 k0_hw38 => k0_hw38.1
theorem k0_off166_inb : ∀ (v521 : BitVec 32) (v523 : BitVec 32) (v525 : BitVec 32) (k0_hw38 : k0_chk38 v521 v523 v525), ∀ a, (k0_off166 v521 v523 v525) a + S1x16x16x64.size a ≤ S4x256x256x64.size a := fun v521 v523 v525 k0_hw38 => k0_hw38.2

def k0_off167 (v535 : BitVec 32) (v537 : BitVec 32) (v539 : BitVec 32) : Fin 4 → Nat :=
  let c0_i32_680 : BitVec 32 := 0#32
  ![v535.toNat, v537.toNat, v539.toNat, 0]

def k0_chk39 (v535 : BitVec 32) (v537 : BitVec 32) (v539 : BitVec 32) : Prop :=
  (∀ a, (k0_off78 v535 v537 v539) a + S1x16x16x64.size a ≤ S4x256x256x64.size a) ∧
  (∀ a, (k0_off167 v535 v537 v539) a + S1x16x16x64.size a ≤ S4x256x256x64.size a)
theorem k0_off78_inb : ∀ (v535 : BitVec 32) (v537 : BitVec 32) (v539 : BitVec 32) (k0_hw39 : k0_chk39 v535 v537 v539), ∀ a, (k0_off78 v535 v537 v539) a + S1x16x16x64.size a ≤ S4x256x256x64.size a := fun v535 v537 v539 k0_hw39 => k0_hw39.1
theorem k0_off167_inb : ∀ (v535 : BitVec 32) (v537 : BitVec 32) (v539 : BitVec 32) (k0_hw39 : k0_chk39 v535 v537 v539), ∀ a, (k0_off167 v535 v537 v539) a + S1x16x16x64.size a ≤ S4x256x256x64.size a := fun v535 v537 v539 k0_hw39 => k0_hw39.2

def k0_off168 (v549 : BitVec 32) (v551 : BitVec 32) (v553 : BitVec 32) : Fin 4 → Nat :=
  let c0_i32_686 : BitVec 32 := 0#32
  ![v549.toNat, v551.toNat, v553.toNat, 0]

def k0_chk40 (v549 : BitVec 32) (v551 : BitVec 32) (v553 : BitVec 32) : Prop :=
  (∀ a, (k0_off80 v549 v551 v553) a + S1x16x16x64.size a ≤ S4x256x256x64.size a) ∧
  (∀ a, (k0_off168 v549 v551 v553) a + S1x16x16x64.size a ≤ S4x256x256x64.size a)
theorem k0_off80_inb : ∀ (v549 : BitVec 32) (v551 : BitVec 32) (v553 : BitVec 32) (k0_hw40 : k0_chk40 v549 v551 v553), ∀ a, (k0_off80 v549 v551 v553) a + S1x16x16x64.size a ≤ S4x256x256x64.size a := fun v549 v551 v553 k0_hw40 => k0_hw40.1
theorem k0_off168_inb : ∀ (v549 : BitVec 32) (v551 : BitVec 32) (v553 : BitVec 32) (k0_hw40 : k0_chk40 v549 v551 v553), ∀ a, (k0_off168 v549 v551 v553) a + S1x16x16x64.size a ≤ S4x256x256x64.size a := fun v549 v551 v553 k0_hw40 => k0_hw40.2

def k0_off169 (v563 : BitVec 32) (v565 : BitVec 32) (v567 : BitVec 32) : Fin 4 → Nat :=
  let c0_i32_692 : BitVec 32 := 0#32
  ![v563.toNat, v565.toNat, v567.toNat, 0]

def k0_chk41 (v563 : BitVec 32) (v565 : BitVec 32) (v567 : BitVec 32) : Prop :=
  (∀ a, (k0_off82 v563 v565 v567) a + S1x16x16x64.size a ≤ S4x256x256x64.size a) ∧
  (∀ a, (k0_off169 v563 v565 v567) a + S1x16x16x64.size a ≤ S4x256x256x64.size a)
theorem k0_off82_inb : ∀ (v563 : BitVec 32) (v565 : BitVec 32) (v567 : BitVec 32) (k0_hw41 : k0_chk41 v563 v565 v567), ∀ a, (k0_off82 v563 v565 v567) a + S1x16x16x64.size a ≤ S4x256x256x64.size a := fun v563 v565 v567 k0_hw41 => k0_hw41.1
theorem k0_off169_inb : ∀ (v563 : BitVec 32) (v565 : BitVec 32) (v567 : BitVec 32) (k0_hw41 : k0_chk41 v563 v565 v567), ∀ a, (k0_off169 v563 v565 v567) a + S1x16x16x64.size a ≤ S4x256x256x64.size a := fun v563 v565 v567 k0_hw41 => k0_hw41.2

def k0_off170 (v577 : BitVec 32) (v579 : BitVec 32) (v581 : BitVec 32) : Fin 4 → Nat :=
  let c0_i32_698 : BitVec 32 := 0#32
  ![v577.toNat, v579.toNat, v581.toNat, 0]

def k0_chk42 (v577 : BitVec 32) (v579 : BitVec 32) (v581 : BitVec 32) : Prop :=
  (∀ a, (k0_off84 v577 v579 v581) a + S1x16x16x64.size a ≤ S4x256x256x64.size a) ∧
  (∀ a, (k0_off170 v577 v579 v581) a + S1x16x16x64.size a ≤ S4x256x256x64.size a)
theorem k0_off84_inb : ∀ (v577 : BitVec 32) (v579 : BitVec 32) (v581 : BitVec 32) (k0_hw42 : k0_chk42 v577 v579 v581), ∀ a, (k0_off84 v577 v579 v581) a + S1x16x16x64.size a ≤ S4x256x256x64.size a := fun v577 v579 v581 k0_hw42 => k0_hw42.1
theorem k0_off170_inb : ∀ (v577 : BitVec 32) (v579 : BitVec 32) (v581 : BitVec 32) (k0_hw42 : k0_chk42 v577 v579 v581), ∀ a, (k0_off170 v577 v579 v581) a + S1x16x16x64.size a ≤ S4x256x256x64.size a := fun v577 v579 v581 k0_hw42 => k0_hw42.2

def k0_off171 (v591 : BitVec 32) (v593 : BitVec 32) (v595 : BitVec 32) : Fin 4 → Nat :=
  let c0_i32_704 : BitVec 32 := 0#32
  ![v591.toNat, v593.toNat, v595.toNat, 0]

def k0_chk43 (v591 : BitVec 32) (v593 : BitVec 32) (v595 : BitVec 32) : Prop :=
  (∀ a, (k0_off86 v591 v593 v595) a + S1x16x16x64.size a ≤ S4x256x256x64.size a) ∧
  (∀ a, (k0_off171 v591 v593 v595) a + S1x16x16x64.size a ≤ S4x256x256x64.size a)
theorem k0_off86_inb : ∀ (v591 : BitVec 32) (v593 : BitVec 32) (v595 : BitVec 32) (k0_hw43 : k0_chk43 v591 v593 v595), ∀ a, (k0_off86 v591 v593 v595) a + S1x16x16x64.size a ≤ S4x256x256x64.size a := fun v591 v593 v595 k0_hw43 => k0_hw43.1
theorem k0_off171_inb : ∀ (v591 : BitVec 32) (v593 : BitVec 32) (v595 : BitVec 32) (k0_hw43 : k0_chk43 v591 v593 v595), ∀ a, (k0_off171 v591 v593 v595) a + S1x16x16x64.size a ≤ S4x256x256x64.size a := fun v591 v593 v595 k0_hw43 => k0_hw43.2

def k0_off172 (v605 : BitVec 32) (v607 : BitVec 32) (v609 : BitVec 32) : Fin 4 → Nat :=
  let c0_i32_710 : BitVec 32 := 0#32
  ![v605.toNat, v607.toNat, v609.toNat, 0]

def k0_chk44 (v605 : BitVec 32) (v607 : BitVec 32) (v609 : BitVec 32) : Prop :=
  (∀ a, (k0_off88 v605 v607 v609) a + S1x16x16x64.size a ≤ S4x256x256x64.size a) ∧
  (∀ a, (k0_off172 v605 v607 v609) a + S1x16x16x64.size a ≤ S4x256x256x64.size a)
theorem k0_off88_inb : ∀ (v605 : BitVec 32) (v607 : BitVec 32) (v609 : BitVec 32) (k0_hw44 : k0_chk44 v605 v607 v609), ∀ a, (k0_off88 v605 v607 v609) a + S1x16x16x64.size a ≤ S4x256x256x64.size a := fun v605 v607 v609 k0_hw44 => k0_hw44.1
theorem k0_off172_inb : ∀ (v605 : BitVec 32) (v607 : BitVec 32) (v609 : BitVec 32) (k0_hw44 : k0_chk44 v605 v607 v609), ∀ a, (k0_off172 v605 v607 v609) a + S1x16x16x64.size a ≤ S4x256x256x64.size a := fun v605 v607 v609 k0_hw44 => k0_hw44.2

def k0_off173 (v619 : BitVec 32) (v621 : BitVec 32) (v623 : BitVec 32) : Fin 4 → Nat :=
  let c0_i32_716 : BitVec 32 := 0#32
  ![v619.toNat, v621.toNat, v623.toNat, 0]

def k0_chk45 (v619 : BitVec 32) (v621 : BitVec 32) (v623 : BitVec 32) : Prop :=
  (∀ a, (k0_off90 v619 v621 v623) a + S1x16x16x64.size a ≤ S4x256x256x64.size a) ∧
  (∀ a, (k0_off173 v619 v621 v623) a + S1x16x16x64.size a ≤ S4x256x256x64.size a)
theorem k0_off90_inb : ∀ (v619 : BitVec 32) (v621 : BitVec 32) (v623 : BitVec 32) (k0_hw45 : k0_chk45 v619 v621 v623), ∀ a, (k0_off90 v619 v621 v623) a + S1x16x16x64.size a ≤ S4x256x256x64.size a := fun v619 v621 v623 k0_hw45 => k0_hw45.1
theorem k0_off173_inb : ∀ (v619 : BitVec 32) (v621 : BitVec 32) (v623 : BitVec 32) (k0_hw45 : k0_chk45 v619 v621 v623), ∀ a, (k0_off173 v619 v621 v623) a + S1x16x16x64.size a ≤ S4x256x256x64.size a := fun v619 v621 v623 k0_hw45 => k0_hw45.2

def k0_off174 (v633 : BitVec 32) (v635 : BitVec 32) (v637 : BitVec 32) : Fin 4 → Nat :=
  let c0_i32_722 : BitVec 32 := 0#32
  ![v633.toNat, v635.toNat, v637.toNat, 0]

def k0_chk46 (v633 : BitVec 32) (v635 : BitVec 32) (v637 : BitVec 32) : Prop :=
  (∀ a, (k0_off92 v633 v635 v637) a + S1x16x16x64.size a ≤ S4x256x256x64.size a) ∧
  (∀ a, (k0_off174 v633 v635 v637) a + S1x16x16x64.size a ≤ S4x256x256x64.size a)
theorem k0_off92_inb : ∀ (v633 : BitVec 32) (v635 : BitVec 32) (v637 : BitVec 32) (k0_hw46 : k0_chk46 v633 v635 v637), ∀ a, (k0_off92 v633 v635 v637) a + S1x16x16x64.size a ≤ S4x256x256x64.size a := fun v633 v635 v637 k0_hw46 => k0_hw46.1
theorem k0_off174_inb : ∀ (v633 : BitVec 32) (v635 : BitVec 32) (v637 : BitVec 32) (k0_hw46 : k0_chk46 v633 v635 v637), ∀ a, (k0_off174 v633 v635 v637) a + S1x16x16x64.size a ≤ S4x256x256x64.size a := fun v633 v635 v637 k0_hw46 => k0_hw46.2

def k0_off175 (v647 : BitVec 32) (v649 : BitVec 32) (v651 : BitVec 32) : Fin 4 → Nat :=
  let c0_i32_728 : BitVec 32 := 0#32
  ![v647.toNat, v649.toNat, v651.toNat, 0]

def k0_chk47 (v647 : BitVec 32) (v649 : BitVec 32) (v651 : BitVec 32) : Prop :=
  (∀ a, (k0_off94 v647 v649 v651) a + S1x16x16x64.size a ≤ S4x256x256x64.size a) ∧
  (∀ a, (k0_off175 v647 v649 v651) a + S1x16x16x64.size a ≤ S4x256x256x64.size a)
theorem k0_off94_inb : ∀ (v647 : BitVec 32) (v649 : BitVec 32) (v651 : BitVec 32) (k0_hw47 : k0_chk47 v647 v649 v651), ∀ a, (k0_off94 v647 v649 v651) a + S1x16x16x64.size a ≤ S4x256x256x64.size a := fun v647 v649 v651 k0_hw47 => k0_hw47.1
theorem k0_off175_inb : ∀ (v647 : BitVec 32) (v649 : BitVec 32) (v651 : BitVec 32) (k0_hw47 : k0_chk47 v647 v649 v651), ∀ a, (k0_off175 v647 v649 v651) a + S1x16x16x64.size a ≤ S4x256x256x64.size a := fun v647 v649 v651 k0_hw47 => k0_hw47.2

def k0_off176 (v661 : BitVec 32) (v663 : BitVec 32) (v665 : BitVec 32) : Fin 4 → Nat :=
  let c0_i32_734 : BitVec 32 := 0#32
  ![v661.toNat, v663.toNat, v665.toNat, 0]

def k0_chk48 (v661 : BitVec 32) (v663 : BitVec 32) (v665 : BitVec 32) : Prop :=
  (∀ a, (k0_off96 v661 v663 v665) a + S1x16x16x64.size a ≤ S4x256x256x64.size a) ∧
  (∀ a, (k0_off176 v661 v663 v665) a + S1x16x16x64.size a ≤ S4x256x256x64.size a)
theorem k0_off96_inb : ∀ (v661 : BitVec 32) (v663 : BitVec 32) (v665 : BitVec 32) (k0_hw48 : k0_chk48 v661 v663 v665), ∀ a, (k0_off96 v661 v663 v665) a + S1x16x16x64.size a ≤ S4x256x256x64.size a := fun v661 v663 v665 k0_hw48 => k0_hw48.1
theorem k0_off176_inb : ∀ (v661 : BitVec 32) (v663 : BitVec 32) (v665 : BitVec 32) (k0_hw48 : k0_chk48 v661 v663 v665), ∀ a, (k0_off176 v661 v663 v665) a + S1x16x16x64.size a ≤ S4x256x256x64.size a := fun v661 v663 v665 k0_hw48 => k0_hw48.2

def k0_off177 (v675 : BitVec 32) (v677 : BitVec 32) (v679 : BitVec 32) : Fin 4 → Nat :=
  let c0_i32_740 : BitVec 32 := 0#32
  ![v675.toNat, v677.toNat, v679.toNat, 0]

def k0_chk49 (v675 : BitVec 32) (v677 : BitVec 32) (v679 : BitVec 32) : Prop :=
  (∀ a, (k0_off98 v675 v677 v679) a + S1x16x16x64.size a ≤ S4x256x256x64.size a) ∧
  (∀ a, (k0_off177 v675 v677 v679) a + S1x16x16x64.size a ≤ S4x256x256x64.size a)
theorem k0_off98_inb : ∀ (v675 : BitVec 32) (v677 : BitVec 32) (v679 : BitVec 32) (k0_hw49 : k0_chk49 v675 v677 v679), ∀ a, (k0_off98 v675 v677 v679) a + S1x16x16x64.size a ≤ S4x256x256x64.size a := fun v675 v677 v679 k0_hw49 => k0_hw49.1
theorem k0_off177_inb : ∀ (v675 : BitVec 32) (v677 : BitVec 32) (v679 : BitVec 32) (k0_hw49 : k0_chk49 v675 v677 v679), ∀ a, (k0_off177 v675 v677 v679) a + S1x16x16x64.size a ≤ S4x256x256x64.size a := fun v675 v677 v679 k0_hw49 => k0_hw49.2

def k0_off178 (v689 : BitVec 32) (v691 : BitVec 32) (v693 : BitVec 32) : Fin 4 → Nat :=
  let c0_i32_746 : BitVec 32 := 0#32
  ![v689.toNat, v691.toNat, v693.toNat, 0]

def k0_chk50 (v689 : BitVec 32) (v691 : BitVec 32) (v693 : BitVec 32) : Prop :=
  (∀ a, (k0_off100 v689 v691 v693) a + S1x16x16x64.size a ≤ S4x256x256x64.size a) ∧
  (∀ a, (k0_off178 v689 v691 v693) a + S1x16x16x64.size a ≤ S4x256x256x64.size a)
theorem k0_off100_inb : ∀ (v689 : BitVec 32) (v691 : BitVec 32) (v693 : BitVec 32) (k0_hw50 : k0_chk50 v689 v691 v693), ∀ a, (k0_off100 v689 v691 v693) a + S1x16x16x64.size a ≤ S4x256x256x64.size a := fun v689 v691 v693 k0_hw50 => k0_hw50.1
theorem k0_off178_inb : ∀ (v689 : BitVec 32) (v691 : BitVec 32) (v693 : BitVec 32) (k0_hw50 : k0_chk50 v689 v691 v693), ∀ a, (k0_off178 v689 v691 v693) a + S1x16x16x64.size a ≤ S4x256x256x64.size a := fun v689 v691 v693 k0_hw50 => k0_hw50.2

def k0_off179 (v703 : BitVec 32) (v705 : BitVec 32) (v707 : BitVec 32) : Fin 4 → Nat :=
  let c0_i32_752 : BitVec 32 := 0#32
  ![v703.toNat, v705.toNat, v707.toNat, 0]

def k0_chk51 (v703 : BitVec 32) (v705 : BitVec 32) (v707 : BitVec 32) : Prop :=
  (∀ a, (k0_off102 v703 v705 v707) a + S1x16x16x64.size a ≤ S4x256x256x64.size a) ∧
  (∀ a, (k0_off179 v703 v705 v707) a + S1x16x16x64.size a ≤ S4x256x256x64.size a)
theorem k0_off102_inb : ∀ (v703 : BitVec 32) (v705 : BitVec 32) (v707 : BitVec 32) (k0_hw51 : k0_chk51 v703 v705 v707), ∀ a, (k0_off102 v703 v705 v707) a + S1x16x16x64.size a ≤ S4x256x256x64.size a := fun v703 v705 v707 k0_hw51 => k0_hw51.1
theorem k0_off179_inb : ∀ (v703 : BitVec 32) (v705 : BitVec 32) (v707 : BitVec 32) (k0_hw51 : k0_chk51 v703 v705 v707), ∀ a, (k0_off179 v703 v705 v707) a + S1x16x16x64.size a ≤ S4x256x256x64.size a := fun v703 v705 v707 k0_hw51 => k0_hw51.2

def k0_off180 (v717 : BitVec 32) (v719 : BitVec 32) (v721 : BitVec 32) : Fin 4 → Nat :=
  let c0_i32_758 : BitVec 32 := 0#32
  ![v717.toNat, v719.toNat, v721.toNat, 0]

def k0_chk52 (v717 : BitVec 32) (v719 : BitVec 32) (v721 : BitVec 32) : Prop :=
  (∀ a, (k0_off104 v717 v719 v721) a + S1x16x16x64.size a ≤ S4x256x256x64.size a) ∧
  (∀ a, (k0_off180 v717 v719 v721) a + S1x16x16x64.size a ≤ S4x256x256x64.size a)
theorem k0_off104_inb : ∀ (v717 : BitVec 32) (v719 : BitVec 32) (v721 : BitVec 32) (k0_hw52 : k0_chk52 v717 v719 v721), ∀ a, (k0_off104 v717 v719 v721) a + S1x16x16x64.size a ≤ S4x256x256x64.size a := fun v717 v719 v721 k0_hw52 => k0_hw52.1
theorem k0_off180_inb : ∀ (v717 : BitVec 32) (v719 : BitVec 32) (v721 : BitVec 32) (k0_hw52 : k0_chk52 v717 v719 v721), ∀ a, (k0_off180 v717 v719 v721) a + S1x16x16x64.size a ≤ S4x256x256x64.size a := fun v717 v719 v721 k0_hw52 => k0_hw52.2

def k0_off181 (v731 : BitVec 32) (v733 : BitVec 32) (v735 : BitVec 32) : Fin 4 → Nat :=
  let c0_i32_764 : BitVec 32 := 0#32
  ![v731.toNat, v733.toNat, v735.toNat, 0]

def k0_chk53 (v731 : BitVec 32) (v733 : BitVec 32) (v735 : BitVec 32) : Prop :=
  (∀ a, (k0_off106 v731 v733 v735) a + S1x16x16x64.size a ≤ S4x256x256x64.size a) ∧
  (∀ a, (k0_off181 v731 v733 v735) a + S1x16x16x64.size a ≤ S4x256x256x64.size a)
theorem k0_off106_inb : ∀ (v731 : BitVec 32) (v733 : BitVec 32) (v735 : BitVec 32) (k0_hw53 : k0_chk53 v731 v733 v735), ∀ a, (k0_off106 v731 v733 v735) a + S1x16x16x64.size a ≤ S4x256x256x64.size a := fun v731 v733 v735 k0_hw53 => k0_hw53.1
theorem k0_off181_inb : ∀ (v731 : BitVec 32) (v733 : BitVec 32) (v735 : BitVec 32) (k0_hw53 : k0_chk53 v731 v733 v735), ∀ a, (k0_off181 v731 v733 v735) a + S1x16x16x64.size a ≤ S4x256x256x64.size a := fun v731 v733 v735 k0_hw53 => k0_hw53.2

def k0_off182 (v745 : BitVec 32) (v747 : BitVec 32) (v749 : BitVec 32) : Fin 4 → Nat :=
  let c0_i32_770 : BitVec 32 := 0#32
  ![v745.toNat, v747.toNat, v749.toNat, 0]

def k0_chk54 (v745 : BitVec 32) (v747 : BitVec 32) (v749 : BitVec 32) : Prop :=
  (∀ a, (k0_off108 v745 v747 v749) a + S1x16x16x64.size a ≤ S4x256x256x64.size a) ∧
  (∀ a, (k0_off182 v745 v747 v749) a + S1x16x16x64.size a ≤ S4x256x256x64.size a)
theorem k0_off108_inb : ∀ (v745 : BitVec 32) (v747 : BitVec 32) (v749 : BitVec 32) (k0_hw54 : k0_chk54 v745 v747 v749), ∀ a, (k0_off108 v745 v747 v749) a + S1x16x16x64.size a ≤ S4x256x256x64.size a := fun v745 v747 v749 k0_hw54 => k0_hw54.1
theorem k0_off182_inb : ∀ (v745 : BitVec 32) (v747 : BitVec 32) (v749 : BitVec 32) (k0_hw54 : k0_chk54 v745 v747 v749), ∀ a, (k0_off182 v745 v747 v749) a + S1x16x16x64.size a ≤ S4x256x256x64.size a := fun v745 v747 v749 k0_hw54 => k0_hw54.2

def k0_off183 (v759 : BitVec 32) (v761 : BitVec 32) (v763 : BitVec 32) : Fin 4 → Nat :=
  let c0_i32_776 : BitVec 32 := 0#32
  ![v759.toNat, v761.toNat, v763.toNat, 0]

def k0_chk55 (v759 : BitVec 32) (v761 : BitVec 32) (v763 : BitVec 32) : Prop :=
  (∀ a, (k0_off110 v759 v761 v763) a + S1x16x16x64.size a ≤ S4x256x256x64.size a) ∧
  (∀ a, (k0_off183 v759 v761 v763) a + S1x16x16x64.size a ≤ S4x256x256x64.size a)
theorem k0_off110_inb : ∀ (v759 : BitVec 32) (v761 : BitVec 32) (v763 : BitVec 32) (k0_hw55 : k0_chk55 v759 v761 v763), ∀ a, (k0_off110 v759 v761 v763) a + S1x16x16x64.size a ≤ S4x256x256x64.size a := fun v759 v761 v763 k0_hw55 => k0_hw55.1
theorem k0_off183_inb : ∀ (v759 : BitVec 32) (v761 : BitVec 32) (v763 : BitVec 32) (k0_hw55 : k0_chk55 v759 v761 v763), ∀ a, (k0_off183 v759 v761 v763) a + S1x16x16x64.size a ≤ S4x256x256x64.size a := fun v759 v761 v763 k0_hw55 => k0_hw55.2

def k0_off184 (v773 : BitVec 32) (v775 : BitVec 32) (v777 : BitVec 32) : Fin 4 → Nat :=
  let c0_i32_782 : BitVec 32 := 0#32
  ![v773.toNat, v775.toNat, v777.toNat, 0]

def k0_chk56 (v773 : BitVec 32) (v775 : BitVec 32) (v777 : BitVec 32) : Prop :=
  (∀ a, (k0_off112 v773 v775 v777) a + S1x16x16x64.size a ≤ S4x256x256x64.size a) ∧
  (∀ a, (k0_off184 v773 v775 v777) a + S1x16x16x64.size a ≤ S4x256x256x64.size a)
theorem k0_off112_inb : ∀ (v773 : BitVec 32) (v775 : BitVec 32) (v777 : BitVec 32) (k0_hw56 : k0_chk56 v773 v775 v777), ∀ a, (k0_off112 v773 v775 v777) a + S1x16x16x64.size a ≤ S4x256x256x64.size a := fun v773 v775 v777 k0_hw56 => k0_hw56.1
theorem k0_off184_inb : ∀ (v773 : BitVec 32) (v775 : BitVec 32) (v777 : BitVec 32) (k0_hw56 : k0_chk56 v773 v775 v777), ∀ a, (k0_off184 v773 v775 v777) a + S1x16x16x64.size a ≤ S4x256x256x64.size a := fun v773 v775 v777 k0_hw56 => k0_hw56.2

def k0_off185 (v787 : BitVec 32) (v789 : BitVec 32) (v791 : BitVec 32) : Fin 4 → Nat :=
  let c0_i32_788 : BitVec 32 := 0#32
  ![v787.toNat, v789.toNat, v791.toNat, 0]

def k0_chk57 (v787 : BitVec 32) (v789 : BitVec 32) (v791 : BitVec 32) : Prop :=
  (∀ a, (k0_off114 v787 v789 v791) a + S1x16x16x64.size a ≤ S4x256x256x64.size a) ∧
  (∀ a, (k0_off185 v787 v789 v791) a + S1x16x16x64.size a ≤ S4x256x256x64.size a)
theorem k0_off114_inb : ∀ (v787 : BitVec 32) (v789 : BitVec 32) (v791 : BitVec 32) (k0_hw57 : k0_chk57 v787 v789 v791), ∀ a, (k0_off114 v787 v789 v791) a + S1x16x16x64.size a ≤ S4x256x256x64.size a := fun v787 v789 v791 k0_hw57 => k0_hw57.1
theorem k0_off185_inb : ∀ (v787 : BitVec 32) (v789 : BitVec 32) (v791 : BitVec 32) (k0_hw57 : k0_chk57 v787 v789 v791), ∀ a, (k0_off185 v787 v789 v791) a + S1x16x16x64.size a ≤ S4x256x256x64.size a := fun v787 v789 v791 k0_hw57 => k0_hw57.2

def k0_off186 (v801 : BitVec 32) (v803 : BitVec 32) (v805 : BitVec 32) : Fin 4 → Nat :=
  let c0_i32_794 : BitVec 32 := 0#32
  ![v801.toNat, v803.toNat, v805.toNat, 0]

def k0_chk58 (v801 : BitVec 32) (v803 : BitVec 32) (v805 : BitVec 32) : Prop :=
  (∀ a, (k0_off116 v801 v803 v805) a + S1x16x16x64.size a ≤ S4x256x256x64.size a) ∧
  (∀ a, (k0_off186 v801 v803 v805) a + S1x16x16x64.size a ≤ S4x256x256x64.size a)
theorem k0_off116_inb : ∀ (v801 : BitVec 32) (v803 : BitVec 32) (v805 : BitVec 32) (k0_hw58 : k0_chk58 v801 v803 v805), ∀ a, (k0_off116 v801 v803 v805) a + S1x16x16x64.size a ≤ S4x256x256x64.size a := fun v801 v803 v805 k0_hw58 => k0_hw58.1
theorem k0_off186_inb : ∀ (v801 : BitVec 32) (v803 : BitVec 32) (v805 : BitVec 32) (k0_hw58 : k0_chk58 v801 v803 v805), ∀ a, (k0_off186 v801 v803 v805) a + S1x16x16x64.size a ≤ S4x256x256x64.size a := fun v801 v803 v805 k0_hw58 => k0_hw58.2

def k0_off187 (v815 : BitVec 32) (v817 : BitVec 32) (v819 : BitVec 32) : Fin 4 → Nat :=
  let c0_i32_800 : BitVec 32 := 0#32
  ![v815.toNat, v817.toNat, v819.toNat, 0]

def k0_chk59 (v815 : BitVec 32) (v817 : BitVec 32) (v819 : BitVec 32) : Prop :=
  (∀ a, (k0_off118 v815 v817 v819) a + S1x16x16x64.size a ≤ S4x256x256x64.size a) ∧
  (∀ a, (k0_off187 v815 v817 v819) a + S1x16x16x64.size a ≤ S4x256x256x64.size a)
theorem k0_off118_inb : ∀ (v815 : BitVec 32) (v817 : BitVec 32) (v819 : BitVec 32) (k0_hw59 : k0_chk59 v815 v817 v819), ∀ a, (k0_off118 v815 v817 v819) a + S1x16x16x64.size a ≤ S4x256x256x64.size a := fun v815 v817 v819 k0_hw59 => k0_hw59.1
theorem k0_off187_inb : ∀ (v815 : BitVec 32) (v817 : BitVec 32) (v819 : BitVec 32) (k0_hw59 : k0_chk59 v815 v817 v819), ∀ a, (k0_off187 v815 v817 v819) a + S1x16x16x64.size a ≤ S4x256x256x64.size a := fun v815 v817 v819 k0_hw59 => k0_hw59.2

def k0_off188 (v829 : BitVec 32) (v831 : BitVec 32) (v833 : BitVec 32) : Fin 4 → Nat :=
  let c0_i32_806 : BitVec 32 := 0#32
  ![v829.toNat, v831.toNat, v833.toNat, 0]

def k0_chk60 (v829 : BitVec 32) (v831 : BitVec 32) (v833 : BitVec 32) : Prop :=
  (∀ a, (k0_off120 v829 v831 v833) a + S1x16x16x64.size a ≤ S4x256x256x64.size a) ∧
  (∀ a, (k0_off188 v829 v831 v833) a + S1x16x16x64.size a ≤ S4x256x256x64.size a)
theorem k0_off120_inb : ∀ (v829 : BitVec 32) (v831 : BitVec 32) (v833 : BitVec 32) (k0_hw60 : k0_chk60 v829 v831 v833), ∀ a, (k0_off120 v829 v831 v833) a + S1x16x16x64.size a ≤ S4x256x256x64.size a := fun v829 v831 v833 k0_hw60 => k0_hw60.1
theorem k0_off188_inb : ∀ (v829 : BitVec 32) (v831 : BitVec 32) (v833 : BitVec 32) (k0_hw60 : k0_chk60 v829 v831 v833), ∀ a, (k0_off188 v829 v831 v833) a + S1x16x16x64.size a ≤ S4x256x256x64.size a := fun v829 v831 v833 k0_hw60 => k0_hw60.2

def k0_off189 (v843 : BitVec 32) (v845 : BitVec 32) (v847 : BitVec 32) : Fin 4 → Nat :=
  let c0_i32_812 : BitVec 32 := 0#32
  ![v843.toNat, v845.toNat, v847.toNat, 0]

def k0_chk61 (v843 : BitVec 32) (v845 : BitVec 32) (v847 : BitVec 32) : Prop :=
  (∀ a, (k0_off122 v843 v845 v847) a + S1x16x16x64.size a ≤ S4x256x256x64.size a) ∧
  (∀ a, (k0_off189 v843 v845 v847) a + S1x16x16x64.size a ≤ S4x256x256x64.size a)
theorem k0_off122_inb : ∀ (v843 : BitVec 32) (v845 : BitVec 32) (v847 : BitVec 32) (k0_hw61 : k0_chk61 v843 v845 v847), ∀ a, (k0_off122 v843 v845 v847) a + S1x16x16x64.size a ≤ S4x256x256x64.size a := fun v843 v845 v847 k0_hw61 => k0_hw61.1
theorem k0_off189_inb : ∀ (v843 : BitVec 32) (v845 : BitVec 32) (v847 : BitVec 32) (k0_hw61 : k0_chk61 v843 v845 v847), ∀ a, (k0_off189 v843 v845 v847) a + S1x16x16x64.size a ≤ S4x256x256x64.size a := fun v843 v845 v847 k0_hw61 => k0_hw61.2

def k0_off190 (v857 : BitVec 32) (v859 : BitVec 32) (v861 : BitVec 32) : Fin 4 → Nat :=
  let c0_i32_818 : BitVec 32 := 0#32
  ![v857.toNat, v859.toNat, v861.toNat, 0]

def k0_chk62 (v857 : BitVec 32) (v859 : BitVec 32) (v861 : BitVec 32) : Prop :=
  (∀ a, (k0_off124 v857 v859 v861) a + S1x16x16x64.size a ≤ S4x256x256x64.size a) ∧
  (∀ a, (k0_off190 v857 v859 v861) a + S1x16x16x64.size a ≤ S4x256x256x64.size a)
theorem k0_off124_inb : ∀ (v857 : BitVec 32) (v859 : BitVec 32) (v861 : BitVec 32) (k0_hw62 : k0_chk62 v857 v859 v861), ∀ a, (k0_off124 v857 v859 v861) a + S1x16x16x64.size a ≤ S4x256x256x64.size a := fun v857 v859 v861 k0_hw62 => k0_hw62.1
theorem k0_off190_inb : ∀ (v857 : BitVec 32) (v859 : BitVec 32) (v861 : BitVec 32) (k0_hw62 : k0_chk62 v857 v859 v861), ∀ a, (k0_off190 v857 v859 v861) a + S1x16x16x64.size a ≤ S4x256x256x64.size a := fun v857 v859 v861 k0_hw62 => k0_hw62.2

def k0_off191 (v871 : BitVec 32) (v873 : BitVec 32) (v875 : BitVec 32) : Fin 4 → Nat :=
  let c0_i32_824 : BitVec 32 := 0#32
  ![v871.toNat, v873.toNat, v875.toNat, 0]

def k0_chk63 (v871 : BitVec 32) (v873 : BitVec 32) (v875 : BitVec 32) : Prop :=
  (∀ a, (k0_off126 v871 v873 v875) a + S1x16x16x64.size a ≤ S4x256x256x64.size a) ∧
  (∀ a, (k0_off191 v871 v873 v875) a + S1x16x16x64.size a ≤ S4x256x256x64.size a)
theorem k0_off126_inb : ∀ (v871 : BitVec 32) (v873 : BitVec 32) (v875 : BitVec 32) (k0_hw63 : k0_chk63 v871 v873 v875), ∀ a, (k0_off126 v871 v873 v875) a + S1x16x16x64.size a ≤ S4x256x256x64.size a := fun v871 v873 v875 k0_hw63 => k0_hw63.1
theorem k0_off191_inb : ∀ (v871 : BitVec 32) (v873 : BitVec 32) (v875 : BitVec 32) (k0_hw63 : k0_chk63 v871 v873 v875), ∀ a, (k0_off191 v871 v873 v875) a + S1x16x16x64.size a ≤ S4x256x256x64.size a := fun v871 v873 v875 k0_hw63 => k0_hw63.2

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S576x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1152x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S6272x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S64x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceIdeal.lean ====
abbrev S4x64x256x256 : Shape := ⟨4, ![4, 64, 256, 256]⟩
abbrev S4096x5 : Shape := ⟨2, ![4096, 5]⟩
abbrev S128x64x3x3 : Shape := ⟨4, ![128, 64, 3, 3]⟩
abbrev S128 : Shape := ⟨1, ![128]⟩
abbrev S128x128x3x3 : Shape := ⟨4, ![128, 128, 3, 3]⟩
abbrev S6272x256 : Shape := ⟨2, ![6272, 256]⟩
abbrev S256 : Shape := ⟨1, ![256]⟩
abbrev S256x1 : Shape := ⟨2, ![256, 1]⟩
abbrev S1 : Shape := ⟨1, ![1]⟩
abbrev S4x256x256x64 : Shape := ⟨4, ![4, 256, 256, 64]⟩
abbrev S4096x1 : Shape := ⟨2, ![4096, 1]⟩
abbrev S4096 : Shape := ⟨1, ![4096]⟩
abbrev S_ : Shape := ⟨0, ![]⟩
abbrev S14 : Shape := ⟨1, ![14]⟩
abbrev S1x14 : Shape := ⟨2, ![1, 14]⟩
abbrev S4096x14 : Shape := ⟨2, ![4096, 14]⟩
abbrev S4096x1x1 : Shape := ⟨3, ![4096, 1, 1]⟩
abbrev S4096x14x1 : Shape := ⟨3, ![4096, 14, 1]⟩
abbrev S4096x1x14 : Shape := ⟨3, ![4096, 1, 14]⟩
abbrev S4096x14x1x1 : Shape := ⟨4, ![4096, 14, 1, 1]⟩
abbrev S4096x1x14x1 : Shape := ⟨4, ![4096, 1, 14, 1]⟩
abbrev S4096x14x14x1 : Shape := ⟨4, ![4096, 14, 14, 1]⟩
abbrev S4096x14x14 : Shape := ⟨3, ![4096, 14, 14]⟩
abbrev S4096x14x14x3 : Shape := ⟨4, ![4096, 14, 14, 3]⟩
abbrev S4096x14x14x64 : Shape := ⟨4, ![4096, 14, 14, 64]⟩
abbrev S4096x7x2x7x2x64 : Shape := ⟨6, ![4096, 7, 2, 7, 2, 64]⟩
abbrev S4096x7x7x64 : Shape := ⟨4, ![4096, 7, 7, 64]⟩
abbrev S4096x64x7x7 : Shape := ⟨4, ![4096, 64, 7, 7]⟩
abbrev S4096x64x9x9 : Shape := ⟨4, ![4096, 64, 9, 9]⟩
abbrev S4096x128x7x7 : Shape := ⟨4, ![4096, 128, 7, 7]⟩
abbrev S128x64x1x1 : Shape := ⟨4, ![128, 64, 1, 1]⟩
abbrev S128x64 : Shape := ⟨2, ![128, 64]⟩
abbrev S128x4096x7x7 : Shape := ⟨4, ![128, 4096, 7, 7]⟩
abbrev S1x128x1x1 : Shape := ⟨4, ![1, 128, 1, 1]⟩
abbrev S4096x128x9x9 : Shape := ⟨4, ![4096, 128, 9, 9]⟩
abbrev S128x128x1x1 : Shape := ⟨4, ![128, 128, 1, 1]⟩
abbrev S128x128 : Shape := ⟨2, ![128, 128]⟩
abbrev S4096x6272 : Shape := ⟨2, ![4096, 6272]⟩
abbrev S4096x256 : Shape := ⟨2, ![4096, 256]⟩
abbrev S1x256 : Shape := ⟨2, ![1, 256]⟩
abbrev S1x1 : Shape := ⟨2, ![1, 1]⟩

abbrev nBuf : Space → Nat
  | .hbm => 432
  | .vmem => 0
  | .smem => 0
  | _ => 0

abbrev hbmTy0_0 (i : Nat) : BufTy := match i % 128 with
  | 0 => ⟨S4x64x256x256, .f32⟩
  | 1 => ⟨S4096x5, .f32⟩
  | 2 => ⟨S128x64x3x3, .f32⟩
  | 3 => ⟨S128, .f32⟩
  | 4 => ⟨S128x128x3x3, .f32⟩
  | 5 => ⟨S128, .f32⟩
  | 6 => ⟨S6272x256, .f32⟩
  | 7 => ⟨S256, .f32⟩
  | 8 => ⟨S256x1, .f32⟩
  | 9 => ⟨S1, .f32⟩
  | 10 => ⟨S4x256x256x64, .f32⟩
  | 11 => ⟨S4096x1, .f32⟩
  | 12 => ⟨S4096, .f32⟩
  | 13 => ⟨S4096, .i32⟩
  | 14 => ⟨S4096x1, .f32⟩
  | 15 => ⟨S4096, .f32⟩
  | 16 => ⟨S4096x1, .f32⟩
  | 17 => ⟨S4096, .f32⟩
  | 18 => ⟨S4096x1, .f32⟩
  | 19 => ⟨S4096, .f32⟩
  | 20 => ⟨S4096x1, .f32⟩
  | 21 => ⟨S4096, .f32⟩
  | 22 => ⟨S4096, .f32⟩
  | 23 => ⟨S_, .f32⟩
  | 24 => ⟨S4096, .f32⟩
  | 25 => ⟨S4096, .f32⟩
  | 26 => ⟨S_, .f32⟩
  | 27 => ⟨S4096, .f32⟩
  | 28 => ⟨S4096, .f32⟩
  | 29 => ⟨S4096, .f32⟩
  | 30 => ⟨S_, .f32⟩
  | 31 => ⟨S4096, .f32⟩
  | 32 => ⟨S4096, .f32⟩
  | 33 => ⟨S_, .f32⟩
  | 34 => ⟨S4096, .f32⟩
  | 35 => ⟨S4096, .f32⟩
  | 36 => ⟨S14, .i32⟩
  | 37 => ⟨S14, .f32⟩
  | 38 => ⟨S_, .f32⟩
  | 39 => ⟨S14, .f32⟩
  | 40 => ⟨S14, .f32⟩
  | 41 => ⟨S_, .f32⟩
  | 42 => ⟨S14, .f32⟩
  | 43 => ⟨S14, .f32⟩
  | 44 => ⟨S4096x1, .f32⟩
  | 45 => ⟨S4096x1, .f32⟩
  | 46 => ⟨S1x14, .f32⟩
  | 47 => ⟨S4096x14, .f32⟩
  | 48 => ⟨S4096x14, .f32⟩
  | 49 => ⟨S4096x14, .f32⟩
  | 50 => ⟨S4096x14, .f32⟩
  | 51 => ⟨S4096x14, .f32⟩
  | 52 => ⟨S4096x1, .f32⟩
  | 53 => ⟨S4096x1, .f32⟩
  | 54 => ⟨S1x14, .f32⟩
  | 55 => ⟨S4096x14, .f32⟩
  | 56 => ⟨S4096x14, .f32⟩
  | 57 => ⟨S4096x14, .f32⟩
  | 58 => ⟨S4096x14, .f32⟩
  | 59 => ⟨S4096x14, .f32⟩
  | 60 => ⟨S_, .f32⟩
  | 61 => ⟨S4096x14, .f32⟩
  | 62 => ⟨S4096x14, .i1⟩
  | 63 => ⟨S_, .f32⟩
  | 64 => ⟨S4096x14, .f32⟩
  | 65 => ⟨S4096x14, .i1⟩
  | 66 => ⟨S4096x14, .i1⟩
  | 67 => ⟨S_, .f32⟩
  | 68 => ⟨S_, .i32⟩
  | 69 => ⟨S_, .f32⟩
  | 70 => ⟨S4096x14, .f32⟩
  | 71 => ⟨S4096x14, .f32⟩
  | 72 => ⟨S_, .f32⟩
  | 73 => ⟨S4096x14, .f32⟩
  | 74 => ⟨S4096x14, .f32⟩
  | 75 => ⟨S4096x14, .f32⟩
  | 76 => ⟨S4096x14, .i32⟩
  | 77 => ⟨S_, .i32⟩
  | 78 => ⟨S4096x14, .i32⟩
  | 79 => ⟨S4096x14, .i32⟩
  | 80 => ⟨S_, .i32⟩
  | 81 => ⟨S4096x14, .i32⟩
  | 82 => ⟨S4096x14, .i32⟩
  | 83 => ⟨S4096x14, .f32⟩
  | 84 => ⟨S4096x14, .f32⟩
  | 85 => ⟨S_, .f32⟩
  | 86 => ⟨S4096x14, .f32⟩
  | 87 => ⟨S4096x14, .i1⟩
  | 88 => ⟨S_, .f32⟩
  | 89 => ⟨S4096x14, .f32⟩
  | 90 => ⟨S4096x14, .i1⟩
  | 91 => ⟨S4096x14, .i1⟩
  | 92 => ⟨S_, .f32⟩
  | 93 => ⟨S_, .i32⟩
  | 94 => ⟨S_, .f32⟩
  | 95 => ⟨S4096x14, .f32⟩
  | 96 => ⟨S4096x14, .f32⟩
  | 97 => ⟨S_, .f32⟩
  | 98 => ⟨S4096x14, .f32⟩
  | 99 => ⟨S4096x14, .f32⟩
  | 100 => ⟨S4096x14, .f32⟩
  | 101 => ⟨S4096x14, .i32⟩
  | 102 => ⟨S_, .i32⟩
  | 103 => ⟨S4096x14, .i32⟩
  | 104 => ⟨S4096x14, .i32⟩
  | 105 => ⟨S_, .i32⟩
  | 106 => ⟨S4096x14, .i32⟩
  | 107 => ⟨S4096x14, .i32⟩
  | 108 => ⟨S4096x14, .f32⟩
  | 109 => ⟨S4096x14, .f32⟩
  | 110 => ⟨S_, .f32⟩
  | 111 => ⟨S4096x14, .f32⟩
  | 112 => ⟨S4096x14, .f32⟩
  | 113 => ⟨S_, .f32⟩
  | 114 => ⟨S4096x14, .f32⟩
  | 115 => ⟨S4096x14, .f32⟩
  | 116 => ⟨S4096x1x1, .i32⟩
  | 117 => ⟨S4096x14x1, .i32⟩
  | 118 => ⟨S4096x14x1, .i32⟩
  | 119 => ⟨S4096x1x14, .i32⟩
  | 120 => ⟨S4096x1x14, .i32⟩
  | 121 => ⟨S4096x14x1x1, .f32⟩
  | 122 => ⟨S4096x14x1x1, .f32⟩
  | 123 => ⟨S4096x1x14x1, .f32⟩
  | 124 => ⟨S4096x1x14x1, .f32⟩
  | 125 => ⟨S4096x14x14x1, .f32⟩
  | 126 => ⟨S4096x14x14x1, .f32⟩
  | 127 => ⟨S4096x14x14x1, .f32⟩
  | _ => ⟨S4x64x256x256, .f32⟩

abbrev hbmTy0_1 (i : Nat) : BufTy := match i % 128 with
  | 0 => ⟨S_, .i32⟩
  | 1 => ⟨S4096x1x1, .i32⟩
  | 2 => ⟨S4096x1x1, .i1⟩
  | 3 => ⟨S_, .i32⟩
  | 4 => ⟨S4096x1x1, .i32⟩
  | 5 => ⟨S4096x1x1, .i32⟩
  | 6 => ⟨S4096x1x1, .i32⟩
  | 7 => ⟨S_, .i32⟩
  | 8 => ⟨S4096x14x1, .i32⟩
  | 9 => ⟨S4096x14x1, .i1⟩
  | 10 => ⟨S_, .i32⟩
  | 11 => ⟨S4096x14x1, .i32⟩
  | 12 => ⟨S4096x14x1, .i32⟩
  | 13 => ⟨S4096x14x1, .i32⟩
  | 14 => ⟨S_, .i32⟩
  | 15 => ⟨S4096x1x14, .i32⟩
  | 16 => ⟨S4096x1x14, .i1⟩
  | 17 => ⟨S_, .i32⟩
  | 18 => ⟨S4096x1x14, .i32⟩
  | 19 => ⟨S4096x1x14, .i32⟩
  | 20 => ⟨S4096x1x14, .i32⟩
  | 21 => ⟨S4096x14x14, .i32⟩
  | 22 => ⟨S4096x14x14, .i32⟩
  | 23 => ⟨S4096x14x14, .i32⟩
  | 24 => ⟨S4096x14x14x1, .i32⟩
  | 25 => ⟨S4096x14x14x1, .i32⟩
  | 26 => ⟨S4096x14x14x1, .i32⟩
  | 27 => ⟨S4096x14x14x3, .i32⟩
  | 28 => ⟨S4096x14x14x64, .f32⟩
  | 29 => ⟨S4096x14x14x64, .f32⟩
  | 30 => ⟨S4096x14x14x64, .f32⟩
  | 31 => ⟨S4096x14x14x1, .f32⟩
  | 32 => ⟨S4096x14x14x1, .f32⟩
  | 33 => ⟨S4096x14x14x1, .f32⟩
  | 34 => ⟨S_, .i32⟩
  | 35 => ⟨S4096x1x1, .i32⟩
  | 36 => ⟨S4096x1x1, .i1⟩
  | 37 => ⟨S_, .i32⟩
  | 38 => ⟨S4096x1x1, .i32⟩
  | 39 => ⟨S4096x1x1, .i32⟩
  | 40 => ⟨S4096x1x1, .i32⟩
  | 41 => ⟨S_, .i32⟩
  | 42 => ⟨S4096x14x1, .i32⟩
  | 43 => ⟨S4096x14x1, .i1⟩
  | 44 => ⟨S_, .i32⟩
  | 45 => ⟨S4096x14x1, .i32⟩
  | 46 => ⟨S4096x14x1, .i32⟩
  | 47 => ⟨S4096x14x1, .i32⟩
  | 48 => ⟨S_, .i32⟩
  | 49 => ⟨S4096x1x14, .i32⟩
  | 50 => ⟨S4096x1x14, .i1⟩
  | 51 => ⟨S_, .i32⟩
  | 52 => ⟨S4096x1x14, .i32⟩
  | 53 => ⟨S4096x1x14, .i32⟩
  | 54 => ⟨S4096x1x14, .i32⟩
  | 55 => ⟨S4096x14x14, .i32⟩
  | 56 => ⟨S4096x14x14, .i32⟩
  | 57 => ⟨S4096x14x14, .i32⟩
  | 58 => ⟨S4096x14x14x1, .i32⟩
  | 59 => ⟨S4096x14x14x1, .i32⟩
  | 60 => ⟨S4096x14x14x1, .i32⟩
  | 61 => ⟨S4096x14x14x3, .i32⟩
  | 62 => ⟨S4096x14x14x64, .f32⟩
  | 63 => ⟨S4096x14x14x64, .f32⟩
  | 64 => ⟨S4096x14x14x64, .f32⟩
  | 65 => ⟨S4096x14x14x64, .f32⟩
  | 66 => ⟨S4096x14x14x1, .f32⟩
  | 67 => ⟨S4096x14x14x1, .f32⟩
  | 68 => ⟨S4096x14x14x1, .f32⟩
  | 69 => ⟨S_, .i32⟩
  | 70 => ⟨S4096x1x1, .i32⟩
  | 71 => ⟨S4096x1x1, .i1⟩
  | 72 => ⟨S_, .i32⟩
  | 73 => ⟨S4096x1x1, .i32⟩
  | 74 => ⟨S4096x1x1, .i32⟩
  | 75 => ⟨S4096x1x1, .i32⟩
  | 76 => ⟨S_, .i32⟩
  | 77 => ⟨S4096x14x1, .i32⟩
  | 78 => ⟨S4096x14x1, .i1⟩
  | 79 => ⟨S_, .i32⟩
  | 80 => ⟨S4096x14x1, .i32⟩
  | 81 => ⟨S4096x14x1, .i32⟩
  | 82 => ⟨S4096x14x1, .i32⟩
  | 83 => ⟨S_, .i32⟩
  | 84 => ⟨S4096x1x14, .i32⟩
  | 85 => ⟨S4096x1x14, .i1⟩
  | 86 => ⟨S_, .i32⟩
  | 87 => ⟨S4096x1x14, .i32⟩
  | 88 => ⟨S4096x1x14, .i32⟩
  | 89 => ⟨S4096x1x14, .i32⟩
  | 90 => ⟨S4096x14x14, .i32⟩
  | 91 => ⟨S4096x14x14, .i32⟩
  | 92 => ⟨S4096x14x14, .i32⟩
  | 93 => ⟨S4096x14x14x1, .i32⟩
  | 94 => ⟨S4096x14x14x1, .i32⟩
  | 95 => ⟨S4096x14x14x1, .i32⟩
  | 96 => ⟨S4096x14x14x3, .i32⟩
  | 97 => ⟨S4096x14x14x64, .f32⟩
  | 98 => ⟨S4096x14x14x64, .f32⟩
  | 99 => ⟨S4096x14x14x64, .f32⟩
  | 100 => ⟨S4096x14x14x64, .f32⟩
  | 101 => ⟨S4096x14x14x1, .f32⟩
  | 102 => ⟨S4096x14x14x1, .f32⟩
  | 103 => ⟨S4096x14x14x1, .f32⟩
  | 104 => ⟨S_, .i32⟩
  | 105 => ⟨S4096x1x1, .i32⟩
  | 106 => ⟨S4096x1x1, .i1⟩
  | 107 => ⟨S_, .i32⟩
  | 108 => ⟨S4096x1x1, .i32⟩
  | 109 => ⟨S4096x1x1, .i32⟩
  | 110 => ⟨S4096x1x1, .i32⟩
  | 111 => ⟨S_, .i32⟩
  | 112 => ⟨S4096x14x1, .i32⟩
  | 113 => ⟨S4096x14x1, .i1⟩
  | 114 => ⟨S_, .i32⟩
  | 115 => ⟨S4096x14x1, .i32⟩
  | 116 => ⟨S4096x14x1, .i32⟩
  | 117 => ⟨S4096x14x1, .i32⟩
  | 118 => ⟨S_, .i32⟩
  | 119 => ⟨S4096x1x14, .i32⟩
  | 120 => ⟨S4096x1x14, .i1⟩
  | 121 => ⟨S_, .i32⟩
  | 122 => ⟨S4096x1x14, .i32⟩
  | 123 => ⟨S4096x1x14, .i32⟩
  | 124 => ⟨S4096x1x14, .i32⟩
  | 125 => ⟨S4096x14x14, .i32⟩
  | 126 => ⟨S4096x14x14, .i32⟩
  | 127 => ⟨S4096x14x14, .i32⟩
  | _ => ⟨S4x64x256x256, .f32⟩

abbrev hbmTy0_2 (i : Nat) : BufTy := match i % 128 with
  | 0 => ⟨S4096x14x14x1, .i32⟩
  | 1 => ⟨S4096x14x14x1, .i32⟩
  | 2 => ⟨S4096x14x14x1, .i32⟩
  | 3 => ⟨S4096x14x14x3, .i32⟩
  | 4 => ⟨S4096x14x14x64, .f32⟩
  | 5 => ⟨S4096x14x14x64, .f32⟩
  | 6 => ⟨S4096x14x14x64, .f32⟩
  | 7 => ⟨S4096x14x14x64, .f32⟩
  | 8 => ⟨S4096x14x1, .i1⟩
  | 9 => ⟨S4096x1x14, .i1⟩
  | 10 => ⟨S4096x14x14, .i1⟩
  | 11 => ⟨S4096x14x14, .i1⟩
  | 12 => ⟨S4096x14x14, .i1⟩
  | 13 => ⟨S4096x14x14x1, .i1⟩
  | 14 => ⟨S_, .f32⟩
  | 15 => ⟨S_, .f32⟩
  | 16 => ⟨S4096x14x14x64, .i1⟩
  | 17 => ⟨S4096x14x14x64, .f32⟩
  | 18 => ⟨S4096x14x14x64, .f32⟩
  | 19 => ⟨S4096x7x2x7x2x64, .f32⟩
  | 20 => ⟨S_, .f32⟩
  | 21 => ⟨S4096x7x7x64, .f32⟩
  | 22 => ⟨S_, .f32⟩
  | 23 => ⟨S4096x7x7x64, .f32⟩
  | 24 => ⟨S4096x7x7x64, .f32⟩
  | 25 => ⟨S4096x64x7x7, .f32⟩
  | 26 => ⟨S_, .i32⟩
  | 27 => ⟨S_, .f32⟩
  | 28 => ⟨S4096x64x9x9, .f32⟩
  | 29 => ⟨S_, .f32⟩
  | 30 => ⟨S4096x128x7x7, .f32⟩
  | 31 => ⟨S4096x64x7x7, .f32⟩
  | 32 => ⟨S128x64x1x1, .f32⟩
  | 33 => ⟨S128x64, .f32⟩
  | 34 => ⟨S128x4096x7x7, .f32⟩
  | 35 => ⟨S4096x128x7x7, .f32⟩
  | 36 => ⟨S4096x128x7x7, .f32⟩
  | 37 => ⟨S4096x64x7x7, .f32⟩
  | 38 => ⟨S128x64x1x1, .f32⟩
  | 39 => ⟨S128x64, .f32⟩
  | 40 => ⟨S128x4096x7x7, .f32⟩
  | 41 => ⟨S4096x128x7x7, .f32⟩
  | 42 => ⟨S4096x128x7x7, .f32⟩
  | 43 => ⟨S4096x64x7x7, .f32⟩
  | 44 => ⟨S128x64x1x1, .f32⟩
  | 45 => ⟨S128x64, .f32⟩
  | 46 => ⟨S128x4096x7x7, .f32⟩
  | 47 => ⟨S4096x128x7x7, .f32⟩
  | 48 => ⟨S4096x128x7x7, .f32⟩
  | 49 => ⟨S4096x64x7x7, .f32⟩
  | 50 => ⟨S128x64x1x1, .f32⟩
  | 51 => ⟨S128x64, .f32⟩
  | 52 => ⟨S128x4096x7x7, .f32⟩
  | 53 => ⟨S4096x128x7x7, .f32⟩
  | 54 => ⟨S4096x128x7x7, .f32⟩
  | 55 => ⟨S4096x64x7x7, .f32⟩
  | 56 => ⟨S128x64x1x1, .f32⟩
  | 57 => ⟨S128x64, .f32⟩
  | 58 => ⟨S128x4096x7x7, .f32⟩
  | 59 => ⟨S4096x128x7x7, .f32⟩
  | 60 => ⟨S4096x128x7x7, .f32⟩
  | 61 => ⟨S4096x64x7x7, .f32⟩
  | 62 => ⟨S128x64x1x1, .f32⟩
  | 63 => ⟨S128x64, .f32⟩
  | 64 => ⟨S128x4096x7x7, .f32⟩
  | 65 => ⟨S4096x128x7x7, .f32⟩
  | 66 => ⟨S4096x128x7x7, .f32⟩
  | 67 => ⟨S4096x64x7x7, .f32⟩
  | 68 => ⟨S128x64x1x1, .f32⟩
  | 69 => ⟨S128x64, .f32⟩
  | 70 => ⟨S128x4096x7x7, .f32⟩
  | 71 => ⟨S4096x128x7x7, .f32⟩
  | 72 => ⟨S4096x128x7x7, .f32⟩
  | 73 => ⟨S4096x64x7x7, .f32⟩
  | 74 => ⟨S128x64x1x1, .f32⟩
  | 75 => ⟨S128x64, .f32⟩
  | 76 => ⟨S128x4096x7x7, .f32⟩
  | 77 => ⟨S4096x128x7x7, .f32⟩
  | 78 => ⟨S4096x128x7x7, .f32⟩
  | 79 => ⟨S4096x64x7x7, .f32⟩
  | 80 => ⟨S128x64x1x1, .f32⟩
  | 81 => ⟨S128x64, .f32⟩
  | 82 => ⟨S128x4096x7x7, .f32⟩
  | 83 => ⟨S4096x128x7x7, .f32⟩
  | 84 => ⟨S4096x128x7x7, .f32⟩
  | 85 => ⟨S1x128x1x1, .f32⟩
  | 86 => ⟨S4096x128x7x7, .f32⟩
  | 87 => ⟨S4096x128x7x7, .f32⟩
  | 88 => ⟨S_, .f32⟩
  | 89 => ⟨S4096x128x7x7, .f32⟩
  | 90 => ⟨S4096x128x7x7, .f32⟩
  | 91 => ⟨S_, .i32⟩
  | 92 => ⟨S_, .f32⟩
  | 93 => ⟨S4096x128x9x9, .f32⟩
  | 94 => ⟨S_, .f32⟩
  | 95 => ⟨S4096x128x7x7, .f32⟩
  | 96 => ⟨S4096x128x7x7, .f32⟩
  | 97 => ⟨S128x128x1x1, .f32⟩
  | 98 => ⟨S128x128, .f32⟩
  | 99 => ⟨S128x4096x7x7, .f32⟩
  | 100 => ⟨S4096x128x7x7, .f32⟩
  | 101 => ⟨S4096x128x7x7, .f32⟩
  | 102 => ⟨S4096x128x7x7, .f32⟩
  | 103 => ⟨S128x128x1x1, .f32⟩
  | 104 => ⟨S128x128, .f32⟩
  | 105 => ⟨S128x4096x7x7, .f32⟩
  | 106 => ⟨S4096x128x7x7, .f32⟩
  | 107 => ⟨S4096x128x7x7, .f32⟩
  | 108 => ⟨S4096x128x7x7, .f32⟩
  | 109 => ⟨S128x128x1x1, .f32⟩
  | 110 => ⟨S128x128, .f32⟩
  | 111 => ⟨S128x4096x7x7, .f32⟩
  | 112 => ⟨S4096x128x7x7, .f32⟩
  | 113 => ⟨S4096x128x7x7, .f32⟩
  | 114 => ⟨S4096x128x7x7, .f32⟩
  | 115 => ⟨S128x128x1x1, .f32⟩
  | 116 => ⟨S128x128, .f32⟩
  | 117 => ⟨S128x4096x7x7, .f32⟩
  | 118 => ⟨S4096x128x7x7, .f32⟩
  | 119 => ⟨S4096x128x7x7, .f32⟩
  | 120 => ⟨S4096x128x7x7, .f32⟩
  | 121 => ⟨S128x128x1x1, .f32⟩
  | 122 => ⟨S128x128, .f32⟩
  | 123 => ⟨S128x4096x7x7, .f32⟩
  | 124 => ⟨S4096x128x7x7, .f32⟩
  | 125 => ⟨S4096x128x7x7, .f32⟩
  | 126 => ⟨S4096x128x7x7, .f32⟩
  | 127 => ⟨S128x128x1x1, .f32⟩
  | _ => ⟨S4x64x256x256, .f32⟩

abbrev hbmTy0_3 (i : Nat) : BufTy := match i % 128 with
  | 0 => ⟨S128x128, .f32⟩
  | 1 => ⟨S128x4096x7x7, .f32⟩
  | 2 => ⟨S4096x128x7x7, .f32⟩
  | 3 => ⟨S4096x128x7x7, .f32⟩
  | 4 => ⟨S4096x128x7x7, .f32⟩
  | 5 => ⟨S128x128x1x1, .f32⟩
  | 6 => ⟨S128x128, .f32⟩
  | 7 => ⟨S128x4096x7x7, .f32⟩
  | 8 => ⟨S4096x128x7x7, .f32⟩
  | 9 => ⟨S4096x128x7x7, .f32⟩
  | 10 => ⟨S4096x128x7x7, .f32⟩
  | 11 => ⟨S128x128x1x1, .f32⟩
  | 12 => ⟨S128x128, .f32⟩
  | 13 => ⟨S128x4096x7x7, .f32⟩
  | 14 => ⟨S4096x128x7x7, .f32⟩
  | 15 => ⟨S4096x128x7x7, .f32⟩
  | 16 => ⟨S4096x128x7x7, .f32⟩
  | 17 => ⟨S128x128x1x1, .f32⟩
  | 18 => ⟨S128x128, .f32⟩
  | 19 => ⟨S128x4096x7x7, .f32⟩
  | 20 => ⟨S4096x128x7x7, .f32⟩
  | 21 => ⟨S4096x128x7x7, .f32⟩
  | 22 => ⟨S1x128x1x1, .f32⟩
  | 23 => ⟨S4096x128x7x7, .f32⟩
  | 24 => ⟨S4096x128x7x7, .f32⟩
  | 25 => ⟨S_, .f32⟩
  | 26 => ⟨S4096x128x7x7, .f32⟩
  | 27 => ⟨S4096x128x7x7, .f32⟩
  | 28 => ⟨S4096x6272, .f32⟩
  | 29 => ⟨S4096x256, .f32⟩
  | 30 => ⟨S1x256, .f32⟩
  | 31 => ⟨S4096x256, .f32⟩
  | 32 => ⟨S4096x256, .f32⟩
  | 33 => ⟨S_, .f32⟩
  | 34 => ⟨S4096x256, .f32⟩
  | 35 => ⟨S4096x256, .f32⟩
  | 36 => ⟨S4096x1, .f32⟩
  | 37 => ⟨S1x1, .f32⟩
  | 38 => ⟨S4096x1, .f32⟩
  | 39 => ⟨S4096x1, .f32⟩
  | 40 => ⟨S4096x1, .f32⟩
  | 41 => ⟨S4096x1, .f32⟩
  | 42 => ⟨S_, .f32⟩
  | 43 => ⟨S4096x1, .f32⟩
  | 44 => ⟨S4096x1, .f32⟩
  | 45 => ⟨S_, .f32⟩
  | 46 => ⟨S4096x1, .f32⟩
  | 47 => ⟨S4096x1, .f32⟩
  | _ => ⟨S4x64x256x256, .f32⟩

abbrev hbmTy (i : Nat) : BufTy := match i / 128 with
  | 0 => hbmTy0_0 i
  | 1 => hbmTy0_1 i
  | 2 => hbmTy0_2 i
  | 3 => hbmTy0_3 i
  | _ => ⟨S4x64x256x256, .f32⟩

abbrev bufTy : (tb : Table) → Fin (tcTables nBuf tb) → BufTy
  | .hbm, ⟨i, _⟩ => hbmTy i
  | _, _ => ⟨S4x64x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst : Ref sig .tc := ⟨.hbm, 23, rfl⟩
abbrev main_v13 : Ref sig .tc := ⟨.hbm, 24, rfl⟩
abbrev main_v14 : Ref sig .tc := ⟨.hbm, 25, rfl⟩
abbrev main_cst_0 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_1 : Ref sig .tc := ⟨.hbm, 30, rfl⟩
abbrev main_v18 : Ref sig .tc := ⟨.hbm, 31, rfl⟩
abbrev main_v19 : Ref sig .tc := ⟨.hbm, 32, rfl⟩
abbrev main_cst_2 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_3 : Ref sig .tc := ⟨.hbm, 38, rfl⟩
abbrev main_v24 : Ref sig .tc := ⟨.hbm, 39, rfl⟩
abbrev main_v25 : Ref sig .tc := ⟨.hbm, 40, rfl⟩
abbrev main_cst_4 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_5 : Ref sig .tc := ⟨.hbm, 60, rfl⟩
abbrev main_v44 : Ref sig .tc := ⟨.hbm, 61, rfl⟩
abbrev main_v45 : Ref sig .tc := ⟨.hbm, 62, rfl⟩
abbrev main_cst_6 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_7 : Ref sig .tc := ⟨.hbm, 67, rfl⟩
abbrev main_c : Ref sig .tc := ⟨.hbm, 68, rfl⟩
abbrev main_call0_v0 : Ref sig .tc := ⟨.hbm, 69, rfl⟩
abbrev main_call0_v1 : Ref sig .tc := ⟨.hbm, 70, rfl⟩
abbrev main_call0_v2 : Ref sig .tc := ⟨.hbm, 71, rfl⟩
abbrev main_call0_v3 : Ref sig .tc := ⟨.hbm, 72, rfl⟩
abbrev main_call0_v4 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_c_8 : Ref sig .tc := ⟨.hbm, 77, rfl⟩
abbrev main_v52 : Ref sig .tc := ⟨.hbm, 78, rfl⟩
abbrev main_v53 : Ref sig .tc := ⟨.hbm, 79, rfl⟩
abbrev main_c_9 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_cst_10 : Ref sig .tc := ⟨.hbm, 85, rfl⟩
abbrev main_v58 : Ref sig .tc := ⟨.hbm, 86, rfl⟩
abbrev main_v59 : Ref sig .tc := ⟨.hbm, 87, rfl⟩
abbrev main_cst_11 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_cst_12 : Ref sig .tc := ⟨.hbm, 92, rfl⟩
abbrev main_c_13 : Ref sig .tc := ⟨.hbm, 93, rfl⟩
abbrev main_call1_v0 : Ref sig .tc := ⟨.hbm, 94, rfl⟩
abbrev main_call1_v1 : Ref sig .tc := ⟨.hbm, 95, rfl⟩
abbrev main_call1_v2 : Ref sig .tc := ⟨.hbm, 96, rfl⟩
abbrev main_call1_v3 : Ref sig .tc := ⟨.hbm, 97, rfl⟩
abbrev main_call1_v4 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_c_14 : Ref sig .tc := ⟨.hbm, 102, rfl⟩
abbrev main_v66 : Ref sig .tc := ⟨.hbm, 103, rfl⟩
abbrev main_v67 : Ref sig .tc := ⟨.hbm, 104, rfl⟩
abbrev main_c_15 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_cst_16 : Ref sig .tc := ⟨.hbm, 110, rfl⟩
abbrev main_v72 : Ref sig .tc := ⟨.hbm, 111, rfl⟩
abbrev main_v73 : Ref sig .tc := ⟨.hbm, 112, rfl⟩
abbrev main_cst_17 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_c_18 : Ref sig .tc := ⟨.hbm, 128, rfl⟩
abbrev main_v88 : Ref sig .tc := ⟨.hbm, 129, rfl⟩
abbrev main_v89 : Ref sig .tc := ⟨.hbm, 130, rfl⟩
abbrev main_c_19 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_c_20 : Ref sig .tc := ⟨.hbm, 135, rfl⟩
abbrev main_v93 : Ref sig .tc := ⟨.hbm, 136, rfl⟩
abbrev main_v94 : Ref sig .tc := ⟨.hbm, 137, rfl⟩
abbrev main_c_21 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_c_22 : Ref sig .tc := ⟨.hbm, 142, rfl⟩
abbrev main_v98 : Ref sig .tc := ⟨.hbm, 143, rfl⟩
abbrev main_v99 : Ref sig .tc := ⟨.hbm, 144, rfl⟩
abbrev main_c_23 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_c_24 : Ref sig .tc := ⟨.hbm, 162, rfl⟩
abbrev main_v116 : Ref sig .tc := ⟨.hbm, 163, rfl⟩
abbrev main_v117 : Ref sig .tc := ⟨.hbm, 164, rfl⟩
abbrev main_c_25 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩
abbrev main_c_26 : Ref sig .tc := ⟨.hbm, 169, rfl⟩
abbrev main_v121 : Ref sig .tc := ⟨.hbm, 170, rfl⟩
abbrev main_v122 : Ref sig .tc := ⟨.hbm, 171, rfl⟩
abbrev main_c_27 : Ref sig .tc := ⟨.hbm, 172, rfl⟩
abbrev main_v123 : Ref sig .tc := ⟨.hbm, 173, rfl⟩
abbrev main_v124 : Ref sig .tc := ⟨.hbm, 174, rfl⟩
abbrev main_v125 : Ref sig .tc := ⟨.hbm, 175, rfl⟩
abbrev main_c_28 : Ref sig .tc := ⟨.hbm, 176, rfl⟩
abbrev main_v126 : Ref sig .tc := ⟨.hbm, 177, rfl⟩
abbrev main_v127 : Ref sig .tc := ⟨.hbm, 178, rfl⟩
abbrev main_c_29 : Ref sig .tc := ⟨.hbm, 179, rfl⟩
abbrev main_v128 : Ref sig .tc := ⟨.hbm, 180, rfl⟩
abbrev main_v129 : Ref sig .tc := ⟨.hbm, 181, rfl⟩
abbrev main_v130 : Ref sig .tc := ⟨.hbm, 182, rfl⟩
abbrev main_v131 : Ref sig .tc := ⟨.hbm, 183, rfl⟩
abbrev main_v132 : Ref sig .tc := ⟨.hbm, 184, rfl⟩
abbrev main_v133 : Ref sig .tc := ⟨.hbm, 185, rfl⟩
abbrev main_v134 : Ref sig .tc := ⟨.hbm, 186, rfl⟩
abbrev main_v135 : Ref sig .tc := ⟨.hbm, 187, rfl⟩
abbrev main_v136 : Ref sig .tc := ⟨.hbm, 188, rfl⟩
abbrev main_v137 : Ref sig .tc := ⟨.hbm, 189, rfl⟩
abbrev main_v138 : Ref sig .tc := ⟨.hbm, 190, rfl⟩
abbrev main_v139 : Ref sig .tc := ⟨.hbm, 191, rfl⟩
abbrev main_v140 : Ref sig .tc := ⟨.hbm, 192, rfl⟩
abbrev main_v141 : Ref sig .tc := ⟨.hbm, 193, rfl⟩
abbrev main_v142 : Ref sig .tc := ⟨.hbm, 194, rfl⟩
abbrev main_v143 : Ref sig .tc := ⟨.hbm, 195, rfl⟩
abbrev main_v144 : Ref sig .tc := ⟨.hbm, 196, rfl⟩
abbrev main_c_30 : Ref sig .tc := ⟨.hbm, 197, rfl⟩
abbrev main_v145 : Ref sig .tc := ⟨.hbm, 198, rfl⟩
abbrev main_v146 : Ref sig .tc := ⟨.hbm, 199, rfl⟩
abbrev main_c_31 : Ref sig .tc := ⟨.hbm, 200, rfl⟩
abbrev main_v147 : Ref sig .tc := ⟨.hbm, 201, rfl⟩
abbrev main_v148 : Ref sig .tc := ⟨.hbm, 202, rfl⟩
abbrev main_v149 : Ref sig .tc := ⟨.hbm, 203, rfl⟩
abbrev main_c_32 : Ref sig .tc := ⟨.hbm, 204, rfl⟩
abbrev main_v150 : Ref sig .tc := ⟨.hbm, 205, rfl⟩
abbrev main_v151 : Ref sig .tc := ⟨.hbm, 206, rfl⟩
abbrev main_c_33 : Ref sig .tc := ⟨.hbm, 207, rfl⟩
abbrev main_v152 : Ref sig .tc := ⟨.hbm, 208, rfl⟩
abbrev main_v153 : Ref sig .tc := ⟨.hbm, 209, rfl⟩
abbrev main_v154 : Ref sig .tc := ⟨.hbm, 210, rfl⟩
abbrev main_c_34 : Ref sig .tc := ⟨.hbm, 211, rfl⟩
abbrev main_v155 : Ref sig .tc := ⟨.hbm, 212, rfl⟩
abbrev main_v156 : Ref sig .tc := ⟨.hbm, 213, rfl⟩
abbrev main_c_35 : Ref sig .tc := ⟨.hbm, 214, rfl⟩
abbrev main_v157 : Ref sig .tc := ⟨.hbm, 215, rfl⟩
abbrev main_v158 : Ref sig .tc := ⟨.hbm, 216, rfl⟩
abbrev main_v159 : Ref sig .tc := ⟨.hbm, 217, rfl⟩
abbrev main_v160 : Ref sig .tc := ⟨.hbm, 218, rfl⟩
abbrev main_v161 : Ref sig .tc := ⟨.hbm, 219, rfl⟩
abbrev main_v162 : Ref sig .tc := ⟨.hbm, 220, rfl⟩
abbrev main_v163 : Ref sig .tc := ⟨.hbm, 221, rfl⟩
abbrev main_v164 : Ref sig .tc := ⟨.hbm, 222, rfl⟩
abbrev main_v165 : Ref sig .tc := ⟨.hbm, 223, rfl⟩
abbrev main_v166 : Ref sig .tc := ⟨.hbm, 224, rfl⟩
abbrev main_v167 : Ref sig .tc := ⟨.hbm, 225, rfl⟩
abbrev main_v168 : Ref sig .tc := ⟨.hbm, 226, rfl⟩
abbrev main_v169 : Ref sig .tc := ⟨.hbm, 227, rfl⟩
abbrev main_v170 : Ref sig .tc := ⟨.hbm, 228, rfl⟩
abbrev main_v171 : Ref sig .tc := ⟨.hbm, 229, rfl⟩
abbrev main_v172 : Ref sig .tc := ⟨.hbm, 230, rfl⟩
abbrev main_v173 : Ref sig .tc := ⟨.hbm, 231, rfl⟩
abbrev main_c_36 : Ref sig .tc := ⟨.hbm, 232, rfl⟩
abbrev main_v174 : Ref sig .tc := ⟨.hbm, 233, rfl⟩
abbrev main_v175 : Ref sig .tc := ⟨.hbm, 234, rfl⟩
abbrev main_c_37 : Ref sig .tc := ⟨.hbm, 235, rfl⟩
abbrev main_v176 : Ref sig .tc := ⟨.hbm, 236, rfl⟩
abbrev main_v177 : Ref sig .tc := ⟨.hbm, 237, rfl⟩
abbrev main_v178 : Ref sig .tc := ⟨.hbm, 238, rfl⟩
abbrev main_c_38 : Ref sig .tc := ⟨.hbm, 239, rfl⟩
abbrev main_v179 : Ref sig .tc := ⟨.hbm, 240, rfl⟩
abbrev main_v180 : Ref sig .tc := ⟨.hbm, 241, rfl⟩
abbrev main_c_39 : Ref sig .tc := ⟨.hbm, 242, rfl⟩
abbrev main_v181 : Ref sig .tc := ⟨.hbm, 243, rfl⟩
abbrev main_v182 : Ref sig .tc := ⟨.hbm, 244, rfl⟩
abbrev main_v183 : Ref sig .tc := ⟨.hbm, 245, rfl⟩
abbrev main_c_40 : Ref sig .tc := ⟨.hbm, 246, rfl⟩
abbrev main_v184 : Ref sig .tc := ⟨.hbm, 247, rfl⟩
abbrev main_v185 : Ref sig .tc := ⟨.hbm, 248, rfl⟩
abbrev main_c_41 : Ref sig .tc := ⟨.hbm, 249, rfl⟩
abbrev main_v186 : Ref sig .tc := ⟨.hbm, 250, rfl⟩
abbrev main_v187 : Ref sig .tc := ⟨.hbm, 251, rfl⟩
abbrev main_v188 : Ref sig .tc := ⟨.hbm, 252, rfl⟩
abbrev main_v189 : Ref sig .tc := ⟨.hbm, 253, rfl⟩
abbrev main_v190 : Ref sig .tc := ⟨.hbm, 254, rfl⟩
abbrev main_v191 : Ref sig .tc := ⟨.hbm, 255, rfl⟩
abbrev main_v192 : Ref sig .tc := ⟨.hbm, 256, rfl⟩
abbrev main_v193 : Ref sig .tc := ⟨.hbm, 257, rfl⟩
abbrev main_v194 : Ref sig .tc := ⟨.hbm, 258, rfl⟩
abbrev main_v195 : Ref sig .tc := ⟨.hbm, 259, rfl⟩
abbrev main_v196 : Ref sig .tc := ⟨.hbm, 260, rfl⟩
abbrev main_v197 : Ref sig .tc := ⟨.hbm, 261, rfl⟩
abbrev main_v198 : Ref sig .tc := ⟨.hbm, 262, rfl⟩
abbrev main_v199 : Ref sig .tc := ⟨.hbm, 263, rfl⟩
abbrev main_v200 : Ref sig .tc := ⟨.hbm, 264, rfl⟩
abbrev main_v201 : Ref sig .tc := ⟨.hbm, 265, rfl⟩
abbrev main_v202 : Ref sig .tc := ⟨.hbm, 266, rfl⟩
abbrev main_v203 : Ref sig .tc := ⟨.hbm, 267, rfl⟩
abbrev main_v204 : Ref sig .tc := ⟨.hbm, 268, rfl⟩
abbrev main_v205 : Ref sig .tc := ⟨.hbm, 269, rfl⟩
abbrev main_cst_42 : Ref sig .tc := ⟨.hbm, 270, rfl⟩
abbrev main_call2_v0 : Ref sig .tc := ⟨.hbm, 271, rfl⟩
abbrev main_call2_v1 : Ref sig .tc := ⟨.hbm, 272, rfl⟩
abbrev main_call2_v2 : Ref sig .tc := ⟨.hbm, 273, rfl⟩
abbrev main_v206 : Ref sig .tc := ⟨.hbm, 274, rfl⟩
abbrev main_v207 : Ref sig .tc := ⟨.hbm, 275, rfl⟩
abbrev main_cst_43 : Ref sig .tc := ⟨.hbm, 276, rfl⟩
abbrev main_v208 : Ref sig .tc := ⟨.hbm, 277, rfl⟩
abbrev main_cst_44 : Ref sig .tc := ⟨.hbm, 278, rfl⟩
abbrev main_v209 : Ref sig .tc := ⟨.hbm, 279, rfl⟩
abbrev main_v210 : Ref sig .tc := ⟨.hbm, 280, rfl⟩
abbrev main_v211 : Ref sig .tc := ⟨.hbm, 281, rfl⟩
abbrev main_c_45 : Ref sig .tc := ⟨.hbm, 282, rfl⟩
abbrev main_call3_v0 : Ref sig .tc := ⟨.hbm, 283, rfl⟩
abbrev main_v212 : Ref sig .tc := ⟨.hbm, 284, rfl⟩
abbrev main_cst_46 : Ref sig .tc := ⟨.hbm, 285, rfl⟩
abbrev main_v213 : Ref sig .tc := ⟨.hbm, 286, rfl⟩
abbrev main_v214 : Ref sig .tc := ⟨.hbm, 287, rfl⟩
abbrev main_v215 : Ref sig .tc := ⟨.hbm, 288, rfl⟩
abbrev main_v216 : Ref sig .tc := ⟨.hbm, 289, rfl⟩
abbrev main_v217 : Ref sig .tc := ⟨.hbm, 290, rfl⟩
abbrev main_v218 : Ref sig .tc := ⟨.hbm, 291, rfl⟩
abbrev main_v219 : Ref sig .tc := ⟨.hbm, 292, rfl⟩
abbrev main_v220 : Ref sig .tc := ⟨.hbm, 293, rfl⟩
abbrev main_v221 : Ref sig .tc := ⟨.hbm, 294, rfl⟩
abbrev main_v222 : Ref sig .tc := ⟨.hbm, 295, rfl⟩
abbrev main_v223 : Ref sig .tc := ⟨.hbm, 296, rfl⟩
abbrev main_v224 : Ref sig .tc := ⟨.hbm, 297, rfl⟩
abbrev main_v225 : Ref sig .tc := ⟨.hbm, 298, rfl⟩
abbrev main_v226 : Ref sig .tc := ⟨.hbm, 299, rfl⟩
abbrev main_v227 : Ref sig .tc := ⟨.hbm, 300, rfl⟩
abbrev main_v228 : Ref sig .tc := ⟨.hbm, 301, rfl⟩
abbrev main_v229 : Ref sig .tc := ⟨.hbm, 302, rfl⟩
abbrev main_v230 : Ref sig .tc := ⟨.hbm, 303, rfl⟩
abbrev main_v231 : Ref sig .tc := ⟨.hbm, 304, rfl⟩
abbrev main_v232 : Ref sig .tc := ⟨.hbm, 305, rfl⟩
abbrev main_v233 : Ref sig .tc := ⟨.hbm, 306, rfl⟩
abbrev main_v234 : Ref sig .tc := ⟨.hbm, 307, rfl⟩
abbrev main_v235 : Ref sig .tc := ⟨.hbm, 308, rfl⟩
abbrev main_v236 : Ref sig .tc := ⟨.hbm, 309, rfl⟩
abbrev main_v237 : Ref sig .tc := ⟨.hbm, 310, rfl⟩
abbrev main_v238 : Ref sig .tc := ⟨.hbm, 311, rfl⟩
abbrev main_v239 : Ref sig .tc := ⟨.hbm, 312, rfl⟩
abbrev main_v240 : Ref sig .tc := ⟨.hbm, 313, rfl⟩
abbrev main_v241 : Ref sig .tc := ⟨.hbm, 314, rfl⟩
abbrev main_v242 : Ref sig .tc := ⟨.hbm, 315, rfl⟩
abbrev main_v243 : Ref sig .tc := ⟨.hbm, 316, rfl⟩
abbrev main_v244 : Ref sig .tc := ⟨.hbm, 317, rfl⟩
abbrev main_v245 : Ref sig .tc := ⟨.hbm, 318, rfl⟩
abbrev main_v246 : Ref sig .tc := ⟨.hbm, 319, rfl⟩
abbrev main_v247 : Ref sig .tc := ⟨.hbm, 320, rfl⟩
abbrev main_v248 : Ref sig .tc := ⟨.hbm, 321, rfl⟩
abbrev main_v249 : Ref sig .tc := ⟨.hbm, 322, rfl⟩
abbrev main_v250 : Ref sig .tc := ⟨.hbm, 323, rfl⟩
abbrev main_v251 : Ref sig .tc := ⟨.hbm, 324, rfl⟩
abbrev main_v252 : Ref sig .tc := ⟨.hbm, 325, rfl⟩
abbrev main_v253 : Ref sig .tc := ⟨.hbm, 326, rfl⟩
abbrev main_v254 : Ref sig .tc := ⟨.hbm, 327, rfl⟩
abbrev main_v255 : Ref sig .tc := ⟨.hbm, 328, rfl⟩
abbrev main_v256 : Ref sig .tc := ⟨.hbm, 329, rfl⟩
abbrev main_v257 : Ref sig .tc := ⟨.hbm, 330, rfl⟩
abbrev main_v258 : Ref sig .tc := ⟨.hbm, 331, rfl⟩
abbrev main_v259 : Ref sig .tc := ⟨.hbm, 332, rfl⟩
abbrev main_v260 : Ref sig .tc := ⟨.hbm, 333, rfl⟩
abbrev main_v261 : Ref sig .tc := ⟨.hbm, 334, rfl⟩
abbrev main_v262 : Ref sig .tc := ⟨.hbm, 335, rfl⟩
abbrev main_v263 : Ref sig .tc := ⟨.hbm, 336, rfl⟩
abbrev main_v264 : Ref sig .tc := ⟨.hbm, 337, rfl⟩
abbrev main_v265 : Ref sig .tc := ⟨.hbm, 338, rfl⟩
abbrev main_v266 : Ref sig .tc := ⟨.hbm, 339, rfl⟩
abbrev main_v267 : Ref sig .tc := ⟨.hbm, 340, rfl⟩
abbrev main_v268 : Ref sig .tc := ⟨.hbm, 341, rfl⟩
abbrev main_v269 : Ref sig .tc := ⟨.hbm, 342, rfl⟩
abbrev main_v270 : Ref sig .tc := ⟨.hbm, 343, rfl⟩
abbrev main_call4_cst : Ref sig .tc := ⟨.hbm, 344, rfl⟩
abbrev main_call4_v0 : Ref sig .tc := ⟨.hbm, 345, rfl⟩
abbrev main_v271 : Ref sig .tc := ⟨.hbm, 346, rfl⟩
abbrev main_c_47 : Ref sig .tc := ⟨.hbm, 347, rfl⟩
abbrev main_call5_v0 : Ref sig .tc := ⟨.hbm, 348, rfl⟩
abbrev main_v272 : Ref sig .tc := ⟨.hbm, 349, rfl⟩
abbrev main_cst_48 : Ref sig .tc := ⟨.hbm, 350, rfl⟩
abbrev main_v273 : Ref sig .tc := ⟨.hbm, 351, rfl⟩
abbrev main_v274 : Ref sig .tc := ⟨.hbm, 352, rfl⟩
abbrev main_v275 : Ref sig .tc := ⟨.hbm, 353, rfl⟩
abbrev main_v276 : Ref sig .tc := ⟨.hbm, 354, rfl⟩
abbrev main_v277 : Ref sig .tc := ⟨.hbm, 355, rfl⟩
abbrev main_v278 : Ref sig .tc := ⟨.hbm, 356, rfl⟩
abbrev main_v279 : Ref sig .tc := ⟨.hbm, 357, rfl⟩
abbrev main_v280 : Ref sig .tc := ⟨.hbm, 358, rfl⟩
abbrev main_v281 : Ref sig .tc := ⟨.hbm, 359, rfl⟩
abbrev main_v282 : Ref sig .tc := ⟨.hbm, 360, rfl⟩
abbrev main_v283 : Ref sig .tc := ⟨.hbm, 361, rfl⟩
abbrev main_v284 : Ref sig .tc := ⟨.hbm, 362, rfl⟩
abbrev main_v285 : Ref sig .tc := ⟨.hbm, 363, rfl⟩
abbrev main_v286 : Ref sig .tc := ⟨.hbm, 364, rfl⟩
abbrev main_v287 : Ref sig .tc := ⟨.hbm, 365, rfl⟩
abbrev main_v288 : Ref sig .tc := ⟨.hbm, 366, rfl⟩
abbrev main_v289 : Ref sig .tc := ⟨.hbm, 367, rfl⟩
abbrev main_v290 : Ref sig .tc := ⟨.hbm, 368, rfl⟩
abbrev main_v291 : Ref sig .tc := ⟨.hbm, 369, rfl⟩
abbrev main_v292 : Ref sig .tc := ⟨.hbm, 370, rfl⟩
abbrev main_v293 : Ref sig .tc := ⟨.hbm, 371, rfl⟩
abbrev main_v294 : Ref sig .tc := ⟨.hbm, 372, rfl⟩
abbrev main_v295 : Ref sig .tc := ⟨.hbm, 373, rfl⟩
abbrev main_v296 : Ref sig .tc := ⟨.hbm, 374, rfl⟩
abbrev main_v297 : Ref sig .tc := ⟨.hbm, 375, rfl⟩
abbrev main_v298 : Ref sig .tc := ⟨.hbm, 376, rfl⟩
abbrev main_v299 : Ref sig .tc := ⟨.hbm, 377, rfl⟩
abbrev main_v300 : Ref sig .tc := ⟨.hbm, 378, rfl⟩
abbrev main_v301 : Ref sig .tc := ⟨.hbm, 379, rfl⟩
abbrev main_v302 : Ref sig .tc := ⟨.hbm, 380, rfl⟩
abbrev main_v303 : Ref sig .tc := ⟨.hbm, 381, rfl⟩
abbrev main_v304 : Ref sig .tc := ⟨.hbm, 382, rfl⟩
abbrev main_v305 : Ref sig .tc := ⟨.hbm, 383, rfl⟩
abbrev main_v306 : Ref sig .tc := ⟨.hbm, 384, rfl⟩
abbrev main_v307 : Ref sig .tc := ⟨.hbm, 385, rfl⟩
abbrev main_v308 : Ref sig .tc := ⟨.hbm, 386, rfl⟩
abbrev main_v309 : Ref sig .tc := ⟨.hbm, 387, rfl⟩
abbrev main_v310 : Ref sig .tc := ⟨.hbm, 388, rfl⟩
abbrev main_v311 : Ref sig .tc := ⟨.hbm, 389, rfl⟩
abbrev main_v312 : Ref sig .tc := ⟨.hbm, 390, rfl⟩
abbrev main_v313 : Ref sig .tc := ⟨.hbm, 391, rfl⟩
abbrev main_v314 : Ref sig .tc := ⟨.hbm, 392, rfl⟩
abbrev main_v315 : Ref sig .tc := ⟨.hbm, 393, rfl⟩
abbrev main_v316 : Ref sig .tc := ⟨.hbm, 394, rfl⟩
abbrev main_v317 : Ref sig .tc := ⟨.hbm, 395, rfl⟩
abbrev main_v318 : Ref sig .tc := ⟨.hbm, 396, rfl⟩
abbrev main_v319 : Ref sig .tc := ⟨.hbm, 397, rfl⟩
abbrev main_v320 : Ref sig .tc := ⟨.hbm, 398, rfl⟩
abbrev main_v321 : Ref sig .tc := ⟨.hbm, 399, rfl⟩
abbrev main_v322 : Ref sig .tc := ⟨.hbm, 400, rfl⟩
abbrev main_v323 : Ref sig .tc := ⟨.hbm, 401, rfl⟩
abbrev main_v324 : Ref sig .tc := ⟨.hbm, 402, rfl⟩
abbrev main_v325 : Ref sig .tc := ⟨.hbm, 403, rfl⟩
abbrev main_v326 : Ref sig .tc := ⟨.hbm, 404, rfl⟩
abbrev main_v327 : Ref sig .tc := ⟨.hbm, 405, rfl⟩
abbrev main_v328 : Ref sig .tc := ⟨.hbm, 406, rfl⟩
abbrev main_v329 : Ref sig .tc := ⟨.hbm, 407, rfl⟩
abbrev main_v330 : Ref sig .tc := ⟨.hbm, 408, rfl⟩
abbrev main_call6_cst : Ref sig .tc := ⟨.hbm, 409, rfl⟩
abbrev main_call6_v0 : Ref sig .tc := ⟨.hbm, 410, rfl⟩
abbrev main_v331 : Ref sig .tc := ⟨.hbm, 411, rfl⟩
abbrev main_v332 : Ref sig .tc := ⟨.hbm, 412, rfl⟩
abbrev main_v333 : Ref sig .tc := ⟨.hbm, 413, rfl⟩
abbrev main_v334 : Ref sig .tc := ⟨.hbm, 414, rfl⟩
abbrev main_v335 : Ref sig .tc := ⟨.hbm, 415, rfl⟩
abbrev main_v336 : Ref sig .tc := ⟨.hbm, 416, rfl⟩
abbrev main_call7_cst : Ref sig .tc := ⟨.hbm, 417, rfl⟩
abbrev main_call7_v0 : Ref sig .tc := ⟨.hbm, 418, rfl⟩
abbrev main_v337 : Ref sig .tc := ⟨.hbm, 419, rfl⟩
abbrev main_v338 : Ref sig .tc := ⟨.hbm, 420, rfl⟩
abbrev main_v339 : Ref sig .tc := ⟨.hbm, 421, rfl⟩
abbrev main_v340 : Ref sig .tc := ⟨.hbm, 422, rfl⟩
abbrev main_v341 : Ref sig .tc := ⟨.hbm, 423, rfl⟩
abbrev main_v342 : Ref sig .tc := ⟨.hbm, 424, rfl⟩
abbrev main_v343 : Ref sig .tc := ⟨.hbm, 425, rfl⟩
abbrev main_cst_49 : Ref sig .tc := ⟨.hbm, 426, rfl⟩
abbrev main_v344 : Ref sig .tc := ⟨.hbm, 427, rfl⟩
abbrev main_v345 : Ref sig .tc := ⟨.hbm, 428, rfl⟩
abbrev main_cst_50 : Ref sig .tc := ⟨.hbm, 429, rfl⟩
abbrev main_v346 : Ref sig .tc := ⟨.hbm, 430, rfl⟩
abbrev main_v347 : Ref sig .tc := ⟨.hbm, 431, rfl⟩

abbrev nD : Nat := 1
abbrev τ : Topo := Topo.v7x

variable {F : FTy → Type} [FloatOps F]
-- ==== Proof.Slabs.lean ====
/- A scratch of 64 patches held patch by patch, and a read-only array held in 64 shares. -/
module

public import Idealize.ShloMosaic.Lib.ShareLeaves
public import Idealize.ShloMosaic.Lib.ValueLayout
public import Idealize.ShloMosaic.Lib.Memref
public import Idealize.ShloMosaic.Lib.Exec
public import Idealize.ShloMosaic.Lib.Pipeline.BigSepL
public import Idealize.ShloMosaic.Lib.Pipeline.Frame

@[expose] public section

noncomputable section

namespace Cert.Slabs

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem

/-- The scratch's shape, a patch's with its unit axis, a patch's. -/
abbrev T64 : Shape := ⟨4, ![64, 16, 16, 64]⟩
abbrev T1 : Shape := ⟨4, ![1, 16, 16, 64]⟩
abbrev T0 : Shape := ⟨3, ![16, 16, 64]⟩

/-- The numbers of the patches. -/
abbrev all64 : List (Fin 64) := [⟨0, by decide⟩, ⟨1, by decide⟩, ⟨2, by decide⟩, ⟨3, by decide⟩, ⟨4, by decide⟩, ⟨5, by decide⟩, ⟨6, by decide⟩, ⟨7, by decide⟩,
  ⟨8, by decide⟩, ⟨9, by decide⟩, ⟨10, by decide⟩, ⟨11, by decide⟩, ⟨12, by decide⟩, ⟨13, by decide⟩, ⟨14, by decide⟩, ⟨15, by decide⟩,
  ⟨16, by decide⟩, ⟨17, by decide⟩, ⟨18, by decide⟩, ⟨19, by decide⟩, ⟨20, by decide⟩, ⟨21, by decide⟩, ⟨22, by decide⟩, ⟨23, by decide⟩,
  ⟨24, by decide⟩, ⟨25, by decide⟩, ⟨26, by decide⟩, ⟨27, by decide⟩, ⟨28, by decide⟩, ⟨29, by decide⟩, ⟨30, by decide⟩, ⟨31, by decide⟩,
  ⟨32, by decide⟩, ⟨33, by decide⟩, ⟨34, by decide⟩, ⟨35, by decide⟩, ⟨36, by decide⟩, ⟨37, by decide⟩, ⟨38, by decide⟩, ⟨39, by decide⟩,
  ⟨40, by decide⟩, ⟨41, by decide⟩, ⟨42, by decide⟩, ⟨43, by decide⟩, ⟨44, by decide⟩, ⟨45, by decide⟩, ⟨46, by decide⟩, ⟨47, by decide⟩,
  ⟨48, by decide⟩, ⟨49, by decide⟩, ⟨50, by decide⟩, ⟨51, by decide⟩, ⟨52, by decide⟩, ⟨53, by decide⟩, ⟨54, by decide⟩, ⟨55, by decide⟩,
  ⟨56, by decide⟩, ⟨57, by decide⟩, ⟨58, by decide⟩, ⟨59, by decide⟩, ⟨60, by decide⟩, ⟨61, by decide⟩, ⟨62, by decide⟩, ⟨63, by decide⟩]

theorem all64_nodup : all64.Nodup := by decide
theorem all64_univ : (Finset.univ : Finset (Fin 64)) = all64.toFinset := by decide

/-- The 64 conjuncts, written out. -/
theorem expand {M : Type} [URA M] (Φ : Fin 64 → sProp M) :
    bigSepL all64 Φ = iprop(Φ ⟨0, by decide⟩ ∗ Φ ⟨1, by decide⟩ ∗ Φ ⟨2, by decide⟩ ∗ Φ ⟨3, by decide⟩ ∗ Φ ⟨4, by decide⟩ ∗ Φ ⟨5, by decide⟩ ∗ Φ ⟨6, by decide⟩ ∗ Φ ⟨7, by decide⟩ ∗
      Φ ⟨8, by decide⟩ ∗ Φ ⟨9, by decide⟩ ∗ Φ ⟨10, by decide⟩ ∗ Φ ⟨11, by decide⟩ ∗ Φ ⟨12, by decide⟩ ∗ Φ ⟨13, by decide⟩ ∗ Φ ⟨14, by decide⟩ ∗ Φ ⟨15, by decide⟩ ∗
      Φ ⟨16, by decide⟩ ∗ Φ ⟨17, by decide⟩ ∗ Φ ⟨18, by decide⟩ ∗ Φ ⟨19, by decide⟩ ∗ Φ ⟨20, by decide⟩ ∗ Φ ⟨21, by decide⟩ ∗ Φ ⟨22, by decide⟩ ∗ Φ ⟨23, by decide⟩ ∗
      Φ ⟨24, by decide⟩ ∗ Φ ⟨25, by decide⟩ ∗ Φ ⟨26, by decide⟩ ∗ Φ ⟨27, by decide⟩ ∗ Φ ⟨28, by decide⟩ ∗ Φ ⟨29, by decide⟩ ∗ Φ ⟨30, by decide⟩ ∗ Φ ⟨31, by decide⟩ ∗
      Φ ⟨32, by decide⟩ ∗ Φ ⟨33, by decide⟩ ∗ Φ ⟨34, by decide⟩ ∗ Φ ⟨35, by decide⟩ ∗ Φ ⟨36, by decide⟩ ∗ Φ ⟨37, by decide⟩ ∗ Φ ⟨38, by decide⟩ ∗ Φ ⟨39, by decide⟩ ∗
      Φ ⟨40, by decide⟩ ∗ Φ ⟨41, by decide⟩ ∗ Φ ⟨42, by decide⟩ ∗ Φ ⟨43, by decide⟩ ∗ Φ ⟨44, by decide⟩ ∗ Φ ⟨45, by decide⟩ ∗ Φ ⟨46, by decide⟩ ∗ Φ ⟨47, by decide⟩ ∗
      Φ ⟨48, by decide⟩ ∗ Φ ⟨49, by decide⟩ ∗ Φ ⟨50, by decide⟩ ∗ Φ ⟨51, by decide⟩ ∗ Φ ⟨52, by decide⟩ ∗ Φ ⟨53, by decide⟩ ∗ Φ ⟨54, by decide⟩ ∗ Φ ⟨55, by decide⟩ ∗
      Φ ⟨56, by decide⟩ ∗ Φ ⟨57, by decide⟩ ∗ Φ ⟨58, by decide⟩ ∗ Φ ⟨59, by decide⟩ ∗ Φ ⟨60, by decide⟩ ∗ Φ ⟨61, by decide⟩ ∗ Φ ⟨62, by decide⟩ ∗ Φ ⟨63, by decide⟩) := rfl

theorem squeezes : T1.Squeezes T0 := by decide
theorem inb (j : Fin 64) : ∀ a, (![j.val, 0, 0, 0] : Fin 4 → Nat) a + T1.size a ≤ T64.size a := by
  intro a; fin_cases a
  · show j.val + 1 ≤ 64; omega
  all_goals exact Nat.le_refl _

section
variable {nD : Nat} {τ : Topo} {sig : RefSig} {Ix : Type} [DecidableEq Ix]
variable {Val : EltTy → Type} {Name : Type} [DecidableEq Name]
variable {U : Type} [URA U] {Lvl : Type}

local notation "𝕄" => MT nD τ sig Ix Val Name U Lvl

/-- Patch `j` of the scratch. -/
abbrev slab {κ : Kind} {sp : Space} {e : EltTy} (M : Memref sig κ sp T64 e) (j : Fin 64) : Memref sig κ sp T0 e :=
  (M.slice (Rect.unit (s := T64) ![j.val, 0, 0, 0] T1.size (inb j)) (fun _ => rfl)).squeeze T0 squeezes

theorem slab_set {κ : Kind} {sp : Space} {e : EltTy} (M : Memref sig κ sp T64 e) (j : Fin 64) :
    (slab M j).view.set = (Rect.unit (s := T64) ![j.val, 0, 0, 0] T1.size (inb j)).set.map M.view.emb := by
  unfold slab
  rw [Memref.set_view_squeeze]
  exact View.set_slice _ _

theorem slab_disj {κ : Kind} {sp : Space} {e : EltTy} (M : Memref sig κ sp T64 e) (j k : Fin 64) (h : j ≠ k) :
    Disjoint (slab M j).view.set (slab M k).view.set := by
  rw [slab_set, slab_set]
  refine (Finset.disjoint_map _).mpr ?_
  refine Finset.disjoint_left.mpr fun x hx hy => h ?_
  have h1 := Rect.mem_set_unit.mp hx 0
  have h2 := Rect.mem_set_unit.mp hy 0
  have e1 : (j.val ≤ (x 0).val ∧ (x 0).val < j.val + 1) := h1
  have e2 : (k.val ≤ (x 0).val ∧ (x 0).val < k.val + 1) := h2
  exact Fin.ext (by omega)

theorem slab_cover {κ : Kind} {sp : Space} {e : EltTy} (M : Memref sig κ sp T64 e) :
    M.view.set = Finset.univ.biUnion fun j : Fin 64 => (show Finset M.view.ty.Idx from (slab M j).view.set) := by
  ext i
  simp only [Finset.mem_biUnion, Finset.mem_univ, true_and]
  constructor
  · intro hi
    obtain ⟨x, -, rfl⟩ := Finset.mem_map.mp hi
    obtain ⟨k, hk⟩ : ∃ k : Fin 64, k = x 0 := ⟨x 0, rfl⟩
    refine ⟨k, ?_⟩
    show _ ∈ (slab M k).view.set
    rw [slab_set]
    subst hk
    refine Finset.mem_map_of_mem _ (Rect.mem_set_unit.mpr fun a => ?_)
    fin_cases a
    · exact ⟨Nat.le_refl _, Nat.lt_succ_self _⟩
    · exact ⟨Nat.zero_le _, by have := (x 1).isLt; show (x 1).val < 0 + 16; simpa using this⟩
    · exact ⟨Nat.zero_le _, by have := (x 2).isLt; show (x 2).val < 0 + 16; simpa using this⟩
    · exact ⟨Nat.zero_le _, by have := (x 3).isLt; show (x 3).val < 0 + 64; simpa using this⟩
  · rintro ⟨j, hj⟩
    have hj' : i ∈ (slab M j).view.set := hj
    rw [slab_set] at hj'
    obtain ⟨x, -, rfl⟩ := Finset.mem_map.mp hj'
    exact View.emb_mem_set _ x

/-- The scratch is its patches. -/
theorem split (c : Thread nD τ) {sp : Space} {e : EltTy} (M : Memref sig c.2.kind sp T64 e) (f : Buf Val (M.view.loc c)) :
    (M.view.loc c ↦[M.view.set]{fullShare} f : sProp 𝕄)
      = bigSepL all64 fun j => (slab M j).view.loc c ↦[(slab M j).view.set]{fullShare} f := by
  refine Eq.trans ?_ (bigSep_univ_eq_bigSepL all64 all64_univ all64_nodup _)
  refine Eq.trans ?_ (pointsTo_biUnion (ℓ := M.view.loc c) (f := f) Finset.univ (fun j : Fin 64 => (slab M j).view.set)
    fun j _ k _ h => slab_disj M j k h)
  rw [slab_cover M]

/-- The place of a patch's cell in the scratch. -/
theorem slab_emb {κ : Kind} {sp : Space} {e : EltTy} (M : Memref sig κ sp T64 e) (j : Fin 64) (x y : Fin 16) (z : Fin 64) :
    (slab M j).view.emb (ix3 x y z) = M.view.emb (ix4 j x y z) := by
  show M.view.emb ((Rect.unit (s := T64) ![j.val, 0, 0, 0] T1.size (inb j)).emb (Shape.reshapeEquiv _ (ix3 x y z))) = _
  refine congrArg M.view.emb ?_
  refine (congrArg _ (reshapeEquiv_ix3_1abc (a := 16) (b := 16) (c := 64) _ x y z)).trans ?_
  funext a
  refine Fin.ext ?_
  fin_cases a
  · rfl
  · show 0 + 1 * x.val = x.val; omega
  · show 0 + 1 * y.val = y.val; omega
  · show 0 + 1 * z.val = z.val; omega

/-- The patches' values, side by side. -/
def stack {Val : EltTy → Type} {e : EltTy} (P : Fin 64 → T0.Idx → Val e) : T64.Idx → Val e := fun x =>
  match (show Fin 64 from x 0), (show Fin 16 from x 1), (show Fin 16 from x 2), (show Fin 64 from x 3) with
  | j, a, b, d => P j (ix3 a b d)

/-- The patches, each filled whole, are the scratch holding the fillings side by side. -/
theorem join (c : Thread nD τ) {sp : Space} {e : EltTy} (M : Memref sig c.2.kind sp T64 e) (f : Buf Val (M.view.loc c)) (P : Fin 64 → T0.Idx → Val e) :
    (bigSepL all64 fun j => (slab M j).view.loc c ↦[(slab M j).view.set]{fullShare} (slab M j).view.writes Val f [⟨Rect.whole T0, P j⟩] : sProp 𝕄)
      ⊢ owns c M fullShare (stack P) := by
  refine (Entails.of_eq (bigSep_univ_eq_bigSepL all64 all64_univ all64_nodup _).symm).trans ?_
  refine (pointsTo_biUnion_join (ℓ := M.view.loc c) Finset.univ (fun j : Fin 64 => (slab M j).view.set)
    (fun j => (slab M j).view.writes Val f [⟨Rect.whole T0, P j⟩]) f fun j _ k _ h => slab_disj M j k h).trans ?_
  iintro ⟨%g, %hg, H⟩
  unfold owns
  iexists g
  isplitr
  · ipureintro
    funext x
    rw [eq_ix4 x]
    generalize hj : x 0 = j; generalize hx : x 1 = a; generalize hy : x 2 = b; generalize hz : x 3 = d
    have h1 := hg j (Finset.mem_univ _) _ (View.emb_mem_set (slab M j).view (ix3 a b d))
    have h2 := congrFun (View.read_writes_whole (slab M j).view f (P j)) (ix3 a b d)
    refine Eq.trans ?_ h2
    have h3 := slab_emb M j a b d
    show cast _ (g (M.view.emb (ix4 j a b d))) = cast _ (((slab M j).view.writes Val f [⟨Rect.whole T0, P j⟩]) ((slab M j).view.emb (ix3 a b d)))
    rw [← h1]
    exact congrArg (fun t => cast _ (g t)) h3.symm
  · rw [slab_cover M]; iexact H

/-- A patch's filling may be named by what it equals. -/
theorem refill (c : Thread nD τ) {sp : Space} {e : EltTy} (M : Memref sig c.2.kind sp T64 e) (j : Fin 64) (f : Buf Val (M.view.loc c)) (X Y : T0.Idx → Val e)
    (h : X = Y) :
    ((slab M j).view.loc c ↦[(slab M j).view.set]{fullShare} (slab M j).view.writes Val f [⟨Rect.whole T0, X⟩] : sProp 𝕄)
      ⊢ (slab M j).view.loc c ↦[(slab M j).view.set]{fullShare} (slab M j).view.writes Val f [⟨Rect.whole T0, Y⟩] := by
  subst h; exact .rfl

/-- A points-to is its 64 shares. -/
theorem shares {ℓ : Loc nD τ sig} (I : Finset (Idx ℓ)) (f : Buf Val ℓ) :
    (ℓ ↦[I]{fullShare} f : sProp 𝕄) = bigSepL all64 fun j => ℓ ↦[I]{ShareLeaves.leaf 6 fullShare j} f :=
  (ShareLeaves.pointsTo_leaves I f 6 fullShare).trans (bigSep_univ_eq_bigSepL all64 all64_univ all64_nodup _)
end

end Cert.Slabs

end
-- ==== Proof.Boxes.lean ====
/- What the preconditions say of one box. -/
module

public import proofs.«01_k».proof.Proof.Gen.Pre_batch_in_range
public import proofs.«01_k».proof.Proof.Gen.Pre_boxes_in_range
public import Idealize.ShloMosaic.Lib.ReduceAll
public import Idealize.ShloMosaic.Lib.Pointwise
public import Idealize.ShloMosaic.Lib.ValueIdx
public import Idealize.ShloMosaic.Lib.ValueLayout
public import Idealize.ShloMosaic.Lib.Affine

@[expose] public section

noncomputable section

namespace Cert.Roi

open Idealize.ShloMosaic Cert.Pre_boxes_in_range.Facts Cert.Pre_boxes_in_range

variable {F : FTy → Type} [FloatOps F]

/-- Entry `k` of box `n`. -/
def box (a : FVec F S4096x5 .f32) (n : Fin 4096) (k : Fin 5) : F .f32 := a (ix2 n k)

/-- A column of the boxes, read at a box. -/
theorem column (a : FVec F S4096x5 .f32) (k : Fin 5) (h : S4096x5.Slices ![0, k.val] S4096x1) (h' : S4096x1.ShapeCasts S4096) (n : Fin 4096) :
    shapeCast S4096 (extractStridedSlice S4096x1 ![0, k.val] a h) h' (ix1 n) = box a n k := by
  pointwise
  rfl

/-- Two truth values are both one where their conjunction is. -/
theorem andi_one (x y : BitVec 1) : IntOp.andi x y = 1#1 ↔ x = 1#1 ∧ y = 1#1 := by
  revert x y; decide

/-- A box is of one of the four images: its batch number is at 0 .. 3. -/
structure InBatch (b : Fin 5 → F .f32) : Prop where
  batch_lo : IntOp.cmpi .sge (FloatOps.fptosi 32 (b 0)) 0#32 = 1#1
  batch_hi : IntOp.cmpi .sle (FloatOps.fptosi 32 (b 0)) 3#32 = 1#1

/-- A box is in range: it is of one of the images, with a corner at 0 .. 241 on each axis and a side of at most 14.5. -/
structure InRange (b : Fin 5 → F .f32) : Prop extends InBatch b where
  x_lo : FloatOps.cmpf .oge (b 1) (FloatOps.ofBits .f32 0#32) = 1#1
  x_hi : FloatOps.cmpf .ole (b 1) (FloatOps.ofBits .f32 1131479040#32) = 1#1
  y_lo : FloatOps.cmpf .oge (b 2) (FloatOps.ofBits .f32 0#32) = 1#1
  y_hi : FloatOps.cmpf .ole (b 2) (FloatOps.ofBits .f32 1131479040#32) = 1#1
  width : FloatOps.cmpf .ole (FloatOps.subf (b 3) (b 1)) (FloatOps.ofBits .f32 1097334784#32) = 1#1
  height : FloatOps.cmpf .ole (FloatOps.subf (b 4) (b 2)) (FloatOps.ofBits .f32 1097334784#32) = 1#1

/-- Under the frames' precondition every box is of one of the images. -/
theorem inBatch_of_pre (a0 a1 a2 a3 a4 a5 a6 a7 a8 a9)
    (h : Cert.Pre_batch_in_range.fn (F := F) a0 a1 a2 a3 a4 a5 a6 a7 a8 a9 = fun _ => 1#1) (n : Fin 4096) :
    InBatch (box a1 n) := by
  have h := congrFun h ix0
  unfold Cert.Pre_batch_in_range.fn at h
  dsimp only at h
  have := Host.reduce_andi_all _ _ _ _ _ h (ix1 n)
  simp only [andi, cmpi, andi_one, fptosi] at this
  have c0 := column a1 0 slices_S4096x5_S4096x1_0_0 shapeCasts_S4096x1_S4096 n
  exact ⟨by rw [← c0]; exact this.1, by rw [← c0]; exact this.2⟩

/-- Under the value claim's precondition every box is in range. -/
theorem inRange_of_pre (a0 a1 a2 a3 a4 a5 a6 a7 a8 a9)
    (h : Cert.Pre_boxes_in_range.fn (F := F) a0 a1 a2 a3 a4 a5 a6 a7 a8 a9 = fun _ => 1#1) (n : Fin 4096) :
    InRange (box a1 n) := by
  have h := congrFun h ix0
  unfold Cert.Pre_boxes_in_range.fn Cert.Pre_boxes_in_range.fn_part1 at h
  dsimp only at h
  have := Host.reduce_andi_all _ _ _ _ _ h (ix1 n)
  simp only [andi, cmpi, cmpf, andi_one, fptosi, subf] at this
  obtain ⟨⟨⟨⟨⟨⟨⟨h1, h2⟩, h3⟩, h4⟩, h5⟩, h6⟩, h7⟩, h8⟩ := this
  have c0 := column a1 0 slices_S4096x5_S4096x1_0_0 shapeCasts_S4096x1_S4096 n
  have c1 := column a1 1 slices_S4096x5_S4096x1_0_1 shapeCasts_S4096x1_S4096 n
  have c2 := column a1 2 slices_S4096x5_S4096x1_0_2 shapeCasts_S4096x1_S4096 n
  have c3 := column a1 3 slices_S4096x5_S4096x1_0_3 shapeCasts_S4096x1_S4096 n
  have c4 := column a1 4 slices_S4096x5_S4096x1_0_4 shapeCasts_S4096x1_S4096 n
  refine ⟨⟨?_, ?_⟩, ?_, ?_, ?_, ?_, ?_, ?_⟩
  · rw [← c0]; exact h1
  · rw [← c0]; exact h2
  · rw [← c1]; exact h3
  · rw [← c1]; exact h4
  · rw [← c2]; exact h5
  · rw [← c2]; exact h6
  · rw [← c1, ← c3]; exact h7
  · rw [← c2, ← c4]; exact h8

end Cert.Roi

end
-- ==== Proof.Ref.Gather.lean ====
/- Two of the reference's operations read at an index: the gather of map entries and the sum over a bin's four samples. -/
module

public import proofs.«01_k».proof.Proof.Gen.ReferenceIdeal.Run
public import Idealize.ShloMosaic.Lib.Pointwise
public import Idealize.ShloMosaic.PureOps.Ideal

@[expose] public section

set_option maxRecDepth 16384

noncomputable section

namespace Cert.ReferenceIdeal.Roi

open Cert.ReferenceIdeal Cert.ReferenceIdeal.Value
open Idealize.ShloMosaic Idealize.ShloMosaic.TcCoe

/-- The map's entry at a batch, a row and a column given as words, each clamped into the map. -/
def pick {α : Type} (v : S4x256x256x64.Idx → α) (b y x : BitVec 32) (k : Fin 64) : α :=
  v (ix4 ⟨min b.toInt.toNat 3, by omega⟩ ⟨min y.toInt.toNat 255, by omega⟩ ⟨min x.toInt.toNat 255, by omega⟩ k)

/-- The gather takes the entries that the last axis of its indices names. -/
theorem gather_at {α : Type} (v : S4x256x256x64.Idx → α) (idx : IVec S4096x14x14x3 32) (n : Fin 4096) (s t : Fin 14) (k : Fin 64) :
    Host.gather gather_S4x256x256x64_S4096x14x14x3_S4096x14x14x64_3_012_n_n_012_3_11164 v idx (ix4 n s t k)
      = pick v (idx (ix4 n s t 0)) (idx (ix4 n s t 1)) (idx (ix4 n s t 2)) k := by
  unfold Host.gather pick
  congr 1
  have h0 : gather_S4x256x256x64_S4096x14x14x3_S4096x14x14x64_3_012_n_n_012_3_11164.siIdx (ix4 n s t k) ⟨0, by decide⟩ = ix4 n s t 0 := by
    funext b
    fin_cases b <;> rfl
  have h1 : gather_S4x256x256x64_S4096x14x14x3_S4096x14x14x64_3_012_n_n_012_3_11164.siIdx (ix4 n s t k) ⟨1, by decide⟩ = ix4 n s t 1 := by
    funext b
    fin_cases b <;> rfl
  have h2 : gather_S4x256x256x64_S4096x14x14x3_S4096x14x14x64_3_012_n_n_012_3_11164.siIdx (ix4 n s t k) ⟨2, by decide⟩ = ix4 n s t 2 := by
    funext b
    fin_cases b <;> rfl
  funext a
  apply Fin.ext
  fin_cases a
  · exact congrArg (fun i => min (idx i).toInt.toNat 3) h0
  · exact congrArg (fun i => min (idx i).toInt.toNat 255) h1
  · exact congrArg (fun i => min (idx i).toInt.toNat 255) h2
  · exact (Nat.zero_add _).trans rfl

/-- The sum over the two sample axes of a bin. -/
theorem sums_at (x : S4096x7x2x7x2x64.Idx → EReal) (h : S4096x7x2x7x2x64.ReducesTo [2, 4] S4096x7x7x64) (c : EReal) (n : Fin 4096) (p q : Fin 7) (k : Fin 64) :
    Ideal.hostReduceAdd h x c (ix4 n p q k) = c + ∑ s : Fin 2, ∑ t : Fin 2, x (ix6 n p s q t k) := by
  unfold Ideal.hostReduceAdd
  congr 1
  rw [← Fintype.sum_prod_type' fun (s t : Fin 2) => x (ix6 n p s q t k)]
  refine Finset.sum_nbij' (fun i => (i 2, i 4)) (fun u => ix6 n p u.1 q u.2 k) (fun _ _ => Finset.mem_univ _) (fun u _ => ?_) (fun i hi => ?_) (fun _ _ => rfl) (fun i hi => ?_)
  · refine Finset.mem_filter.2 ⟨Finset.mem_univ _, ?_⟩
    funext b
    fin_cases b <;> rfl
  all_goals
    have hi := (Finset.mem_filter.1 hi).2
    have e0 : i 0 = n := congrFun hi 0
    have e1 : i 1 = p := congrFun hi 1
    have e2 : i 3 = q := congrFun hi 2
    have e3 : i 5 = k := congrFun hi 3
    subst e0 e1 e2 e3
  · funext b
    fin_cases b <;> rfl
  · congr 1
    funext b
    fin_cases b <;> rfl

end Cert.ReferenceIdeal.Roi
-- ==== Proof.Ideal.Setup.lean ====
/- What the launch of the ROI kernel needs: the host values when the region is entered, the prefetched tables, the
   windows' blocks, the scratch patch, the feature map left in HBM and the 64 DMA semaphores. -/
module

public import proofs.«01_k».proof.Proof.Gen.KernelIdeal.Launch
public import proofs.«01_k».proof.Proof.Gen.KernelIdeal.Skeleton
public import Idealize.ShloMosaic.Lib.Pipeline.Kit
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Roi

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The output's window is written back at every point, whatever the tables hold. -/
theorem flush0_9 (a : (pcfg0 (F := F)).Adm) : ∀ t : Fin (cfg0 a).N, ((cfg0 a).win 9).flush t = true :=
  (fun t => (Pipeline.Window.flushOf_reads cc0_transform_10 reads0_9 hreads0_9 0 (by decide) (by decide) (Pipeline.Window.sep_of_coord cc0_transform_10 0 0 (fun _ => rfl) (by decide)) (P := 1) (m := 0) (by decide) rfl t).mpr (Nat.mod_one _) : ∀ t : Fin grid0.N, Pipeline.Window.flushOf grid0 true cc0_transform_10 t = true)

/-- The buffer that each window is on at point `t`. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)
abbrev st0_6 (a : (pcfg0 (F := F)).Adm) (t : Fin (cfg0 a).N) := ((cfg0 a).win 6).stage ((cfg0 a).slots t 6)
abbrev st0_7 (a : (pcfg0 (F := F)).Adm) (t : Fin (cfg0 a).N) := ((cfg0 a).win 7).stage ((cfg0 a).slots t 7)
abbrev st0_8 (a : (pcfg0 (F := F)).Adm) (t : Fin (cfg0 a).N) := ((cfg0 a).win 8).stage ((cfg0 a).slots t 8)
abbrev st0_9 (a : (pcfg0 (F := F)).Adm) (t : Fin (cfg0 a).N) := ((cfg0 a).win 9).stage ((cfg0 a).slots t 9)

/-- The kernel's body at point `t`, on the windows' current buffers. -/
abbrev bodyAt0 (a : (pcfg0 (F := F)).Adm) (t : Fin (cfg0 a).N) : Prog (TpuEff nD τ sig (Elt F) Λ₀ .tc) PUnit :=
  cc0__kern (grid0.coords t) (Memref.whole main_v3) (Memref.isWhole_whole _) (Memref.whole main_v24) (Memref.isWhole_whole _) (Memref.whole main_v27) (Memref.isWhole_whole _) (Memref.whole main_v0) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (spec0_9.stage ((cfg0 a).slots t 9)) (hstage0_9 (((cfg0 a).slots t 9).cast nbuf0_9)) (Memref.whole cc0_scratch0) (Memref.isWhole_whole _) cc0_scratch1

/-- Core `c`'s TensorCore buffers when the region is entered: after the host operations `hostOps0`, `hostOps0_1`, `hostOps0_2`, `hostOps0_3`, `hostOps0_4`. -/
abbrev V (c : Dev nD) (b : Ref sig .tc) : Buf (Elt F) ((c : Thread nD τ).loc b) :=
  StableHlo.after (List.flatten [hostOps0, hostOps0_1, hostOps0_2, hostOps0_3, hostOps0_4]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor

set_option maxHeartbeats 800000 in
/-- The program is its lines of host operations and then the launch. -/
theorem hmain (𝒱₀ : Variants) : Pipeline.HMainP (Ix := Unit) (Name := ℕ) (U := Pipeline.UD sig nD τ) (Lvl := ℕ) pcfgs 0 defs₀ 𝒱₀ m (main (F := F)) (V m) :=
  Pipeline.hmainP_prefixes pcfgs 0 defs₀ 𝒱₀ m main [hostOps0, hostOps0_1, hostOps0_2, hostOps0_3, hostOps0_4] (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

/-- `main_arg0` is as launched when the region is entered. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- `main_arg1` is as launched when the region is entered. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- `main_arg2` is as launched when the region is entered. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- `main_arg3` is as launched when the region is entered. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- `main_arg4` is as launched when the region is entered. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- `main_arg5` is as launched when the region is entered. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- `main_arg6` is as launched when the region is entered. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- `main_arg7` is as launched when the region is entered. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- `main_arg8` is as launched when the region is entered. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- `main_arg9` is as launched when the region is entered. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 3) : V m c (pre0.ref j) = tbl m j := by
  obtain rfl : c = 0 := Subsingleton.elim _ _; rfl
/-- The pipeline's side condition of the tables' contents: every window whose index map reads a table has its block
    inside the array at every point. Here no window's place reads a table, so it holds always. -/
abbrev Ok : Prop := ok0 (F := F) (tbl m)
/-- The tables' contents, and the pipeline at them. -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S4096 .i32 := Memref.whole main_v3
abbrev htbM0_0 : tbM0_0.IsWhole := Memref.isWhole_whole _
abbrev tbM0_1 : Memref sig .tc .smem S4096 .i32 := Memref.whole main_v24
abbrev htbM0_1 : tbM0_1.IsWhole := Memref.isWhole_whole _
abbrev tbM0_2 : Memref sig .tc .smem S4096 .i32 := Memref.whole main_v27
abbrev htbM0_2 : tbM0_2.IsWhole := Memref.isWhole_whole _

/-- The type of a table's contents on core `c`, and the table held for reading at contents `f`: one half of it, the
    pipeline keeps the other. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- What the body is lent of the tables, table by table. -/
theorem PhiT0_eq (c : Dev nD) : (Pipeline.ΦT pre0 (tbl m) c : sProp 𝕄) = iprop(tbPt0 c tbM0_0 (tbl m 0) ∗ tbPt0 c tbM0_1 (tbl m 1) ∗ tbPt0 c tbM0_2 (tbl m 2)) := by
  unfold Pipeline.ΦT Pipeline.prefHeld
  rw [show (Finset.univ : Finset (Fin 3)) = insert (0 : Fin 3) (insert (1 : Fin 3) {(2 : Fin 3)}) from by decide,
    bigSep_insert (by decide), bigSep_insert (by decide), bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0 holds its block at every point. -/
theorem before0_0_of (hO : Ok m) {c : Dev nD} (dat : Dat τ (Elt F) Unit ℕ (Pipeline.UD sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1 holds its block at every point. -/
theorem before0_1_of (hO : Ok m) {c : Dev nD} (dat : Dat τ (Elt F) Unit ℕ (Pipeline.UD sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2 holds its block at every point. -/
theorem before0_2_of (hO : Ok m) {c : Dev nD} (dat : Dat τ (Elt F) Unit ℕ (Pipeline.UD sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3 holds its block at every point. -/
theorem before0_3_of (hO : Ok m) {c : Dev nD} (dat : Dat τ (Elt F) Unit ℕ (Pipeline.UD sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4 holds its block at every point. -/
theorem before0_4_of (hO : Ok m) {c : Dev nD} (dat : Dat τ (Elt F) Unit ℕ (Pipeline.UD sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5 holds its block at every point. -/
theorem before0_5_of (hO : Ok m) {c : Dev nD} (dat : Dat τ (Elt F) Unit ℕ (Pipeline.UD sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6 holds its block at every point. -/
theorem before0_6_of (hO : Ok m) {c : Dev nD} (dat : Dat τ (Elt F) Unit ℕ (Pipeline.UD sig nD τ) ℕ (cfgM m hO) c) (hA : dat.A 6 = V m c (Pipeline.arrRef spec0 6))
    (hafter : ∀ t, dat.after 6 t = iblk m hO c 6 t) (t : Fin (cfgM m hO).N) (d) : dat.before 6 t d = iblk m hO c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7 holds its block at every point. -/
theorem before0_7_of (hO : Ok m) {c : Dev nD} (dat : Dat τ (Elt F) Unit ℕ (Pipeline.UD sig nD τ) ℕ (cfgM m hO) c) (hA : dat.A 7 = V m c (Pipeline.arrRef spec0 7))
    (hafter : ∀ t, dat.after 7 t = iblk m hO c 7 t) (t : Fin (cfgM m hO).N) (d) : dat.before 7 t d = iblk m hO c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8 holds its block at every point. -/
theorem before0_8_of (hO : Ok m) {c : Dev nD} (dat : Dat τ (Elt F) Unit ℕ (Pipeline.UD sig nD τ) ℕ (cfgM m hO) c) (hA : dat.A 8 = V m c (Pipeline.arrRef spec0 8))
    (hafter : ∀ t, dat.after 8 t = iblk m hO c 8 t) (t : Fin (cfgM m hO).N) (d) : dat.before 8 t d = iblk m hO c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## The arguments after a run -/

/-- A launch whose arrays start as the host code left them leaves every argument as it was: an input of the launch is
    not written, and no other argument is the launch's at all. -/
theorem frame_of (hO : Ok m) (rdat : (c : Dev nD) → Pipeline.RDat τ (Elt F) Unit ℕ (Pipeline.UD sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePost ((Pipeline.pin pcfgs fun _ => adm m hO) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).2 main_arg4 (by decide : main_arg4 ∈ Pipeline.restRefs sig spec0)).trans (V_main_arg4 m c),
      ((h c).2 main_arg5 (by decide : main_arg5 ∈ Pipeline.restRefs sig spec0)).trans (V_main_arg5 m c),
      ((h c).2 main_arg6 (by decide : main_arg6 ∈ Pipeline.restRefs sig spec0)).trans (V_main_arg6 m c),
      ((h c).2 main_arg7 (by decide : main_arg7 ∈ Pipeline.restRefs sig spec0)).trans (V_main_arg7 m c),
      ((h c).2 main_arg8 (by decide : main_arg8 ∈ Pipeline.restRefs sig spec0)).trans (V_main_arg8 m c),
      ((h c).2 main_arg9 (by decide : main_arg9 ∈ Pipeline.restRefs sig spec0)).trans (V_main_arg9 m c)⟩) h

/-! ## What the body works on -/

/-- Each window's current buffer at point `t`, which is a whole one. -/
abbrev ms0_0 (hO : Ok m) (t : Fin (cfgM m hO).N) : Memref sig .tc .vmem S64x8 .f32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S576x128 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x128 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1152x128 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x128 .f32 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S6272x256 .f32 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S1x256 .f32 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S256x128 .f32 := spec0_7.stage ((cfgM m hO).slots t 7)
abbrev hs0_7 (hO : Ok m) (t : Fin (cfgM m hO).N) : (ms0_7 m hO t).IsWhole := hstage0_7 (((cfgM m hO).slots t 7).cast nbuf0_7)
abbrev ms0_8 (hO : Ok m) (t : Fin (cfgM m hO).N) : Memref sig .tc .vmem S1x128 .f32 := spec0_8.stage ((cfgM m hO).slots t 8)
abbrev hs0_8 (hO : Ok m) (t : Fin (cfgM m hO).N) : (ms0_8 m hO t).IsWhole := hstage0_8 (((cfgM m hO).slots t 8).cast nbuf0_8)
abbrev ms0_9 (hO : Ok m) (t : Fin (cfgM m hO).N) : Memref sig .tc .vmem S64x1 .f32 := spec0_9.stage ((cfgM m hO).slots t 9)
abbrev hs0_9 (hO : Ok m) (t : Fin (cfgM m hO).N) : (ms0_9 m hO t).IsWhole := hstage0_9 (((cfgM m hO).slots t 9).cast nbuf0_9)

/-- The scratch that holds the patches. -/
abbrev scM0_0 : Memref sig .tc .vmem S64x16x16x64 .f32 := Memref.whole cc0_scratch0
/-- The feature map, which the body copies patches out of. -/
abbrev hbM0_0 : Memref sig .tc .hbm S4x256x256x64 .f32 := Memref.whole main_v0
/-- The type of a buffer's contents on core `c`, and the buffer held whole at contents `f`. -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The body's own 64 semaphores, one for each copy; none is a window's. -/
abbrev osem0 : Fin 64 → SemLoc sig := fun j => (![SemLoc.dma 12, SemLoc.dma 13, SemLoc.dma 14, SemLoc.dma 15, SemLoc.dma 16, SemLoc.dma 17, SemLoc.dma 18, SemLoc.dma 19, SemLoc.dma 20, SemLoc.dma 21, SemLoc.dma 22, SemLoc.dma 23, SemLoc.dma 24, SemLoc.dma 25, SemLoc.dma 26, SemLoc.dma 27, SemLoc.dma 28, SemLoc.dma 29, SemLoc.dma 30, SemLoc.dma 31, SemLoc.dma 32, SemLoc.dma 33, SemLoc.dma 34, SemLoc.dma 35, SemLoc.dma 36, SemLoc.dma 37, SemLoc.dma 38, SemLoc.dma 39, SemLoc.dma 40, SemLoc.dma 41, SemLoc.dma 42, SemLoc.dma 43, SemLoc.dma 44, SemLoc.dma 45, SemLoc.dma 46, SemLoc.dma 47, SemLoc.dma 48, SemLoc.dma 49, SemLoc.dma 50, SemLoc.dma 51, SemLoc.dma 52, SemLoc.dma 53, SemLoc.dma 54, SemLoc.dma 55, SemLoc.dma 56, SemLoc.dma 57, SemLoc.dma 58, SemLoc.dma 59, SemLoc.dma 60, SemLoc.dma 61, SemLoc.dma 62, SemLoc.dma 63, SemLoc.dma 64, SemLoc.dma 65, SemLoc.dma 66, SemLoc.dma 67, SemLoc.dma 68, SemLoc.dma 69, SemLoc.dma 70, SemLoc.dma 71, SemLoc.dma 72, SemLoc.dma 73, SemLoc.dma 74, SemLoc.dma 75] : Fin 64 → SemLoc sig) j
theorem ownSemFacts0 : Pipeline.OwnSemFacts spec0 osem0 := by decide
/-- The cells at zero, listed. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ semVal ((c : Thread nD τ), SemLoc.dma 41) 0 ∗ semVal ((c : Thread nD τ), SemLoc.dma 42) 0 ∗ semVal ((c : Thread nD τ), SemLoc.dma 43) 0 ∗ semVal ((c : Thread nD τ), SemLoc.dma 44) 0 ∗ semVal ((c : Thread nD τ), SemLoc.dma 45) 0 ∗ semVal ((c : Thread nD τ), SemLoc.dma 46) 0 ∗ semVal ((c : Thread nD τ), SemLoc.dma 47) 0 ∗ semVal ((c : Thread nD τ), SemLoc.dma 48) 0 ∗ semVal ((c : Thread nD τ), SemLoc.dma 49) 0 ∗ semVal ((c : Thread nD τ), SemLoc.dma 50) 0 ∗ semVal ((c : Thread nD τ), SemLoc.dma 51) 0 ∗ semVal ((c : Thread nD τ), SemLoc.dma 52) 0 ∗ semVal ((c : Thread nD τ), SemLoc.dma 53) 0 ∗ semVal ((c : Thread nD τ), SemLoc.dma 54) 0 ∗ semVal ((c : Thread nD τ), SemLoc.dma 55) 0 ∗ semVal ((c : Thread nD τ), SemLoc.dma 56) 0 ∗ semVal ((c : Thread nD τ), SemLoc.dma 57) 0 ∗ semVal ((c : Thread nD τ), SemLoc.dma 58) 0 ∗ semVal ((c : Thread nD τ), SemLoc.dma 59) 0 ∗ semVal ((c : Thread nD τ), SemLoc.dma 60) 0 ∗ semVal ((c : Thread nD τ), SemLoc.dma 61) 0 ∗ semVal ((c : Thread nD τ), SemLoc.dma 62) 0 ∗ semVal ((c : Thread nD τ), SemLoc.dma 63) 0 ∗ semVal ((c : Thread nD τ), SemLoc.dma 64) 0 ∗ semVal ((c : Thread nD τ), SemLoc.dma 65) 0 ∗ semVal ((c : Thread nD τ), SemLoc.dma 66) 0 ∗ semVal ((c : Thread nD τ), SemLoc.dma 67) 0 ∗ semVal ((c : Thread nD τ), SemLoc.dma 68) 0 ∗ semVal ((c : Thread nD τ), SemLoc.dma 69) 0 ∗ semVal ((c : Thread nD τ), SemLoc.dma 70) 0 ∗ semVal ((c : Thread nD τ), SemLoc.dma 71) 0 ∗ semVal ((c : Thread nD τ), SemLoc.dma 72) 0 ∗ semVal ((c : Thread nD τ), SemLoc.dma 73) 0 ∗ semVal ((c : Thread nD τ), SemLoc.dma 74) 0 ∗ semVal ((c : Thread nD τ), SemLoc.dma 75) 0) := by
  rw [Pipeline.ownSems0_eq_of_list c osem0 [0, 1, 2, 3, 4, 5, 6, 7, 8, 9, 10, 11, 12, 13, 14, 15, 16, 17, 18, 19, 20, 21, 22, 23, 24, 25, 26, 27, 28, 29, 30, 31, 32, 33, 34, 35, 36, 37, 38, 39, 40, 41, 42, 43, 44, 45, 46, 47, 48, 49, 50, 51, 52, 53, 54, 55, 56, 57, 58, 59, 60, 61, 62, 63] (by decide) (by decide)]; rfl
/-- The arrays that the body copies from: the feature map, which is no window's array and no table. -/
def H0 : Finset (Ref sig .tc) := {main_v0}
theorem H0_sub : H0 ⊆ Pipeline.restRefsP sig pre0 spec0 := by decide
/-- Holding those arrays at the launch is holding the feature map. -/
theorem hbmPts0_eq (c : Dev nD) :
    (bigSep H0 (fun b => ((c : Thread nD τ).loc b) ↦{fullShare} V m c b) : sProp 𝕄) = iprop(hbPt0 c hbM0_0 (V m c main_v0)) := by
  rw [BI.bigSep_eq_bigSepL_of_eq [main_v0] (by decide) (by decide)]; rfl

/-- What holds between two points, part by part: the scratch at some contents, the random state at some state, the
    body's semaphores at zero, the feature map at its contents at the launch. -/
theorem PhiD0_eq (c : Dev nD) :
    (Pipeline.ΦD osem0 spec0 H0 (V m) c : sProp 𝕄)
      = iprop(iprop((∃ d, owns (c : Thread nD τ) scM0_0 fullShare d)) ∗ (∃ r, prngReg c r) ∗ iprop(semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ semVal ((c : Thread nD τ), SemLoc.dma 41) 0 ∗ semVal ((c : Thread nD τ), SemLoc.dma 42) 0 ∗ semVal ((c : Thread nD τ), SemLoc.dma 43) 0 ∗ semVal ((c : Thread nD τ), SemLoc.dma 44) 0 ∗ semVal ((c : Thread nD τ), SemLoc.dma 45) 0 ∗ semVal ((c : Thread nD τ), SemLoc.dma 46) 0 ∗ semVal ((c : Thread nD τ), SemLoc.dma 47) 0 ∗ semVal ((c : Thread nD τ), SemLoc.dma 48) 0 ∗ semVal ((c : Thread nD τ), SemLoc.dma 49) 0 ∗ semVal ((c : Thread nD τ), SemLoc.dma 50) 0 ∗ semVal ((c : Thread nD τ), SemLoc.dma 51) 0 ∗ semVal ((c : Thread nD τ), SemLoc.dma 52) 0 ∗ semVal ((c : Thread nD τ), SemLoc.dma 53) 0 ∗ semVal ((c : Thread nD τ), SemLoc.dma 54) 0 ∗ semVal ((c : Thread nD τ), SemLoc.dma 55) 0 ∗ semVal ((c : Thread nD τ), SemLoc.dma 56) 0 ∗ semVal ((c : Thread nD τ), SemLoc.dma 57) 0 ∗ semVal ((c : Thread nD τ), SemLoc.dma 58) 0 ∗ semVal ((c : Thread nD τ), SemLoc.dma 59) 0 ∗ semVal ((c : Thread nD τ), SemLoc.dma 60) 0 ∗ semVal ((c : Thread nD τ), SemLoc.dma 61) 0 ∗ semVal ((c : Thread nD τ), SemLoc.dma 62) 0 ∗ semVal ((c : Thread nD τ), SemLoc.dma 63) 0 ∗ semVal ((c : Thread nD τ), SemLoc.dma 64) 0 ∗ semVal ((c : Thread nD τ), SemLoc.dma 65) 0 ∗ semVal ((c : Thread nD τ), SemLoc.dma 66) 0 ∗ semVal ((c : Thread nD τ), SemLoc.dma 67) 0 ∗ semVal ((c : Thread nD τ), SemLoc.dma 68) 0 ∗ semVal ((c : Thread nD τ), SemLoc.dma 69) 0 ∗ semVal ((c : Thread nD τ), SemLoc.dma 70) 0 ∗ semVal ((c : Thread nD τ), SemLoc.dma 71) 0 ∗ semVal ((c : Thread nD τ), SemLoc.dma 72) 0 ∗ semVal ((c : Thread nD τ), SemLoc.dma 73) 0 ∗ semVal ((c : Thread nD τ), SemLoc.dma 74) 0 ∗ semVal ((c : Thread nD τ), SemLoc.dma 75) 0) ∗ iprop(hbPt0 c hbM0_0 (V m c main_v0))) := by
  rw [Pipeline.ΦD_eq, scopedRest0_eq, ownSems00_eq, hbmPts0_eq]; simp only [scM0_0, owns_whole]; try rfl

end Cert.KernelIdeal.Roi

end
-- ==== Proof.Ideal.Body.lean ====
/- One run of the ROI kernel's body. -/
module

public import proofs.«01_k».proof.Proof.Ideal.Setup
public import proofs.«01_k».proof.Proof.Slabs

@[expose] public section

set_option maxRecDepth 16384

noncomputable section

namespace Cert.KernelIdeal.Roi

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- Every word triple of the three tables names a patch inside the feature map. -/
def TabOk (c : Dev nD) (xt0 : TbBuf0 (F := F) c tbM0_0) (xt1 : TbBuf0 (F := F) c tbM0_1) (xt2 : TbBuf0 (F := F) c tbM0_2) : Prop :=
  ∀ (o : Fin 1 → Nat) (h : ∀ a, o a + S1.size a ≤ S4096.size a),
    k0_chk1 (tbM0_0.view.readAt (Elt F) (Rect.unit (s := S4096) o S1.size h).toLoadRect xt0 (Shape.Idx.first (numel1_S1.symm ▸ Nat.one_pos)))
      (tbM0_1.view.readAt (Elt F) (Rect.unit (s := S4096) o S1.size h).toLoadRect xt1 (Shape.Idx.first (numel1_S1.symm ▸ Nat.one_pos)))
      (tbM0_2.view.readAt (Elt F) (Rect.unit (s := S4096) o S1.size h).toLoadRect xt2 (Shape.Idx.first (numel1_S1.symm ▸ Nat.one_pos)))

/-- The place of a box's words in the tables. -/
theorem place_lt (i : grid0.Coords) (j : Fin 64) : ∀ a, (![64 * (i 0).val + j.val] : Fin 1 → Nat) a + S1.size a ≤ S4096.size a := by
  intro a
  have h0 : (i 0).val < 64 := (i 0).isLt
  have hj := j.isLt
  fin_cases a
  show 64 * (i 0).val + j.val + 1 ≤ 4096
  omega

/-- The words of a place. -/
abbrev word0 (c : Dev nD) (xt0 : TbBuf0 (F := F) c tbM0_0) (o : Fin 1 → Nat) (h : ∀ a, o a + S1.size a ≤ S4096.size a) : BitVec 32 :=
  tbM0_0.view.readAt (Elt F) (Rect.unit (s := S4096) o S1.size h).toLoadRect xt0 (Shape.Idx.first (numel1_S1.symm ▸ Nat.one_pos))
abbrev word1 (c : Dev nD) (xt1 : TbBuf0 (F := F) c tbM0_1) (o : Fin 1 → Nat) (h : ∀ a, o a + S1.size a ≤ S4096.size a) : BitVec 32 :=
  tbM0_1.view.readAt (Elt F) (Rect.unit (s := S4096) o S1.size h).toLoadRect xt1 (Shape.Idx.first (numel1_S1.symm ▸ Nat.one_pos))
abbrev word2 (c : Dev nD) (xt2 : TbBuf0 (F := F) c tbM0_2) (o : Fin 1 → Nat) (h : ∀ a, o a + S1.size a ≤ S4096.size a) : BitVec 32 :=
  tbM0_2.view.readAt (Elt F) (Rect.unit (s := S4096) o S1.size h).toLoadRect xt2 (Shape.Idx.first (numel1_S1.symm ▸ Nat.one_pos))

/-- The patch of the feature map at an offset. -/
def patchAt (c : Dev nD) (fh0 : HbBuf0 (F := F) c hbM0_0) (off : Fin 4 → Nat) (h : ∀ a, off a + S1x16x16x64.size a ≤ S4x256x256x64.size a) :
    S16x16x64.Idx → Elt F .f32 :=
  (((Memref.whole main_v0).slice (Rect.unit (s := S4x256x256x64) off S1x16x16x64.size h) (fun _ => rfl)).squeeze S16x16x64 squeezes_S1x16x16x64_S16x16x64).view.read (Elt F) fh0

/-- The patch that a grid point's box `j` is given. -/
def patch (c : Dev nD) (i : grid0.Coords) (xt0 : TbBuf0 (F := F) c tbM0_0) (xt1 : TbBuf0 (F := F) c tbM0_1) (xt2 : TbBuf0 (F := F) c tbM0_2)
    (fh0 : HbBuf0 (F := F) c hbM0_0) (hT : TabOk (F := F) c xt0 xt1 xt2) (j : Fin 64) : S16x16x64.Idx → Elt F .f32 :=
  patchAt c fh0 ![(word0 c xt0 _ (place_lt i j)).toNat, (word1 c xt1 _ (place_lt i j)).toNat, (word2 c xt2 _ (place_lt i j)).toNat, 0] (hT _ (place_lt i j)).1

/-- The kernel's own reckoning of a place. -/
theorem place_eq (i : grid0.Coords) (j : Fin 64) :
    (![(Scalar.indexCast (Scalar.addi (Scalar.muli (BitVec.ofNat 32 (i 0).val) 64#32) (BitVec.ofNat 32 j.val))).toNat] : Fin 1 → Nat)
      = ![64 * (i 0).val + j.val] := by
  have h0 : (i 0).val < 64 := (i 0).isLt
  have hj := j.isLt
  refine congrArg (fun t : Nat => (![t] : Fin 1 → Nat)) ?_
  show (((BitVec.ofNat 32 (i 0).val) * 64#32 + BitVec.ofNat 32 j.val : BitVec 32)).toNat = _
  simp only [BitVec.toNat_add, BitVec.toNat_mul, BitVec.toNat_ofNat]
  omega

/-- A transfer that reads its words at a box's place brings that box's patch. -/
theorem patch_eq (c : Dev nD) (i : grid0.Coords) (xt0 : TbBuf0 (F := F) c tbM0_0) (xt1 : TbBuf0 (F := F) c tbM0_1) (xt2 : TbBuf0 (F := F) c tbM0_2)
    (fh0 : HbBuf0 (F := F) c hbM0_0) (hT : TabOk (F := F) c xt0 xt1 xt2) (j : Fin 64) (o : Fin 1 → Nat) (h : ∀ a, o a + S1.size a ≤ S4096.size a)
    (ho : o = ![64 * (i 0).val + j.val]) :
    patchAt c fh0 ![(word0 c xt0 o h).toNat, (word1 c xt1 o h).toNat, (word2 c xt2 o h).toNat, 0] (hT o h).1 = patch c i xt0 xt1 xt2 fh0 hT j := by
  subst ho; rfl

/-- A 128-row piece of the second convolution's weights. -/
def rows128 (x : Vec F S1152x128 .f32) (o : Nat) (h : ∀ a, (![o, 0] : Fin 2 → Nat) a + S128x128.size a ≤ S1152x128.size a) : Vec F S128x128 .f32 :=
  fun y => x ((Rect.unit (s := S1152x128) ![o, 0] S128x128.size h).toLoadRect.idx y)

/-- What a grid point stores: the kernel's payloads, one after another, on the values it loads. -/
def kVal (x0 : Vec F S64x8 .f32) (p : Vec F S64x16x16x64 .f32) (x1 : Vec F S576x128 .f32) (x2 : Vec F S1x128 .f32)
    (w0 w1 w2 w3 w4 w5 w6 w7 w8 : Vec F S128x128 .f32) (x4 : Vec F S1x128 .f32)
    (x5 : Vec F S6272x256 .f32) (x6 : Vec F S1x256 .f32) (x7 : Vec F S256x128 .f32) (x8 : Vec F S1x128 .f32) : FVec F S64x1 .f32 :=
  let py := k0_pay9 (k0_pay6 x0) (k0_pay7 x0) (iota .tc S64x14x16 32 [2] iota_S64x14x16_d2_w32) (k0_pay8 x0)
  let px := k0_pay10 (k0_pay4 x0)
  let a1 := k0_pay11 py p
  let a2 := k0_pay14 py p a1 (k0_pay12 p) (k0_pay13 py)
  let t := k0_pay17 py p a2 (k0_pay15 p) (k0_pay16 py)
  let b1 := k0_pay18 py px p a2 (k0_pay15 p) (k0_pay16 py)
  let b2 := k0_pay21 px t b1 (k0_pay19 px) (k0_pay20 py p a2 (k0_pay15 p) (k0_pay16 py))
  let b3 := k0_pay24 px t b2 (k0_pay22 px) (k0_pay23 t)
  let c1 := k0_pay27 px t b3 (k0_pay25 px) (k0_pay26 t) x1 x2
  let d := k0_pay29 c1 0#32 w0 w1 w2 w3 w4
  let e := k0_pay32 (k0_pay28 c1 0#32) d (k0_pay30 c1 0#32) (k0_pay31 w5) (constant S3136x128 .f32 0x00000000#32) w6 w7 w8 x4 x5 x6 x7
  k0_pay33 e x8

/-- What a grid point's block of the output holds, from the blocks of the inputs and the patches. -/
def kOut (x0 : Vec F S64x8 .f32) (x1 : Vec F S576x128 .f32) (x2 : Vec F S1x128 .f32) (x3 : Vec F S1152x128 .f32) (x4 : Vec F S1x128 .f32)
    (x5 : Vec F S6272x256 .f32) (x6 : Vec F S1x256 .f32) (x7 : Vec F S256x128 .f32) (x8 : Vec F S1x128 .f32) (p : Vec F S64x16x16x64 .f32) : FVec F S64x1 .f32 :=
  kVal x0 p x1 x2 (rows128 x3 0 inb_S1152x128_S128x128_0_0) (rows128 x3 128 inb_S1152x128_S128x128_128_0) (rows128 x3 256 inb_S1152x128_S128x128_256_0)
    (rows128 x3 384 inb_S1152x128_S128x128_384_0) (rows128 x3 512 inb_S1152x128_S128x128_512_0) (rows128 x3 640 inb_S1152x128_S128x128_640_0)
    (rows128 x3 768 inb_S1152x128_S128x128_768_0) (rows128 x3 896 inb_S1152x128_S128x128_896_0) (rows128 x3 1024 inb_S1152x128_S128x128_1024_0) x4 x5 x6 x7 x8

/-- A load of a whole memref's values at a rectangle that starts at the origin and has the memref's shape. -/
theorem load2 {sp : Space} {a b : Nat} {e : EltTy} {M : Memref sig .tc sp ⟨2, ![a, b]⟩ e} (hM : M.IsWhole) (x : Vec F ⟨2, ![a, b]⟩ e)
    (h : ∀ d, (![0, 0] : Fin 2 → Nat) d + (⟨2, ![a, b]⟩ : Shape).size d ≤ (⟨2, ![a, b]⟩ : Shape).size d) :
    M.view.readAt (Elt F) (Rect.unit (s := ⟨2, ![a, b]⟩) ![0, 0] (⟨2, ![a, b]⟩ : Shape).size h).toLoadRect (hM.unread x) = x := by
  funext y
  show M.view.read (Elt F) (hM.unread x) _ = _
  rw [hM.read_unread]
  refine congrArg x (funext fun d => Fin.ext ?_)
  fin_cases d
  · show 0 + 1 * (y 0).val = (y 0).val; omega
  · show 0 + 1 * (y 1).val = (y 1).val; omega

theorem load4 {sp : Space} {a b k l : Nat} {e : EltTy} {M : Memref sig .tc sp ⟨4, ![a, b, k, l]⟩ e} (hM : M.IsWhole) (x : Vec F ⟨4, ![a, b, k, l]⟩ e)
    (h : ∀ d, (![0, 0, 0, 0] : Fin 4 → Nat) d + (⟨4, ![a, b, k, l]⟩ : Shape).size d ≤ (⟨4, ![a, b, k, l]⟩ : Shape).size d) :
    M.view.readAt (Elt F) (Rect.unit (s := ⟨4, ![a, b, k, l]⟩) ![0, 0, 0, 0] (⟨4, ![a, b, k, l]⟩ : Shape).size h).toLoadRect (hM.unread x) = x := by
  funext y
  show M.view.read (Elt F) (hM.unread x) _ = _
  rw [hM.read_unread]
  refine congrArg x (funext fun d => Fin.ext ?_)
  fin_cases d
  · show 0 + 1 * (y 0).val = (y 0).val; omega
  · show 0 + 1 * (y 1).val = (y 1).val; omega
  · show 0 + 1 * (y 2).val = (y 2).val; omega
  · show 0 + 1 * (y 3).val = (y 3).val; omega

/-- A load of 128 rows of the second convolution's weights. -/
theorem loadRows {sp : Space} {M : Memref sig .tc sp S1152x128 .f32} (hM : M.IsWhole) (x : Vec F S1152x128 .f32) (o : Nat)
    (h : ∀ a, (![o, 0] : Fin 2 → Nat) a + S128x128.size a ≤ S1152x128.size a) :
    M.view.readAt (Elt F) (Rect.unit (s := S1152x128) ![o, 0] S128x128.size h).toLoadRect (hM.unread x) = rows128 x o h := by
  funext y
  show M.view.read (Elt F) (hM.unread x) _ = _
  rw [hM.read_unread]; rfl

/-- A store over a whole block, read back. -/
theorem stored {sp : Space} {M : Memref sig .tc sp S64x1 .f32} (f : M.view.ty.Contents (Elt F)) (x : FVec F S64x1 .f32) :
    M.view.read (Elt F) (M.view.writes (Elt F) f [⟨Rect.unit (s := S64x1) ![0, 0] S64x1.size inb_S64x1_S64x1_0_0, x⟩]) = x := by
  funext y
  have h := View.read_writes_cons_emb M.view f (Rect.unit (s := S64x1) ![0, 0] S64x1.size inb_S64x1_S64x1_0_0) x [] y
  refine Eq.trans (congrArg _ (funext fun d => Fin.ext ?_)) h
  fin_cases d
  · show (y 0).val = 0 + 1 * (y 0).val; omega
  · show (y 1).val = 0 + 1 * (y 1).val; omega

set_option maxHeartbeats 6820000 in
/-- The body on whole staging memrefs. -/
theorem kernelRun0_A (c : Dev nD) (i : grid0.Coords) (arg5 : Memref sig .tc .vmem S64x8 .f32) (harg5 : arg5.IsWhole) (arg6 : Memref sig .tc .vmem S576x128 .f32) (harg6 : arg6.IsWhole) (arg7 : Memref sig .tc .vmem S1x128 .f32) (harg7 : arg7.IsWhole) (arg8 : Memref sig .tc .vmem S1152x128 .f32) (harg8 : arg8.IsWhole) (arg9 : Memref sig .tc .vmem S1x128 .f32) (harg9 : arg9.IsWhole) (arg10 : Memref sig .tc .vmem S6272x256 .f32) (harg10 : arg10.IsWhole) (arg11 : Memref sig .tc .vmem S1x256 .f32) (harg11 : arg11.IsWhole) (arg12 : Memref sig .tc .vmem S256x128 .f32) (harg12 : arg12.IsWhole) (arg13 : Memref sig .tc .vmem S1x128 .f32) (harg13 : arg13.IsWhole) (arg14 : Memref sig .tc .vmem S64x1 .f32) (harg14 : arg14.IsWhole) (arg15 : Memref sig .tc .vmem S64x16x16x64 .f32) (harg15 : arg15.IsWhole)
    (x0 : Vec F S64x8 .f32) (x1 : Vec F S576x128 .f32) (x2 : Vec F S1x128 .f32) (x3 : Vec F S1152x128 .f32) (x4 : Vec F S1x128 .f32) (x5 : Vec F S6272x256 .f32) (x6 : Vec F S1x256 .f32) (x7 : Vec F S256x128 .f32) (x8 : Vec F S1x128 .f32) (xt0 : TbBuf0 (F := F) c tbM0_0) (xt1 : TbBuf0 (F := F) c tbM0_1) (xt2 : TbBuf0 (F := F) c tbM0_2) (fh0 : HbBuf0 (F := F) c hbM0_0) (hT : TabOk (F := F) c xt0 xt1 xt2) :
      ∀ (W : Waits sig Unit) (K : PUnit → sProp 𝕄),
        iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare x4 ∗ owns (c : Thread nD τ) arg10 fullShare x5 ∗ owns (c : Thread nD τ) arg11 fullShare x6 ∗ owns (c : Thread nD τ) arg12 fullShare x7 ∗ owns (c : Thread nD τ) arg13 fullShare x8 ∗ (∃ d, owns (c : Thread nD τ) arg14 fullShare d) ∗ (∃ d, owns (c : Thread nD τ) arg15 fullShare d) ∗ tbPt0 c tbM0_0 xt0 ∗ tbPt0 c tbM0_1 xt1 ∗ tbPt0 c tbM0_2 xt2 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ semVal ((c : Thread nD τ), SemLoc.dma 41) 0 ∗ semVal ((c : Thread nD τ), SemLoc.dma 42) 0 ∗ semVal ((c : Thread nD τ), SemLoc.dma 43) 0 ∗ semVal ((c : Thread nD τ), SemLoc.dma 44) 0 ∗ semVal ((c : Thread nD τ), SemLoc.dma 45) 0 ∗ semVal ((c : Thread nD τ), SemLoc.dma 46) 0 ∗ semVal ((c : Thread nD τ), SemLoc.dma 47) 0 ∗ semVal ((c : Thread nD τ), SemLoc.dma 48) 0 ∗ semVal ((c : Thread nD τ), SemLoc.dma 49) 0 ∗ semVal ((c : Thread nD τ), SemLoc.dma 50) 0 ∗ semVal ((c : Thread nD τ), SemLoc.dma 51) 0 ∗ semVal ((c : Thread nD τ), SemLoc.dma 52) 0 ∗ semVal ((c : Thread nD τ), SemLoc.dma 53) 0 ∗ semVal ((c : Thread nD τ), SemLoc.dma 54) 0 ∗ semVal ((c : Thread nD τ), SemLoc.dma 55) 0 ∗ semVal ((c : Thread nD τ), SemLoc.dma 56) 0 ∗ semVal ((c : Thread nD τ), SemLoc.dma 57) 0 ∗ semVal ((c : Thread nD τ), SemLoc.dma 58) 0 ∗ semVal ((c : Thread nD τ), SemLoc.dma 59) 0 ∗ semVal ((c : Thread nD τ), SemLoc.dma 60) 0 ∗ semVal ((c : Thread nD τ), SemLoc.dma 61) 0 ∗ semVal ((c : Thread nD τ), SemLoc.dma 62) 0 ∗ semVal ((c : Thread nD τ), SemLoc.dma 63) 0 ∗ semVal ((c : Thread nD τ), SemLoc.dma 64) 0 ∗ semVal ((c : Thread nD τ), SemLoc.dma 65) 0 ∗ semVal ((c : Thread nD τ), SemLoc.dma 66) 0 ∗ semVal ((c : Thread nD τ), SemLoc.dma 67) 0 ∗ semVal ((c : Thread nD τ), SemLoc.dma 68) 0 ∗ semVal ((c : Thread nD τ), SemLoc.dma 69) 0 ∗ semVal ((c : Thread nD τ), SemLoc.dma 70) 0 ∗ semVal ((c : Thread nD τ), SemLoc.dma 71) 0 ∗ semVal ((c : Thread nD τ), SemLoc.dma 72) 0 ∗ semVal ((c : Thread nD τ), SemLoc.dma 73) 0 ∗ semVal ((c : Thread nD τ), SemLoc.dma 74) 0 ∗ semVal ((c : Thread nD τ), SemLoc.dma 75) 0 ∗ hbPt0 c hbM0_0 fh0 ∗ owes (c : Thread nD τ) 0 W
            ∗ (iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare x4 ∗ owns (c : Thread nD τ) arg10 fullShare x5 ∗ owns (c : Thread nD τ) arg11 fullShare x6 ∗ owns (c : Thread nD τ) arg12 fullShare x7 ∗ owns (c : Thread nD τ) arg13 fullShare x8 ∗ owns (c : Thread nD τ) arg14 fullShare (kOut x0 x1 x2 x3 x4 x5 x6 x7 x8 (Cert.Slabs.stack (patch c i xt0 xt1 xt2 fh0 hT))) ∗ (∃ d, owns (c : Thread nD τ) arg15 fullShare d) ∗ tbPt0 c tbM0_0 xt0 ∗ tbPt0 c tbM0_1 xt1 ∗ tbPt0 c tbM0_2 xt2 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ semVal ((c : Thread nD τ), SemLoc.dma 41) 0 ∗ semVal ((c : Thread nD τ), SemLoc.dma 42) 0 ∗ semVal ((c : Thread nD τ), SemLoc.dma 43) 0 ∗ semVal ((c : Thread nD τ), SemLoc.dma 44) 0 ∗ semVal ((c : Thread nD τ), SemLoc.dma 45) 0 ∗ semVal ((c : Thread nD τ), SemLoc.dma 46) 0 ∗ semVal ((c : Thread nD τ), SemLoc.dma 47) 0 ∗ semVal ((c : Thread nD τ), SemLoc.dma 48) 0 ∗ semVal ((c : Thread nD τ), SemLoc.dma 49) 0 ∗ semVal ((c : Thread nD τ), SemLoc.dma 50) 0 ∗ semVal ((c : Thread nD τ), SemLoc.dma 51) 0 ∗ semVal ((c : Thread nD τ), SemLoc.dma 52) 0 ∗ semVal ((c : Thread nD τ), SemLoc.dma 53) 0 ∗ semVal ((c : Thread nD τ), SemLoc.dma 54) 0 ∗ semVal ((c : Thread nD τ), SemLoc.dma 55) 0 ∗ semVal ((c : Thread nD τ), SemLoc.dma 56) 0 ∗ semVal ((c : Thread nD τ), SemLoc.dma 57) 0 ∗ semVal ((c : Thread nD τ), SemLoc.dma 58) 0 ∗ semVal ((c : Thread nD τ), SemLoc.dma 59) 0 ∗ semVal ((c : Thread nD τ), SemLoc.dma 60) 0 ∗ semVal ((c : Thread nD τ), SemLoc.dma 61) 0 ∗ semVal ((c : Thread nD τ), SemLoc.dma 62) 0 ∗ semVal ((c : Thread nD τ), SemLoc.dma 63) 0 ∗ semVal ((c : Thread nD τ), SemLoc.dma 64) 0 ∗ semVal ((c : Thread nD τ), SemLoc.dma 65) 0 ∗ semVal ((c : Thread nD τ), SemLoc.dma 66) 0 ∗ semVal ((c : Thread nD τ), SemLoc.dma 67) 0 ∗ semVal ((c : Thread nD τ), SemLoc.dma 68) 0 ∗ semVal ((c : Thread nD τ), SemLoc.dma 69) 0 ∗ semVal ((c : Thread nD τ), SemLoc.dma 70) 0 ∗ semVal ((c : Thread nD τ), SemLoc.dma 71) 0 ∗ semVal ((c : Thread nD τ), SemLoc.dma 72) 0 ∗ semVal ((c : Thread nD τ), SemLoc.dma 73) 0 ∗ semVal ((c : Thread nD τ), SemLoc.dma 74) 0 ∗ semVal ((c : Thread nD τ), SemLoc.dma 75) 0 ∗ hbPt0 c hbM0_0 fh0 ∗ (∃ W', owes (c : Thread nD τ) 0 W')) -∗ K ⟨⟩))
          ⊢ wp frame (wpE (defs₀ (F := F)) Variants.none c none) Set.univ (cc0__kern i tbM0_0 htbM0_0 tbM0_1 htbM0_1 tbM0_2 htbM0_2 (Memref.whole main_v0) (Memref.isWhole_whole _) arg5 harg5 arg6 harg6 arg7 harg7 arg8 harg8 arg9 harg9 arg10 harg10 arg11 harg11 arg12 harg12 arg13 harg13 arg14 harg14 arg15 harg15 cc0_scratch1) K := by
    intro W K
    simp only [cc0__kern_eq_skeleton]; unfold cc0__kern_skel
    simp only [k0_part50_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%ds0, %fs0, -, HS0⟩, HT0, HT1, HT2, Hq0, Hq1, Hq2, Hq3, Hq4, Hq5, Hq6, Hq7, Hq8, Hq9, Hq10, Hq11, Hq12, Hq13, Hq14, Hq15, Hq16, Hq17, Hq18, Hq19, Hq20, Hq21, Hq22, Hq23, Hq24, Hq25, Hq26, Hq27, Hq28, Hq29, Hq30, Hq31, Hq32, Hq33, Hq34, Hq35, Hq36, Hq37, Hq38, Hq39, Hq40, Hq41, Hq42, Hq43, Hq44, Hq45, Hq46, Hq47, Hq48, Hq49, Hq50, Hq51, Hq52, Hq53, Hq54, Hq55, Hq56, Hq57, Hq58, Hq59, Hq60, Hq61, Hq62, Hq63, Hh0, HW, Hk⟩
    obtain rfl := harg5.eq_unread hf0; obtain rfl := harg6.eq_unread hf1; obtain rfl := harg7.eq_unread hf2; obtain rfl := harg8.eq_unread hf3; obtain rfl := harg9.eq_unread hf4; obtain rfl := harg10.eq_unread hf5; obtain rfl := harg11.eq_unread hf6; obtain rfl := harg12.eq_unread hf7; obtain rfl := harg13.eq_unread hf8
    have hsp := Entails.of_eq (Cert.Slabs.split (Val := Elt F) (Ix := Unit) (Name := ℕ) (U := Pipeline.UD sig nD τ) (Lvl := ℕ) (c : Thread nD τ) arg15 fs0)
    have hsh := Entails.of_eq (Cert.Slabs.shares (Val := Elt F) (Ix := Unit) (Name := ℕ) (U := Pipeline.UD sig nD τ) (Lvl := ℕ) (ℓ := (Memref.whole main_v0).view.loc (c : Thread nD τ)) Finset.univ fh0)
    rw [Cert.Slabs.expand] at hsp hsh
    beta_reduce at hsp hsh
    ihave HSS := hsp $$ HS0
    icases HSS with ⟨Hs0, Hs1, Hs2, Hs3, Hs4, Hs5, Hs6, Hs7, Hs8, Hs9, Hs10, Hs11, Hs12, Hs13, Hs14, Hs15, Hs16, Hs17, Hs18, Hs19, Hs20, Hs21, Hs22, Hs23, Hs24, Hs25, Hs26, Hs27, Hs28, Hs29, Hs30, Hs31, Hs32, Hs33, Hs34, Hs35, Hs36, Hs37, Hs38, Hs39, Hs40, Hs41, Hs42, Hs43, Hs44, Hs45, Hs46, Hs47, Hs48, Hs49, Hs50, Hs51, Hs52, Hs53, Hs54, Hs55, Hs56, Hs57, Hs58, Hs59, Hs60, Hs61, Hs62, Hs63⟩
    ihave HHH := hsh $$ Hh0
    icases HHH with ⟨Hf0, Hf1, Hf2, Hf3, Hf4, Hf5, Hf6, Hf7, Hf8, Hf9, Hf10, Hf11, Hf12, Hf13, Hf14, Hf15, Hf16, Hf17, Hf18, Hf19, Hf20, Hf21, Hf22, Hf23, Hf24, Hf25, Hf26, Hf27, Hf28, Hf29, Hf30, Hf31, Hf32, Hf33, Hf34, Hf35, Hf36, Hf37, Hf38, Hf39, Hf40, Hf41, Hf42, Hf43, Hf44, Hf45, Hf46, Hf47, Hf48, Hf49, Hf50, Hf51, Hf52, Hf53, Hf54, Hf55, Hf56, Hf57, Hf58, Hf59, Hf60, Hf61, Hf62, Hf63⟩
    clear hsp hsh
    sl_exec (disch := first | exact hT _ _ | exact (hT _ _).1)
    have hj := Cert.Slabs.join (Val := Elt F) (Ix := Unit) (Name := ℕ) (U := Pipeline.UD sig nD τ) (Lvl := ℕ) (c : Thread nD τ) arg15 fs0 (patch c i xt0 xt1 xt2 fh0 hT)
    rw [Cert.Slabs.expand] at hj
    beta_reduce at hj
    ihave HJ := hj $$ [Hs0 Hs1 Hs2 Hs3 Hs4 Hs5 Hs6 Hs7 Hs8 Hs9 Hs10 Hs11 Hs12 Hs13 Hs14 Hs15 Hs16 Hs17 Hs18 Hs19 Hs20 Hs21 Hs22 Hs23 Hs24 Hs25 Hs26 Hs27 Hs28 Hs29 Hs30 Hs31 Hs32 Hs33 Hs34 Hs35 Hs36 Hs37 Hs38 Hs39 Hs40 Hs41 Hs42 Hs43 Hs44 Hs45 Hs46 Hs47 Hs48 Hs49 Hs50 Hs51 Hs52 Hs53 Hs54 Hs55 Hs56 Hs57 Hs58 Hs59 Hs60 Hs61 Hs62 Hs63]
    · skip
      isplitl [Hs0]
      · iapply (Cert.Slabs.refill (c : Thread nD τ) arg15 ⟨0, of_decide_eq_true rfl⟩ fs0 _ _ (show kernelRun0_A.sl.dma3 c i xt0 xt1 xt2 fh0 hT = patch c i xt0 xt1 xt2 fh0 hT ⟨0, of_decide_eq_true rfl⟩ from patch_eq c i xt0 xt1 xt2 fh0 hT ⟨0, of_decide_eq_true rfl⟩ (k0_off1 i) (k0_off1_inb i) (place_eq i ⟨0, of_decide_eq_true rfl⟩))) $$ Hs0
      isplitl [Hs1]
      · iapply (Cert.Slabs.refill (c : Thread nD τ) arg15 ⟨1, of_decide_eq_true rfl⟩ fs0 _ _ (show kernelRun0_A.sl.dma6 c i xt0 xt1 xt2 fh0 hT = patch c i xt0 xt1 xt2 fh0 hT ⟨1, of_decide_eq_true rfl⟩ from patch_eq c i xt0 xt1 xt2 fh0 hT ⟨1, of_decide_eq_true rfl⟩ (k0_off3 i) (k0_off3_inb i) (place_eq i ⟨1, of_decide_eq_true rfl⟩))) $$ Hs1
      isplitl [Hs2]
      · iapply (Cert.Slabs.refill (c : Thread nD τ) arg15 ⟨2, of_decide_eq_true rfl⟩ fs0 _ _ (show kernelRun0_A.sl.dma9 c i xt0 xt1 xt2 fh0 hT = patch c i xt0 xt1 xt2 fh0 hT ⟨2, of_decide_eq_true rfl⟩ from patch_eq c i xt0 xt1 xt2 fh0 hT ⟨2, of_decide_eq_true rfl⟩ (k0_off5 i) (k0_off5_inb i) (place_eq i ⟨2, of_decide_eq_true rfl⟩))) $$ Hs2
      isplitl [Hs3]
      · iapply (Cert.Slabs.refill (c : Thread nD τ) arg15 ⟨3, of_decide_eq_true rfl⟩ fs0 _ _ (show kernelRun0_A.sl.dma12 c i xt0 xt1 xt2 fh0 hT = patch c i xt0 xt1 xt2 fh0 hT ⟨3, of_decide_eq_true rfl⟩ from patch_eq c i xt0 xt1 xt2 fh0 hT ⟨3, of_decide_eq_true rfl⟩ (k0_off7 i) (k0_off7_inb i) (place_eq i ⟨3, of_decide_eq_true rfl⟩))) $$ Hs3
      isplitl [Hs4]
      · iapply (Cert.Slabs.refill (c : Thread nD τ) arg15 ⟨4, of_decide_eq_true rfl⟩ fs0 _ _ (show kernelRun0_A.sl.dma15 c i xt0 xt1 xt2 fh0 hT = patch c i xt0 xt1 xt2 fh0 hT ⟨4, of_decide_eq_true rfl⟩ from patch_eq c i xt0 xt1 xt2 fh0 hT ⟨4, of_decide_eq_true rfl⟩ (k0_off9 i) (k0_off9_inb i) (place_eq i ⟨4, of_decide_eq_true rfl⟩))) $$ Hs4
      isplitl [Hs5]
      · iapply (Cert.Slabs.refill (c : Thread nD τ) arg15 ⟨5, of_decide_eq_true rfl⟩ fs0 _ _ (show kernelRun0_A.sl.dma18 c i xt0 xt1 xt2 fh0 hT = patch c i xt0 xt1 xt2 fh0 hT ⟨5, of_decide_eq_true rfl⟩ from patch_eq c i xt0 xt1 xt2 fh0 hT ⟨5, of_decide_eq_true rfl⟩ (k0_off11 i) (k0_off11_inb i) (place_eq i ⟨5, of_decide_eq_true rfl⟩))) $$ Hs5
      isplitl [Hs6]
      · iapply (Cert.Slabs.refill (c : Thread nD τ) arg15 ⟨6, of_decide_eq_true rfl⟩ fs0 _ _ (show kernelRun0_A.sl.dma21 c i xt0 xt1 xt2 fh0 hT = patch c i xt0 xt1 xt2 fh0 hT ⟨6, of_decide_eq_true rfl⟩ from patch_eq c i xt0 xt1 xt2 fh0 hT ⟨6, of_decide_eq_true rfl⟩ (k0_off13 i) (k0_off13_inb i) (place_eq i ⟨6, of_decide_eq_true rfl⟩))) $$ Hs6
      isplitl [Hs7]
      · iapply (Cert.Slabs.refill (c : Thread nD τ) arg15 ⟨7, of_decide_eq_true rfl⟩ fs0 _ _ (show kernelRun0_A.sl.dma24 c i xt0 xt1 xt2 fh0 hT = patch c i xt0 xt1 xt2 fh0 hT ⟨7, of_decide_eq_true rfl⟩ from patch_eq c i xt0 xt1 xt2 fh0 hT ⟨7, of_decide_eq_true rfl⟩ (k0_off15 i) (k0_off15_inb i) (place_eq i ⟨7, of_decide_eq_true rfl⟩))) $$ Hs7
      isplitl [Hs8]
      · iapply (Cert.Slabs.refill (c : Thread nD τ) arg15 ⟨8, of_decide_eq_true rfl⟩ fs0 _ _ (show kernelRun0_A.sl.dma27 c i xt0 xt1 xt2 fh0 hT = patch c i xt0 xt1 xt2 fh0 hT ⟨8, of_decide_eq_true rfl⟩ from patch_eq c i xt0 xt1 xt2 fh0 hT ⟨8, of_decide_eq_true rfl⟩ (k0_off17 i) (k0_off17_inb i) (place_eq i ⟨8, of_decide_eq_true rfl⟩))) $$ Hs8
      isplitl [Hs9]
      · iapply (Cert.Slabs.refill (c : Thread nD τ) arg15 ⟨9, of_decide_eq_true rfl⟩ fs0 _ _ (show kernelRun0_A.sl.dma30 c i xt0 xt1 xt2 fh0 hT = patch c i xt0 xt1 xt2 fh0 hT ⟨9, of_decide_eq_true rfl⟩ from patch_eq c i xt0 xt1 xt2 fh0 hT ⟨9, of_decide_eq_true rfl⟩ (k0_off19 i) (k0_off19_inb i) (place_eq i ⟨9, of_decide_eq_true rfl⟩))) $$ Hs9
      isplitl [Hs10]
      · iapply (Cert.Slabs.refill (c : Thread nD τ) arg15 ⟨10, of_decide_eq_true rfl⟩ fs0 _ _ (show kernelRun0_A.sl.dma33 c i xt0 xt1 xt2 fh0 hT = patch c i xt0 xt1 xt2 fh0 hT ⟨10, of_decide_eq_true rfl⟩ from patch_eq c i xt0 xt1 xt2 fh0 hT ⟨10, of_decide_eq_true rfl⟩ (k0_off21 i) (k0_off21_inb i) (place_eq i ⟨10, of_decide_eq_true rfl⟩))) $$ Hs10
      isplitl [Hs11]
      · iapply (Cert.Slabs.refill (c : Thread nD τ) arg15 ⟨11, of_decide_eq_true rfl⟩ fs0 _ _ (show kernelRun0_A.sl.dma36 c i xt0 xt1 xt2 fh0 hT = patch c i xt0 xt1 xt2 fh0 hT ⟨11, of_decide_eq_true rfl⟩ from patch_eq c i xt0 xt1 xt2 fh0 hT ⟨11, of_decide_eq_true rfl⟩ (k0_off23 i) (k0_off23_inb i) (place_eq i ⟨11, of_decide_eq_true rfl⟩))) $$ Hs11
      isplitl [Hs12]
      · iapply (Cert.Slabs.refill (c : Thread nD τ) arg15 ⟨12, of_decide_eq_true rfl⟩ fs0 _ _ (show kernelRun0_A.sl.dma39 c i xt0 xt1 xt2 fh0 hT = patch c i xt0 xt1 xt2 fh0 hT ⟨12, of_decide_eq_true rfl⟩ from patch_eq c i xt0 xt1 xt2 fh0 hT ⟨12, of_decide_eq_true rfl⟩ (k0_off25 i) (k0_off25_inb i) (place_eq i ⟨12, of_decide_eq_true rfl⟩))) $$ Hs12
      isplitl [Hs13]
      · iapply (Cert.Slabs.refill (c : Thread nD τ) arg15 ⟨13, of_decide_eq_true rfl⟩ fs0 _ _ (show kernelRun0_A.sl.dma42 c i xt0 xt1 xt2 fh0 hT = patch c i xt0 xt1 xt2 fh0 hT ⟨13, of_decide_eq_true rfl⟩ from patch_eq c i xt0 xt1 xt2 fh0 hT ⟨13, of_decide_eq_true rfl⟩ (k0_off27 i) (k0_off27_inb i) (place_eq i ⟨13, of_decide_eq_true rfl⟩))) $$ Hs13
      isplitl [Hs14]
      · iapply (Cert.Slabs.refill (c : Thread nD τ) arg15 ⟨14, of_decide_eq_true rfl⟩ fs0 _ _ (show kernelRun0_A.sl.dma45 c i xt0 xt1 xt2 fh0 hT = patch c i xt0 xt1 xt2 fh0 hT ⟨14, of_decide_eq_true rfl⟩ from patch_eq c i xt0 xt1 xt2 fh0 hT ⟨14, of_decide_eq_true rfl⟩ (k0_off29 i) (k0_off29_inb i) (place_eq i ⟨14, of_decide_eq_true rfl⟩))) $$ Hs14
      isplitl [Hs15]
      · iapply (Cert.Slabs.refill (c : Thread nD τ) arg15 ⟨15, of_decide_eq_true rfl⟩ fs0 _ _ (show kernelRun0_A.sl.dma48 c i xt0 xt1 xt2 fh0 hT = patch c i xt0 xt1 xt2 fh0 hT ⟨15, of_decide_eq_true rfl⟩ from patch_eq c i xt0 xt1 xt2 fh0 hT ⟨15, of_decide_eq_true rfl⟩ (k0_off31 i) (k0_off31_inb i) (place_eq i ⟨15, of_decide_eq_true rfl⟩))) $$ Hs15
      isplitl [Hs16]
      · iapply (Cert.Slabs.refill (c : Thread nD τ) arg15 ⟨16, of_decide_eq_true rfl⟩ fs0 _ _ (show kernelRun0_A.sl.dma51 c i xt0 xt1 xt2 fh0 hT = patch c i xt0 xt1 xt2 fh0 hT ⟨16, of_decide_eq_true rfl⟩ from patch_eq c i xt0 xt1 xt2 fh0 hT ⟨16, of_decide_eq_true rfl⟩ (k0_off33 i) (k0_off33_inb i) (place_eq i ⟨16, of_decide_eq_true rfl⟩))) $$ Hs16
      isplitl [Hs17]
      · iapply (Cert.Slabs.refill (c : Thread nD τ) arg15 ⟨17, of_decide_eq_true rfl⟩ fs0 _ _ (show kernelRun0_A.sl.dma54 c i xt0 xt1 xt2 fh0 hT = patch c i xt0 xt1 xt2 fh0 hT ⟨17, of_decide_eq_true rfl⟩ from patch_eq c i xt0 xt1 xt2 fh0 hT ⟨17, of_decide_eq_true rfl⟩ (k0_off35 i) (k0_off35_inb i) (place_eq i ⟨17, of_decide_eq_true rfl⟩))) $$ Hs17
      isplitl [Hs18]
      · iapply (Cert.Slabs.refill (c : Thread nD τ) arg15 ⟨18, of_decide_eq_true rfl⟩ fs0 _ _ (show kernelRun0_A.sl.dma57 c i xt0 xt1 xt2 fh0 hT = patch c i xt0 xt1 xt2 fh0 hT ⟨18, of_decide_eq_true rfl⟩ from patch_eq c i xt0 xt1 xt2 fh0 hT ⟨18, of_decide_eq_true rfl⟩ (k0_off37 i) (k0_off37_inb i) (place_eq i ⟨18, of_decide_eq_true rfl⟩))) $$ Hs18
      isplitl [Hs19]
      · iapply (Cert.Slabs.refill (c : Thread nD τ) arg15 ⟨19, of_decide_eq_true rfl⟩ fs0 _ _ (show kernelRun0_A.sl.dma60 c i xt0 xt1 xt2 fh0 hT = patch c i xt0 xt1 xt2 fh0 hT ⟨19, of_decide_eq_true rfl⟩ from patch_eq c i xt0 xt1 xt2 fh0 hT ⟨19, of_decide_eq_true rfl⟩ (k0_off39 i) (k0_off39_inb i) (place_eq i ⟨19, of_decide_eq_true rfl⟩))) $$ Hs19
      isplitl [Hs20]
      · iapply (Cert.Slabs.refill (c : Thread nD τ) arg15 ⟨20, of_decide_eq_true rfl⟩ fs0 _ _ (show kernelRun0_A.sl.dma63 c i xt0 xt1 xt2 fh0 hT = patch c i xt0 xt1 xt2 fh0 hT ⟨20, of_decide_eq_true rfl⟩ from patch_eq c i xt0 xt1 xt2 fh0 hT ⟨20, of_decide_eq_true rfl⟩ (k0_off41 i) (k0_off41_inb i) (place_eq i ⟨20, of_decide_eq_true rfl⟩))) $$ Hs20
      isplitl [Hs21]
      · iapply (Cert.Slabs.refill (c : Thread nD τ) arg15 ⟨21, of_decide_eq_true rfl⟩ fs0 _ _ (show kernelRun0_A.sl.dma66 c i xt0 xt1 xt2 fh0 hT = patch c i xt0 xt1 xt2 fh0 hT ⟨21, of_decide_eq_true rfl⟩ from patch_eq c i xt0 xt1 xt2 fh0 hT ⟨21, of_decide_eq_true rfl⟩ (k0_off43 i) (k0_off43_inb i) (place_eq i ⟨21, of_decide_eq_true rfl⟩))) $$ Hs21
      isplitl [Hs22]
      · iapply (Cert.Slabs.refill (c : Thread nD τ) arg15 ⟨22, of_decide_eq_true rfl⟩ fs0 _ _ (show kernelRun0_A.sl.dma69 c i xt0 xt1 xt2 fh0 hT = patch c i xt0 xt1 xt2 fh0 hT ⟨22, of_decide_eq_true rfl⟩ from patch_eq c i xt0 xt1 xt2 fh0 hT ⟨22, of_decide_eq_true rfl⟩ (k0_off45 i) (k0_off45_inb i) (place_eq i ⟨22, of_decide_eq_true rfl⟩))) $$ Hs22
      isplitl [Hs23]
      · iapply (Cert.Slabs.refill (c : Thread nD τ) arg15 ⟨23, of_decide_eq_true rfl⟩ fs0 _ _ (show kernelRun0_A.sl.dma72 c i xt0 xt1 xt2 fh0 hT = patch c i xt0 xt1 xt2 fh0 hT ⟨23, of_decide_eq_true rfl⟩ from patch_eq c i xt0 xt1 xt2 fh0 hT ⟨23, of_decide_eq_true rfl⟩ (k0_off47 i) (k0_off47_inb i) (place_eq i ⟨23, of_decide_eq_true rfl⟩))) $$ Hs23
      isplitl [Hs24]
      · iapply (Cert.Slabs.refill (c : Thread nD τ) arg15 ⟨24, of_decide_eq_true rfl⟩ fs0 _ _ (show kernelRun0_A.sl.dma75 c i xt0 xt1 xt2 fh0 hT = patch c i xt0 xt1 xt2 fh0 hT ⟨24, of_decide_eq_true rfl⟩ from patch_eq c i xt0 xt1 xt2 fh0 hT ⟨24, of_decide_eq_true rfl⟩ (k0_off49 i) (k0_off49_inb i) (place_eq i ⟨24, of_decide_eq_true rfl⟩))) $$ Hs24
      isplitl [Hs25]
      · iapply (Cert.Slabs.refill (c : Thread nD τ) arg15 ⟨25, of_decide_eq_true rfl⟩ fs0 _ _ (show kernelRun0_A.sl.dma78 c i xt0 xt1 xt2 fh0 hT = patch c i xt0 xt1 xt2 fh0 hT ⟨25, of_decide_eq_true rfl⟩ from patch_eq c i xt0 xt1 xt2 fh0 hT ⟨25, of_decide_eq_true rfl⟩ (k0_off51 i) (k0_off51_inb i) (place_eq i ⟨25, of_decide_eq_true rfl⟩))) $$ Hs25
      isplitl [Hs26]
      · iapply (Cert.Slabs.refill (c : Thread nD τ) arg15 ⟨26, of_decide_eq_true rfl⟩ fs0 _ _ (show kernelRun0_A.sl.dma81 c i xt0 xt1 xt2 fh0 hT = patch c i xt0 xt1 xt2 fh0 hT ⟨26, of_decide_eq_true rfl⟩ from patch_eq c i xt0 xt1 xt2 fh0 hT ⟨26, of_decide_eq_true rfl⟩ (k0_off53 i) (k0_off53_inb i) (place_eq i ⟨26, of_decide_eq_true rfl⟩))) $$ Hs26
      isplitl [Hs27]
      · iapply (Cert.Slabs.refill (c : Thread nD τ) arg15 ⟨27, of_decide_eq_true rfl⟩ fs0 _ _ (show kernelRun0_A.sl.dma84 c i xt0 xt1 xt2 fh0 hT = patch c i xt0 xt1 xt2 fh0 hT ⟨27, of_decide_eq_true rfl⟩ from patch_eq c i xt0 xt1 xt2 fh0 hT ⟨27, of_decide_eq_true rfl⟩ (k0_off55 i) (k0_off55_inb i) (place_eq i ⟨27, of_decide_eq_true rfl⟩))) $$ Hs27
      isplitl [Hs28]
      · iapply (Cert.Slabs.refill (c : Thread nD τ) arg15 ⟨28, of_decide_eq_true rfl⟩ fs0 _ _ (show kernelRun0_A.sl.dma87 c i xt0 xt1 xt2 fh0 hT = patch c i xt0 xt1 xt2 fh0 hT ⟨28, of_decide_eq_true rfl⟩ from patch_eq c i xt0 xt1 xt2 fh0 hT ⟨28, of_decide_eq_true rfl⟩ (k0_off57 i) (k0_off57_inb i) (place_eq i ⟨28, of_decide_eq_true rfl⟩))) $$ Hs28
      isplitl [Hs29]
      · iapply (Cert.Slabs.refill (c : Thread nD τ) arg15 ⟨29, of_decide_eq_true rfl⟩ fs0 _ _ (show kernelRun0_A.sl.dma90 c i xt0 xt1 xt2 fh0 hT = patch c i xt0 xt1 xt2 fh0 hT ⟨29, of_decide_eq_true rfl⟩ from patch_eq c i xt0 xt1 xt2 fh0 hT ⟨29, of_decide_eq_true rfl⟩ (k0_off59 i) (k0_off59_inb i) (place_eq i ⟨29, of_decide_eq_true rfl⟩))) $$ Hs29
      isplitl [Hs30]
      · iapply (Cert.Slabs.refill (c : Thread nD τ) arg15 ⟨30, of_decide_eq_true rfl⟩ fs0 _ _ (show kernelRun0_A.sl.dma93 c i xt0 xt1 xt2 fh0 hT = patch c i xt0 xt1 xt2 fh0 hT ⟨30, of_decide_eq_true rfl⟩ from patch_eq c i xt0 xt1 xt2 fh0 hT ⟨30, of_decide_eq_true rfl⟩ (k0_off61 i) (k0_off61_inb i) (place_eq i ⟨30, of_decide_eq_true rfl⟩))) $$ Hs30
      isplitl [Hs31]
      · iapply (Cert.Slabs.refill (c : Thread nD τ) arg15 ⟨31, of_decide_eq_true rfl⟩ fs0 _ _ (show kernelRun0_A.sl.dma96 c i xt0 xt1 xt2 fh0 hT = patch c i xt0 xt1 xt2 fh0 hT ⟨31, of_decide_eq_true rfl⟩ from patch_eq c i xt0 xt1 xt2 fh0 hT ⟨31, of_decide_eq_true rfl⟩ (k0_off63 i) (k0_off63_inb i) (place_eq i ⟨31, of_decide_eq_true rfl⟩))) $$ Hs31
      isplitl [Hs32]
      · iapply (Cert.Slabs.refill (c : Thread nD τ) arg15 ⟨32, of_decide_eq_true rfl⟩ fs0 _ _ (show kernelRun0_A.sl.dma99 c i xt0 xt1 xt2 fh0 hT = patch c i xt0 xt1 xt2 fh0 hT ⟨32, of_decide_eq_true rfl⟩ from patch_eq c i xt0 xt1 xt2 fh0 hT ⟨32, of_decide_eq_true rfl⟩ (k0_off65 i) (k0_off65_inb i) (place_eq i ⟨32, of_decide_eq_true rfl⟩))) $$ Hs32
      isplitl [Hs33]
      · iapply (Cert.Slabs.refill (c : Thread nD τ) arg15 ⟨33, of_decide_eq_true rfl⟩ fs0 _ _ (show kernelRun0_A.sl.dma102 c i xt0 xt1 xt2 fh0 hT = patch c i xt0 xt1 xt2 fh0 hT ⟨33, of_decide_eq_true rfl⟩ from patch_eq c i xt0 xt1 xt2 fh0 hT ⟨33, of_decide_eq_true rfl⟩ (k0_off67 i) (k0_off67_inb i) (place_eq i ⟨33, of_decide_eq_true rfl⟩))) $$ Hs33
      isplitl [Hs34]
      · iapply (Cert.Slabs.refill (c : Thread nD τ) arg15 ⟨34, of_decide_eq_true rfl⟩ fs0 _ _ (show kernelRun0_A.sl.dma105 c i xt0 xt1 xt2 fh0 hT = patch c i xt0 xt1 xt2 fh0 hT ⟨34, of_decide_eq_true rfl⟩ from patch_eq c i xt0 xt1 xt2 fh0 hT ⟨34, of_decide_eq_true rfl⟩ (k0_off69 i) (k0_off69_inb i) (place_eq i ⟨34, of_decide_eq_true rfl⟩))) $$ Hs34
      isplitl [Hs35]
      · iapply (Cert.Slabs.refill (c : Thread nD τ) arg15 ⟨35, of_decide_eq_true rfl⟩ fs0 _ _ (show kernelRun0_A.sl.dma108 c i xt0 xt1 xt2 fh0 hT = patch c i xt0 xt1 xt2 fh0 hT ⟨35, of_decide_eq_true rfl⟩ from patch_eq c i xt0 xt1 xt2 fh0 hT ⟨35, of_decide_eq_true rfl⟩ (k0_off71 i) (k0_off71_inb i) (place_eq i ⟨35, of_decide_eq_true rfl⟩))) $$ Hs35
      isplitl [Hs36]
      · iapply (Cert.Slabs.refill (c : Thread nD τ) arg15 ⟨36, of_decide_eq_true rfl⟩ fs0 _ _ (show kernelRun0_A.sl.dma111 c i xt0 xt1 xt2 fh0 hT = patch c i xt0 xt1 xt2 fh0 hT ⟨36, of_decide_eq_true rfl⟩ from patch_eq c i xt0 xt1 xt2 fh0 hT ⟨36, of_decide_eq_true rfl⟩ (k0_off73 i) (k0_off73_inb i) (place_eq i ⟨36, of_decide_eq_true rfl⟩))) $$ Hs36
      isplitl [Hs37]
      · iapply (Cert.Slabs.refill (c : Thread nD τ) arg15 ⟨37, of_decide_eq_true rfl⟩ fs0 _ _ (show kernelRun0_A.sl.dma114 c i xt0 xt1 xt2 fh0 hT = patch c i xt0 xt1 xt2 fh0 hT ⟨37, of_decide_eq_true rfl⟩ from patch_eq c i xt0 xt1 xt2 fh0 hT ⟨37, of_decide_eq_true rfl⟩ (k0_off75 i) (k0_off75_inb i) (place_eq i ⟨37, of_decide_eq_true rfl⟩))) $$ Hs37
      isplitl [Hs38]
      · iapply (Cert.Slabs.refill (c : Thread nD τ) arg15 ⟨38, of_decide_eq_true rfl⟩ fs0 _ _ (show kernelRun0_A.sl.dma117 c i xt0 xt1 xt2 fh0 hT = patch c i xt0 xt1 xt2 fh0 hT ⟨38, of_decide_eq_true rfl⟩ from patch_eq c i xt0 xt1 xt2 fh0 hT ⟨38, of_decide_eq_true rfl⟩ (k0_off77 i) (k0_off77_inb i) (place_eq i ⟨38, of_decide_eq_true rfl⟩))) $$ Hs38
      isplitl [Hs39]
      · iapply (Cert.Slabs.refill (c : Thread nD τ) arg15 ⟨39, of_decide_eq_true rfl⟩ fs0 _ _ (show kernelRun0_A.sl.dma120 c i xt0 xt1 xt2 fh0 hT = patch c i xt0 xt1 xt2 fh0 hT ⟨39, of_decide_eq_true rfl⟩ from patch_eq c i xt0 xt1 xt2 fh0 hT ⟨39, of_decide_eq_true rfl⟩ (k0_off79 i) (k0_off79_inb i) (place_eq i ⟨39, of_decide_eq_true rfl⟩))) $$ Hs39
      isplitl [Hs40]
      · iapply (Cert.Slabs.refill (c : Thread nD τ) arg15 ⟨40, of_decide_eq_true rfl⟩ fs0 _ _ (show kernelRun0_A.sl.dma123 c i xt0 xt1 xt2 fh0 hT = patch c i xt0 xt1 xt2 fh0 hT ⟨40, of_decide_eq_true rfl⟩ from patch_eq c i xt0 xt1 xt2 fh0 hT ⟨40, of_decide_eq_true rfl⟩ (k0_off81 i) (k0_off81_inb i) (place_eq i ⟨40, of_decide_eq_true rfl⟩))) $$ Hs40
      isplitl [Hs41]
      · iapply (Cert.Slabs.refill (c : Thread nD τ) arg15 ⟨41, of_decide_eq_true rfl⟩ fs0 _ _ (show kernelRun0_A.sl.dma126 c i xt0 xt1 xt2 fh0 hT = patch c i xt0 xt1 xt2 fh0 hT ⟨41, of_decide_eq_true rfl⟩ from patch_eq c i xt0 xt1 xt2 fh0 hT ⟨41, of_decide_eq_true rfl⟩ (k0_off83 i) (k0_off83_inb i) (place_eq i ⟨41, of_decide_eq_true rfl⟩))) $$ Hs41
      isplitl [Hs42]
      · iapply (Cert.Slabs.refill (c : Thread nD τ) arg15 ⟨42, of_decide_eq_true rfl⟩ fs0 _ _ (show kernelRun0_A.sl.dma129 c i xt0 xt1 xt2 fh0 hT = patch c i xt0 xt1 xt2 fh0 hT ⟨42, of_decide_eq_true rfl⟩ from patch_eq c i xt0 xt1 xt2 fh0 hT ⟨42, of_decide_eq_true rfl⟩ (k0_off85 i) (k0_off85_inb i) (place_eq i ⟨42, of_decide_eq_true rfl⟩))) $$ Hs42
      isplitl [Hs43]
      · iapply (Cert.Slabs.refill (c : Thread nD τ) arg15 ⟨43, of_decide_eq_true rfl⟩ fs0 _ _ (show kernelRun0_A.sl.dma132 c i xt0 xt1 xt2 fh0 hT = patch c i xt0 xt1 xt2 fh0 hT ⟨43, of_decide_eq_true rfl⟩ from patch_eq c i xt0 xt1 xt2 fh0 hT ⟨43, of_decide_eq_true rfl⟩ (k0_off87 i) (k0_off87_inb i) (place_eq i ⟨43, of_decide_eq_true rfl⟩))) $$ Hs43
      isplitl [Hs44]
      · iapply (Cert.Slabs.refill (c : Thread nD τ) arg15 ⟨44, of_decide_eq_true rfl⟩ fs0 _ _ (show kernelRun0_A.sl.dma135 c i xt0 xt1 xt2 fh0 hT = patch c i xt0 xt1 xt2 fh0 hT ⟨44, of_decide_eq_true rfl⟩ from patch_eq c i xt0 xt1 xt2 fh0 hT ⟨44, of_decide_eq_true rfl⟩ (k0_off89 i) (k0_off89_inb i) (place_eq i ⟨44, of_decide_eq_true rfl⟩))) $$ Hs44
      isplitl [Hs45]
      · iapply (Cert.Slabs.refill (c : Thread nD τ) arg15 ⟨45, of_decide_eq_true rfl⟩ fs0 _ _ (show kernelRun0_A.sl.dma138 c i xt0 xt1 xt2 fh0 hT = patch c i xt0 xt1 xt2 fh0 hT ⟨45, of_decide_eq_true rfl⟩ from patch_eq c i xt0 xt1 xt2 fh0 hT ⟨45, of_decide_eq_true rfl⟩ (k0_off91 i) (k0_off91_inb i) (place_eq i ⟨45, of_decide_eq_true rfl⟩))) $$ Hs45
      isplitl [Hs46]
      · iapply (Cert.Slabs.refill (c : Thread nD τ) arg15 ⟨46, of_decide_eq_true rfl⟩ fs0 _ _ (show kernelRun0_A.sl.dma141 c i xt0 xt1 xt2 fh0 hT = patch c i xt0 xt1 xt2 fh0 hT ⟨46, of_decide_eq_true rfl⟩ from patch_eq c i xt0 xt1 xt2 fh0 hT ⟨46, of_decide_eq_true rfl⟩ (k0_off93 i) (k0_off93_inb i) (place_eq i ⟨46, of_decide_eq_true rfl⟩))) $$ Hs46
      isplitl [Hs47]
      · iapply (Cert.Slabs.refill (c : Thread nD τ) arg15 ⟨47, of_decide_eq_true rfl⟩ fs0 _ _ (show kernelRun0_A.sl.dma144 c i xt0 xt1 xt2 fh0 hT = patch c i xt0 xt1 xt2 fh0 hT ⟨47, of_decide_eq_true rfl⟩ from patch_eq c i xt0 xt1 xt2 fh0 hT ⟨47, of_decide_eq_true rfl⟩ (k0_off95 i) (k0_off95_inb i) (place_eq i ⟨47, of_decide_eq_true rfl⟩))) $$ Hs47
      isplitl [Hs48]
      · iapply (Cert.Slabs.refill (c : Thread nD τ) arg15 ⟨48, of_decide_eq_true rfl⟩ fs0 _ _ (show kernelRun0_A.sl.dma147 c i xt0 xt1 xt2 fh0 hT = patch c i xt0 xt1 xt2 fh0 hT ⟨48, of_decide_eq_true rfl⟩ from patch_eq c i xt0 xt1 xt2 fh0 hT ⟨48, of_decide_eq_true rfl⟩ (k0_off97 i) (k0_off97_inb i) (place_eq i ⟨48, of_decide_eq_true rfl⟩))) $$ Hs48
      isplitl [Hs49]
      · iapply (Cert.Slabs.refill (c : Thread nD τ) arg15 ⟨49, of_decide_eq_true rfl⟩ fs0 _ _ (show kernelRun0_A.sl.dma150 c i xt0 xt1 xt2 fh0 hT = patch c i xt0 xt1 xt2 fh0 hT ⟨49, of_decide_eq_true rfl⟩ from patch_eq c i xt0 xt1 xt2 fh0 hT ⟨49, of_decide_eq_true rfl⟩ (k0_off99 i) (k0_off99_inb i) (place_eq i ⟨49, of_decide_eq_true rfl⟩))) $$ Hs49
      isplitl [Hs50]
      · iapply (Cert.Slabs.refill (c : Thread nD τ) arg15 ⟨50, of_decide_eq_true rfl⟩ fs0 _ _ (show kernelRun0_A.sl.dma153 c i xt0 xt1 xt2 fh0 hT = patch c i xt0 xt1 xt2 fh0 hT ⟨50, of_decide_eq_true rfl⟩ from patch_eq c i xt0 xt1 xt2 fh0 hT ⟨50, of_decide_eq_true rfl⟩ (k0_off101 i) (k0_off101_inb i) (place_eq i ⟨50, of_decide_eq_true rfl⟩))) $$ Hs50
      isplitl [Hs51]
      · iapply (Cert.Slabs.refill (c : Thread nD τ) arg15 ⟨51, of_decide_eq_true rfl⟩ fs0 _ _ (show kernelRun0_A.sl.dma156 c i xt0 xt1 xt2 fh0 hT = patch c i xt0 xt1 xt2 fh0 hT ⟨51, of_decide_eq_true rfl⟩ from patch_eq c i xt0 xt1 xt2 fh0 hT ⟨51, of_decide_eq_true rfl⟩ (k0_off103 i) (k0_off103_inb i) (place_eq i ⟨51, of_decide_eq_true rfl⟩))) $$ Hs51
      isplitl [Hs52]
      · iapply (Cert.Slabs.refill (c : Thread nD τ) arg15 ⟨52, of_decide_eq_true rfl⟩ fs0 _ _ (show kernelRun0_A.sl.dma159 c i xt0 xt1 xt2 fh0 hT = patch c i xt0 xt1 xt2 fh0 hT ⟨52, of_decide_eq_true rfl⟩ from patch_eq c i xt0 xt1 xt2 fh0 hT ⟨52, of_decide_eq_true rfl⟩ (k0_off105 i) (k0_off105_inb i) (place_eq i ⟨52, of_decide_eq_true rfl⟩))) $$ Hs52
      isplitl [Hs53]
      · iapply (Cert.Slabs.refill (c : Thread nD τ) arg15 ⟨53, of_decide_eq_true rfl⟩ fs0 _ _ (show kernelRun0_A.sl.dma162 c i xt0 xt1 xt2 fh0 hT = patch c i xt0 xt1 xt2 fh0 hT ⟨53, of_decide_eq_true rfl⟩ from patch_eq c i xt0 xt1 xt2 fh0 hT ⟨53, of_decide_eq_true rfl⟩ (k0_off107 i) (k0_off107_inb i) (place_eq i ⟨53, of_decide_eq_true rfl⟩))) $$ Hs53
      isplitl [Hs54]
      · iapply (Cert.Slabs.refill (c : Thread nD τ) arg15 ⟨54, of_decide_eq_true rfl⟩ fs0 _ _ (show kernelRun0_A.sl.dma165 c i xt0 xt1 xt2 fh0 hT = patch c i xt0 xt1 xt2 fh0 hT ⟨54, of_decide_eq_true rfl⟩ from patch_eq c i xt0 xt1 xt2 fh0 hT ⟨54, of_decide_eq_true rfl⟩ (k0_off109 i) (k0_off109_inb i) (place_eq i ⟨54, of_decide_eq_true rfl⟩))) $$ Hs54
      isplitl [Hs55]
      · iapply (Cert.Slabs.refill (c : Thread nD τ) arg15 ⟨55, of_decide_eq_true rfl⟩ fs0 _ _ (show kernelRun0_A.sl.dma168 c i xt0 xt1 xt2 fh0 hT = patch c i xt0 xt1 xt2 fh0 hT ⟨55, of_decide_eq_true rfl⟩ from patch_eq c i xt0 xt1 xt2 fh0 hT ⟨55, of_decide_eq_true rfl⟩ (k0_off111 i) (k0_off111_inb i) (place_eq i ⟨55, of_decide_eq_true rfl⟩))) $$ Hs55
      isplitl [Hs56]
      · iapply (Cert.Slabs.refill (c : Thread nD τ) arg15 ⟨56, of_decide_eq_true rfl⟩ fs0 _ _ (show kernelRun0_A.sl.dma171 c i xt0 xt1 xt2 fh0 hT = patch c i xt0 xt1 xt2 fh0 hT ⟨56, of_decide_eq_true rfl⟩ from patch_eq c i xt0 xt1 xt2 fh0 hT ⟨56, of_decide_eq_true rfl⟩ (k0_off113 i) (k0_off113_inb i) (place_eq i ⟨56, of_decide_eq_true rfl⟩))) $$ Hs56
      isplitl [Hs57]
      · iapply (Cert.Slabs.refill (c : Thread nD τ) arg15 ⟨57, of_decide_eq_true rfl⟩ fs0 _ _ (show kernelRun0_A.sl.dma174 c i xt0 xt1 xt2 fh0 hT = patch c i xt0 xt1 xt2 fh0 hT ⟨57, of_decide_eq_true rfl⟩ from patch_eq c i xt0 xt1 xt2 fh0 hT ⟨57, of_decide_eq_true rfl⟩ (k0_off115 i) (k0_off115_inb i) (place_eq i ⟨57, of_decide_eq_true rfl⟩))) $$ Hs57
      isplitl [Hs58]
      · iapply (Cert.Slabs.refill (c : Thread nD τ) arg15 ⟨58, of_decide_eq_true rfl⟩ fs0 _ _ (show kernelRun0_A.sl.dma177 c i xt0 xt1 xt2 fh0 hT = patch c i xt0 xt1 xt2 fh0 hT ⟨58, of_decide_eq_true rfl⟩ from patch_eq c i xt0 xt1 xt2 fh0 hT ⟨58, of_decide_eq_true rfl⟩ (k0_off117 i) (k0_off117_inb i) (place_eq i ⟨58, of_decide_eq_true rfl⟩))) $$ Hs58
      isplitl [Hs59]
      · iapply (Cert.Slabs.refill (c : Thread nD τ) arg15 ⟨59, of_decide_eq_true rfl⟩ fs0 _ _ (show kernelRun0_A.sl.dma180 c i xt0 xt1 xt2 fh0 hT = patch c i xt0 xt1 xt2 fh0 hT ⟨59, of_decide_eq_true rfl⟩ from patch_eq c i xt0 xt1 xt2 fh0 hT ⟨59, of_decide_eq_true rfl⟩ (k0_off119 i) (k0_off119_inb i) (place_eq i ⟨59, of_decide_eq_true rfl⟩))) $$ Hs59
      isplitl [Hs60]
      · iapply (Cert.Slabs.refill (c : Thread nD τ) arg15 ⟨60, of_decide_eq_true rfl⟩ fs0 _ _ (show kernelRun0_A.sl.dma183 c i xt0 xt1 xt2 fh0 hT = patch c i xt0 xt1 xt2 fh0 hT ⟨60, of_decide_eq_true rfl⟩ from patch_eq c i xt0 xt1 xt2 fh0 hT ⟨60, of_decide_eq_true rfl⟩ (k0_off121 i) (k0_off121_inb i) (place_eq i ⟨60, of_decide_eq_true rfl⟩))) $$ Hs60
      isplitl [Hs61]
      · iapply (Cert.Slabs.refill (c : Thread nD τ) arg15 ⟨61, of_decide_eq_true rfl⟩ fs0 _ _ (show kernelRun0_A.sl.dma186 c i xt0 xt1 xt2 fh0 hT = patch c i xt0 xt1 xt2 fh0 hT ⟨61, of_decide_eq_true rfl⟩ from patch_eq c i xt0 xt1 xt2 fh0 hT ⟨61, of_decide_eq_true rfl⟩ (k0_off123 i) (k0_off123_inb i) (place_eq i ⟨61, of_decide_eq_true rfl⟩))) $$ Hs61
      isplitl [Hs62]
      · iapply (Cert.Slabs.refill (c : Thread nD τ) arg15 ⟨62, of_decide_eq_true rfl⟩ fs0 _ _ (show kernelRun0_A.sl.dma189 c i xt0 xt1 xt2 fh0 hT = patch c i xt0 xt1 xt2 fh0 hT ⟨62, of_decide_eq_true rfl⟩ from patch_eq c i xt0 xt1 xt2 fh0 hT ⟨62, of_decide_eq_true rfl⟩ (k0_off125 i) (k0_off125_inb i) (place_eq i ⟨62, of_decide_eq_true rfl⟩))) $$ Hs62
      iapply (Cert.Slabs.refill (c : Thread nD τ) arg15 ⟨63, of_decide_eq_true rfl⟩ fs0 _ _ (show kernelRun0_A.sl.dma192 c i xt0 xt1 xt2 fh0 hT = patch c i xt0 xt1 xt2 fh0 hT ⟨63, of_decide_eq_true rfl⟩ from patch_eq c i xt0 xt1 xt2 fh0 hT ⟨63, of_decide_eq_true rfl⟩ (k0_off127 i) (k0_off127_inb i) (place_eq i ⟨63, of_decide_eq_true rfl⟩))) $$ Hs63
    clear hj
    unfold owns
    icases HJ with ⟨%fj, %hfj, HS0⟩
    obtain rfl := harg15.eq_unread hfj
    sl_exec (disch := first | exact hT _ _ | exact (hT _ _).1)
    sl_step

    iapply Hk
    isplitl [H0]
    · iexists _; isplitr; · ipureintro; exact harg5.read_unread _
      iexact H0
    isplitl [H1]
    · iexists _; isplitr; · ipureintro; exact harg6.read_unread _
      iexact H1
    isplitl [H2]
    · iexists _; isplitr; · ipureintro; exact harg7.read_unread _
      iexact H2
    isplitl [H3]
    · iexists _; isplitr; · ipureintro; exact harg8.read_unread _
      iexact H3
    isplitl [H4]
    · iexists _; isplitr; · ipureintro; exact harg9.read_unread _
      iexact H4
    isplitl [H5]
    · iexists _; isplitr; · ipureintro; exact harg10.read_unread _
      iexact H5
    isplitl [H6]
    · iexists _; isplitr; · ipureintro; exact harg11.read_unread _
      iexact H6
    isplitl [H7]
    · iexists _; isplitr; · ipureintro; exact harg12.read_unread _
      iexact H7
    isplitl [H8]
    · iexists _; isplitr; · ipureintro; exact harg13.read_unread _
      iexact H8
    isplitl [H9]
    · iexists _; isplitr; swap; · iexact H9
      ipureintro
      refine (stored f9 _).trans ?_
      show kVal (arg5.view.readAt (Elt F) (Rect.unit (s := S64x8) ![0, 0] S64x8.size inb_S64x8_S64x8_0_0).toLoadRect (harg5.unread x0))
        (arg15.view.readAt (Elt F) (Rect.unit (s := S64x16x16x64) ![0, 0, 0, 0] S64x16x16x64.size inb_S64x16x16x64_S64x16x16x64_0_0_0_0).toLoadRect (harg15.unread (Cert.Slabs.stack (patch c i xt0 xt1 xt2 fh0 hT))))
        (arg6.view.readAt (Elt F) (Rect.unit (s := S576x128) ![0, 0] S576x128.size inb_S576x128_S576x128_0_0).toLoadRect (harg6.unread x1))
        (arg7.view.readAt (Elt F) (Rect.unit (s := S1x128) ![0, 0] S1x128.size inb_S1x128_S1x128_0_0).toLoadRect (harg7.unread x2))
        (arg8.view.readAt (Elt F) (Rect.unit (s := S1152x128) ![0, 0] S128x128.size inb_S1152x128_S128x128_0_0).toLoadRect (harg8.unread x3))
        (arg8.view.readAt (Elt F) (Rect.unit (s := S1152x128) ![128, 0] S128x128.size inb_S1152x128_S128x128_128_0).toLoadRect (harg8.unread x3))
        (arg8.view.readAt (Elt F) (Rect.unit (s := S1152x128) ![256, 0] S128x128.size inb_S1152x128_S128x128_256_0).toLoadRect (harg8.unread x3))
        (arg8.view.readAt (Elt F) (Rect.unit (s := S1152x128) ![384, 0] S128x128.size inb_S1152x128_S128x128_384_0).toLoadRect (harg8.unread x3))
        (arg8.view.readAt (Elt F) (Rect.unit (s := S1152x128) ![512, 0] S128x128.size inb_S1152x128_S128x128_512_0).toLoadRect (harg8.unread x3))
        (arg8.view.readAt (Elt F) (Rect.unit (s := S1152x128) ![640, 0] S128x128.size inb_S1152x128_S128x128_640_0).toLoadRect (harg8.unread x3))
        (arg8.view.readAt (Elt F) (Rect.unit (s := S1152x128) ![768, 0] S128x128.size inb_S1152x128_S128x128_768_0).toLoadRect (harg8.unread x3))
        (arg8.view.readAt (Elt F) (Rect.unit (s := S1152x128) ![896, 0] S128x128.size inb_S1152x128_S128x128_896_0).toLoadRect (harg8.unread x3))
        (arg8.view.readAt (Elt F) (Rect.unit (s := S1152x128) ![1024, 0] S128x128.size inb_S1152x128_S128x128_1024_0).toLoadRect (harg8.unread x3))
        (arg9.view.readAt (Elt F) (Rect.unit (s := S1x128) ![0, 0] S1x128.size inb_S1x128_S1x128_0_0).toLoadRect (harg9.unread x4))
        (arg10.view.readAt (Elt F) (Rect.unit (s := S6272x256) ![0, 0] S6272x256.size inb_S6272x256_S6272x256_0_0).toLoadRect (harg10.unread x5))
        (arg11.view.readAt (Elt F) (Rect.unit (s := S1x256) ![0, 0] S1x256.size inb_S1x256_S1x256_0_0).toLoadRect (harg11.unread x6))
        (arg12.view.readAt (Elt F) (Rect.unit (s := S256x128) ![0, 0] S256x128.size inb_S256x128_S256x128_0_0).toLoadRect (harg12.unread x7))
        (arg13.view.readAt (Elt F) (Rect.unit (s := S1x128) ![0, 0] S1x128.size inb_S1x128_S1x128_0_0).toLoadRect (harg13.unread x8)) = _
      rw [loadRows harg8 x3 0, loadRows harg8 x3 128, loadRows harg8 x3 256, loadRows harg8 x3 384, loadRows harg8 x3 512, loadRows harg8 x3 640, loadRows harg8 x3 768, loadRows harg8 x3 896, loadRows harg8 x3 1024]
      rw [load2 harg5 x0, load4 harg15 _, load2 harg6 x1, load2 harg7 x2, load2 harg9 x4, load2 harg10 x5, load2 harg11 x6, load2 harg12 x7, load2 harg13 x8]
      rfl
    isplitl [HS0]
    · iexists _, _; isplitr; swap; · iexact HS0
      ipureintro; rfl
    isplitl [HT0]; · iexact HT0
    isplitl [HT1]; · iexact HT1
    isplitl [HT2]; · iexact HT2
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hq12]; · iexact Hq12
    isplitl [Hq13]; · iexact Hq13
    isplitl [Hq14]; · iexact Hq14
    isplitl [Hq15]; · iexact Hq15
    isplitl [Hq16]; · iexact Hq16
    isplitl [Hq17]; · iexact Hq17
    isplitl [Hq18]; · iexact Hq18
    isplitl [Hq19]; · iexact Hq19
    isplitl [Hq20]; · iexact Hq20
    isplitl [Hq21]; · iexact Hq21
    isplitl [Hq22]; · iexact Hq22
    isplitl [Hq23]; · iexact Hq23
    isplitl [Hq24]; · iexact Hq24
    isplitl [Hq25]; · iexact Hq25
    isplitl [Hq26]; · iexact Hq26
    isplitl [Hq27]; · iexact Hq27
    isplitl [Hq28]; · iexact Hq28
    isplitl [Hq29]; · iexact Hq29
    isplitl [Hq30]; · iexact Hq30
    isplitl [Hq31]; · iexact Hq31
    isplitl [Hq32]; · iexact Hq32
    isplitl [Hq33]; · iexact Hq33
    isplitl [Hq34]; · iexact Hq34
    isplitl [Hq35]; · iexact Hq35
    isplitl [Hq36]; · iexact Hq36
    isplitl [Hq37]; · iexact Hq37
    isplitl [Hq38]; · iexact Hq38
    isplitl [Hq39]; · iexact Hq39
    isplitl [Hq40]; · iexact Hq40
    isplitl [Hq41]; · iexact Hq41
    isplitl [Hq42]; · iexact Hq42
    isplitl [Hq43]; · iexact Hq43
    isplitl [Hq44]; · iexact Hq44
    isplitl [Hq45]; · iexact Hq45
    isplitl [Hq46]; · iexact Hq46
    isplitl [Hq47]; · iexact Hq47
    isplitl [Hq48]; · iexact Hq48
    isplitl [Hq49]; · iexact Hq49
    isplitl [Hq50]; · iexact Hq50
    isplitl [Hq51]; · iexact Hq51
    isplitl [Hq52]; · iexact Hq52
    isplitl [Hq53]; · iexact Hq53
    isplitl [Hq54]; · iexact Hq54
    isplitl [Hq55]; · iexact Hq55
    isplitl [Hq56]; · iexact Hq56
    isplitl [Hq57]; · iexact Hq57
    isplitl [Hq58]; · iexact Hq58
    isplitl [Hq59]; · iexact Hq59
    isplitl [Hq60]; · iexact Hq60
    isplitl [Hq61]; · iexact Hq61
    isplitl [Hq62]; · iexact Hq62
    isplitl [Hq63]; · iexact Hq63
    isplitl [Hf0 Hf1 Hf2 Hf3 Hf4 Hf5 Hf6 Hf7 Hf8 Hf9 Hf10 Hf11 Hf12 Hf13 Hf14 Hf15 Hf16 Hf17 Hf18 Hf19 Hf20 Hf21 Hf22 Hf23 Hf24 Hf25 Hf26 Hf27 Hf28 Hf29 Hf30 Hf31 Hf32 Hf33 Hf34 Hf35 Hf36 Hf37 Hf38 Hf39 Hf40 Hf41 Hf42 Hf43 Hf44 Hf45 Hf46 Hf47 Hf48 Hf49 Hf50 Hf51 Hf52 Hf53 Hf54 Hf55 Hf56 Hf57 Hf58 Hf59 Hf60 Hf61 Hf62 Hf63]
    · have hsh := Entails.of_eq (Cert.Slabs.shares (Val := Elt F) (Ix := Unit) (Name := ℕ) (U := Pipeline.UD sig nD τ) (Lvl := ℕ) (ℓ := (Memref.whole main_v0).view.loc (c : Thread nD τ)) Finset.univ fh0).symm
      rw [Cert.Slabs.expand] at hsh
      beta_reduce at hsh
      iapply hsh $$ [Hf0 Hf1 Hf2 Hf3 Hf4 Hf5 Hf6 Hf7 Hf8 Hf9 Hf10 Hf11 Hf12 Hf13 Hf14 Hf15 Hf16 Hf17 Hf18 Hf19 Hf20 Hf21 Hf22 Hf23 Hf24 Hf25 Hf26 Hf27 Hf28 Hf29 Hf30 Hf31 Hf32 Hf33 Hf34 Hf35 Hf36 Hf37 Hf38 Hf39 Hf40 Hf41 Hf42 Hf43 Hf44 Hf45 Hf46 Hf47 Hf48 Hf49 Hf50 Hf51 Hf52 Hf53 Hf54 Hf55 Hf56 Hf57 Hf58 Hf59 Hf60 Hf61 Hf62 Hf63]
      isplitl [Hf0]; · iexact Hf0
      isplitl [Hf1]; · iexact Hf1
      isplitl [Hf2]; · iexact Hf2
      isplitl [Hf3]; · iexact Hf3
      isplitl [Hf4]; · iexact Hf4
      isplitl [Hf5]; · iexact Hf5
      isplitl [Hf6]; · iexact Hf6
      isplitl [Hf7]; · iexact Hf7
      isplitl [Hf8]; · iexact Hf8
      isplitl [Hf9]; · iexact Hf9
      isplitl [Hf10]; · iexact Hf10
      isplitl [Hf11]; · iexact Hf11
      isplitl [Hf12]; · iexact Hf12
      isplitl [Hf13]; · iexact Hf13
      isplitl [Hf14]; · iexact Hf14
      isplitl [Hf15]; · iexact Hf15
      isplitl [Hf16]; · iexact Hf16
      isplitl [Hf17]; · iexact Hf17
      isplitl [Hf18]; · iexact Hf18
      isplitl [Hf19]; · iexact Hf19
      isplitl [Hf20]; · iexact Hf20
      isplitl [Hf21]; · iexact Hf21
      isplitl [Hf22]; · iexact Hf22
      isplitl [Hf23]; · iexact Hf23
      isplitl [Hf24]; · iexact Hf24
      isplitl [Hf25]; · iexact Hf25
      isplitl [Hf26]; · iexact Hf26
      isplitl [Hf27]; · iexact Hf27
      isplitl [Hf28]; · iexact Hf28
      isplitl [Hf29]; · iexact Hf29
      isplitl [Hf30]; · iexact Hf30
      isplitl [Hf31]; · iexact Hf31
      isplitl [Hf32]; · iexact Hf32
      isplitl [Hf33]; · iexact Hf33
      isplitl [Hf34]; · iexact Hf34
      isplitl [Hf35]; · iexact Hf35
      isplitl [Hf36]; · iexact Hf36
      isplitl [Hf37]; · iexact Hf37
      isplitl [Hf38]; · iexact Hf38
      isplitl [Hf39]; · iexact Hf39
      isplitl [Hf40]; · iexact Hf40
      isplitl [Hf41]; · iexact Hf41
      isplitl [Hf42]; · iexact Hf42
      isplitl [Hf43]; · iexact Hf43
      isplitl [Hf44]; · iexact Hf44
      isplitl [Hf45]; · iexact Hf45
      isplitl [Hf46]; · iexact Hf46
      isplitl [Hf47]; · iexact Hf47
      isplitl [Hf48]; · iexact Hf48
      isplitl [Hf49]; · iexact Hf49
      isplitl [Hf50]; · iexact Hf50
      isplitl [Hf51]; · iexact Hf51
      isplitl [Hf52]; · iexact Hf52
      isplitl [Hf53]; · iexact Hf53
      isplitl [Hf54]; · iexact Hf54
      isplitl [Hf55]; · iexact Hf55
      isplitl [Hf56]; · iexact Hf56
      isplitl [Hf57]; · iexact Hf57
      isplitl [Hf58]; · iexact Hf58
      isplitl [Hf59]; · iexact Hf59
      isplitl [Hf60]; · iexact Hf60
      isplitl [Hf61]; · iexact Hf61
      isplitl [Hf62]; · iexact Hf62
      iexact Hf63
    iexists _; iexact HW

end Cert.KernelIdeal.Roi

end
-- ==== Proof.Ideal.Launch.lean ====
/- The pipeline's proof data, the body at every point, and the run of the whole launch. -/
module

public import proofs.«01_k».proof.Proof.Ideal.Body

@[expose] public section

set_option maxRecDepth 16384

noncomputable section

namespace Cert.KernelIdeal.Roi

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The pipeline's proof data -/

/-- Every word triple of the tables names a patch inside the feature map. -/
abbrev TabsOk : Prop := ∀ c : Dev nD, TabOk (F := F) c (tbl m 0) (tbl m 1) (tbl m 2)

/-- What the kernel stores at point `t`: its value on the blocks of the point and the 64 patches the point's words name. -/
def outBlk (hO : Ok m) (hH : TabsOk m) (c : Dev nD) (t : Fin (cfgM m hO).N) : Vec F S64x1 .f32 :=
  kOut (iblk m hO c 0 t) (iblk m hO c 1 t) (iblk m hO c 2 t) (iblk m hO c 3 t) (iblk m hO c 4 t) (iblk m hO c 5 t) (iblk m hO c 6 t) (iblk m hO c 7 t) (iblk m hO c 8 t)
    (Cert.Slabs.stack (patch c (grid0.coords t) (tbl m 0) (tbl m 1) (tbl m 2) (V m c main_v0) (hH c)))

/-- The proof data of the pipeline: the arrays as the region finds them; after a point each input at its block and the
    output at what the kernel stores; between points the scratch, the transfer counters at zero, the feature map and the tables. -/
def dats (hO : Ok m) (hH : TabsOk m) (_ : Fin 1) (c : Dev nD) : Dat τ (Elt F) Unit ℕ (Pipeline.UD sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, _⟩ => iblk m hO c 8 t
    | ⟨9, _⟩ => outBlk m hO hH c t
  Φ _ := iprop(Pipeline.ΦD osem0 spec0 H0 (V m) c ∗ Pipeline.ΦT pre0 (tbl m) c)
  q _ := fullShare
  owed _ := 0

/-- The proof data's arrays are the region-entry contents. -/
theorem A_eq (hO : Ok m) (hH : TabsOk m) (c : Dev nD) (w : Fin (cfgM m hO).W) : (dats m hO hH 0 c).A w = V m c (Pipeline.arrRef spec0 w) := by
  dsimp only [dats]

/-- What the body leaves, window by window (the proof data's `match` reduced by `dsimp`). -/
theorem after0_0 (hO : Ok m) (hH : TabsOk m) (c : Dev nD) (t : Fin (cfgM m hO).N) : (dats m hO hH 0 c).after 0 t = iblk m hO c 0 t := by dsimp only [dats]; try rfl
theorem after0_1 (hO : Ok m) (hH : TabsOk m) (c : Dev nD) (t : Fin (cfgM m hO).N) : (dats m hO hH 0 c).after 1 t = iblk m hO c 1 t := by dsimp only [dats]; try rfl
theorem after0_2 (hO : Ok m) (hH : TabsOk m) (c : Dev nD) (t : Fin (cfgM m hO).N) : (dats m hO hH 0 c).after 2 t = iblk m hO c 2 t := by dsimp only [dats]; try rfl
theorem after0_3 (hO : Ok m) (hH : TabsOk m) (c : Dev nD) (t : Fin (cfgM m hO).N) : (dats m hO hH 0 c).after 3 t = iblk m hO c 3 t := by dsimp only [dats]; try rfl
theorem after0_4 (hO : Ok m) (hH : TabsOk m) (c : Dev nD) (t : Fin (cfgM m hO).N) : (dats m hO hH 0 c).after 4 t = iblk m hO c 4 t := by dsimp only [dats]; try rfl
theorem after0_5 (hO : Ok m) (hH : TabsOk m) (c : Dev nD) (t : Fin (cfgM m hO).N) : (dats m hO hH 0 c).after 5 t = iblk m hO c 5 t := by dsimp only [dats]; try rfl
theorem after0_6 (hO : Ok m) (hH : TabsOk m) (c : Dev nD) (t : Fin (cfgM m hO).N) : (dats m hO hH 0 c).after 6 t = iblk m hO c 6 t := by dsimp only [dats]; try rfl
theorem after0_7 (hO : Ok m) (hH : TabsOk m) (c : Dev nD) (t : Fin (cfgM m hO).N) : (dats m hO hH 0 c).after 7 t = iblk m hO c 7 t := by dsimp only [dats]; try rfl
theorem after0_8 (hO : Ok m) (hH : TabsOk m) (c : Dev nD) (t : Fin (cfgM m hO).N) : (dats m hO hH 0 c).after 8 t = iblk m hO c 8 t := by dsimp only [dats]; try rfl

theorem after0_9 (hO : Ok m) (hH : TabsOk m) (c : Dev nD) (t : Fin (cfgM m hO).N) : (dats m hO hH 0 c).after 9 t = outBlk m hO hH c t := by dsimp only [dats]; try rfl

/-- Each input's current staging buffer holds its block at every point, fetched there or not. -/
theorem before0_0 (hO : Ok m) (hH : TabsOk m) (c : Dev nD) (t : Fin (cfgM m hO).N) (d) : (dats m hO hH 0 c).before 0 t d = iblk m hO c 0 t :=
  before0_0_of m hO (dats m hO hH 0 c) (A_eq m hO hH c 0) (after0_0 m hO hH c) t d
theorem before0_1 (hO : Ok m) (hH : TabsOk m) (c : Dev nD) (t : Fin (cfgM m hO).N) (d) : (dats m hO hH 0 c).before 1 t d = iblk m hO c 1 t :=
  before0_1_of m hO (dats m hO hH 0 c) (A_eq m hO hH c 1) (after0_1 m hO hH c) t d
theorem before0_2 (hO : Ok m) (hH : TabsOk m) (c : Dev nD) (t : Fin (cfgM m hO).N) (d) : (dats m hO hH 0 c).before 2 t d = iblk m hO c 2 t :=
  before0_2_of m hO (dats m hO hH 0 c) (A_eq m hO hH c 2) (after0_2 m hO hH c) t d
theorem before0_3 (hO : Ok m) (hH : TabsOk m) (c : Dev nD) (t : Fin (cfgM m hO).N) (d) : (dats m hO hH 0 c).before 3 t d = iblk m hO c 3 t :=
  before0_3_of m hO (dats m hO hH 0 c) (A_eq m hO hH c 3) (after0_3 m hO hH c) t d
theorem before0_4 (hO : Ok m) (hH : TabsOk m) (c : Dev nD) (t : Fin (cfgM m hO).N) (d) : (dats m hO hH 0 c).before 4 t d = iblk m hO c 4 t :=
  before0_4_of m hO (dats m hO hH 0 c) (A_eq m hO hH c 4) (after0_4 m hO hH c) t d
theorem before0_5 (hO : Ok m) (hH : TabsOk m) (c : Dev nD) (t : Fin (cfgM m hO).N) (d) : (dats m hO hH 0 c).before 5 t d = iblk m hO c 5 t :=
  before0_5_of m hO (dats m hO hH 0 c) (A_eq m hO hH c 5) (after0_5 m hO hH c) t d
theorem before0_6 (hO : Ok m) (hH : TabsOk m) (c : Dev nD) (t : Fin (cfgM m hO).N) (d) : (dats m hO hH 0 c).before 6 t d = iblk m hO c 6 t :=
  before0_6_of m hO (dats m hO hH 0 c) (A_eq m hO hH c 6) (after0_6 m hO hH c) t d
theorem before0_7 (hO : Ok m) (hH : TabsOk m) (c : Dev nD) (t : Fin (cfgM m hO).N) (d) : (dats m hO hH 0 c).before 7 t d = iblk m hO c 7 t :=
  before0_7_of m hO (dats m hO hH 0 c) (A_eq m hO hH c 7) (after0_7 m hO hH c) t d
theorem before0_8 (hO : Ok m) (hH : TabsOk m) (c : Dev nD) (t : Fin (cfgM m hO).N) (d) : (dats m hO hH 0 c).before 8 t d = iblk m hO c 8 t :=
  before0_8_of m hO (dats m hO hH 0 c) (A_eq m hO hH c 8) (after0_8 m hO hH c) t d

/-! ## The body obligation, at a generic point -/

/-- What the body is called with at point `t`, -/
def bodyPre (hO : Ok m) (hH : TabsOk m) (c : Dev nD) (t : Fin (cfgM m hO).N) : sProp 𝕄 :=
  iprop((dats m hO hH 0 c).Φ t.castSucc ∗ (dats m hO hH 0 c).owesAt () t.castSucc
    ∗ (∃ d, owns (c : Thread nD τ) (ms0_0 m hO t) fullShare ((dats m hO hH 0 c).before 0 t d))
    ∗ (∃ d, owns (c : Thread nD τ) (ms0_1 m hO t) fullShare ((dats m hO hH 0 c).before 1 t d))
    ∗ (∃ d, owns (c : Thread nD τ) (ms0_2 m hO t) fullShare ((dats m hO hH 0 c).before 2 t d))
    ∗ (∃ d, owns (c : Thread nD τ) (ms0_3 m hO t) fullShare ((dats m hO hH 0 c).before 3 t d))
    ∗ (∃ d, owns (c : Thread nD τ) (ms0_4 m hO t) fullShare ((dats m hO hH 0 c).before 4 t d))
    ∗ (∃ d, owns (c : Thread nD τ) (ms0_5 m hO t) fullShare ((dats m hO hH 0 c).before 5 t d))
    ∗ (∃ d, owns (c : Thread nD τ) (ms0_6 m hO t) fullShare ((dats m hO hH 0 c).before 6 t d))
    ∗ (∃ d, owns (c : Thread nD τ) (ms0_7 m hO t) fullShare ((dats m hO hH 0 c).before 7 t d))
    ∗ (∃ d, owns (c : Thread nD τ) (ms0_8 m hO t) fullShare ((dats m hO hH 0 c).before 8 t d))
    ∗ (∃ d, owns (c : Thread nD τ) (ms0_9 m hO t) fullShare ((dats m hO hH 0 c).before 9 t d)))

/-- and what it returns. -/
def bodyPost (hO : Ok m) (hH : TabsOk m) (c : Dev nD) (t : Fin (cfgM m hO).N) : sProp 𝕄 :=
  iprop((dats m hO hH 0 c).Φ t.succ ∗ (dats m hO hH 0 c).owesAt () t.succ
    ∗ owns (c : Thread nD τ) (ms0_0 m hO t) fullShare ((dats m hO hH 0 c).after 0 t)
    ∗ owns (c : Thread nD τ) (ms0_1 m hO t) fullShare ((dats m hO hH 0 c).after 1 t)
    ∗ owns (c : Thread nD τ) (ms0_2 m hO t) fullShare ((dats m hO hH 0 c).after 2 t)
    ∗ owns (c : Thread nD τ) (ms0_3 m hO t) fullShare ((dats m hO hH 0 c).after 3 t)
    ∗ owns (c : Thread nD τ) (ms0_4 m hO t) fullShare ((dats m hO hH 0 c).after 4 t)
    ∗ owns (c : Thread nD τ) (ms0_5 m hO t) fullShare ((dats m hO hH 0 c).after 5 t)
    ∗ owns (c : Thread nD τ) (ms0_6 m hO t) fullShare ((dats m hO hH 0 c).after 6 t)
    ∗ owns (c : Thread nD τ) (ms0_7 m hO t) fullShare ((dats m hO hH 0 c).after 7 t)
    ∗ owns (c : Thread nD τ) (ms0_8 m hO t) fullShare ((dats m hO hH 0 c).after 8 t)
    ∗ owns (c : Thread nD τ) (ms0_9 m hO t) fullShare ((dats m hO hH 0 c).after 9 t))

set_option maxHeartbeats 6400000 in
set_option maxRecDepth 131072 in
/-- The body at any point: the inputs' buffers hold their blocks, so the run applies; it takes the scratch, the counters,
    the feature map and the tables from the invariant and gives them back. -/
theorem sound_body (hO : Ok m) (hH : TabsOk m) (c : Dev nD) (t : Fin (cfgM m hO).N) :
    bodyPre m hO hH c t ⊢ wp frame (wpE (defs₀ (F := F)) Variants.none c none) Set.univ (bodyAt0 (adm m hO) t) (fun _ => bodyPost m hO hH c t) := by
  unfold bodyPre bodyPost bodyAt0
  simp only [before0_0, before0_1, before0_2, before0_3, before0_4, before0_5, before0_6, before0_7, before0_8]
  rw [show (dats m hO hH 0 c).Φ t.succ = (dats m hO hH 0 c).Φ t.castSucc from rfl,
    after0_0, after0_1, after0_2, after0_3, after0_4, after0_5, after0_6, after0_7, after0_8, after0_9]
  rw [show (dats m hO hH 0 c).Φ t.castSucc = iprop(Pipeline.ΦD osem0 spec0 H0 (V m) c ∗ Pipeline.ΦT pre0 (tbl m) c) from rfl, PhiD0_eq, PhiT0_eq]
  unfold Dat.owesAt Pipeline.owesWithin
  rw [show (dats m hO hH 0 c).owed t.castSucc = 0 from rfl, show (dats m hO hH 0 c).owed t.succ = 0 from rfl]
  iintro ⟨⟨⟨HS0, Hg, ⟨Hq0, Hq1, Hq2, Hq3, Hq4, Hq5, Hq6, Hq7, Hq8, Hq9, Hq10, Hq11, Hq12, Hq13, Hq14, Hq15, Hq16, Hq17, Hq18, Hq19, Hq20, Hq21, Hq22, Hq23, Hq24, Hq25, Hq26, Hq27, Hq28, Hq29, Hq30, Hq31, Hq32, Hq33, Hq34, Hq35, Hq36, Hq37, Hq38, Hq39, Hq40, Hq41, Hq42, Hq43, Hq44, Hq45, Hq46, Hq47, Hq48, Hq49, Hq50, Hq51, Hq52, Hq53, Hq54, Hq55, Hq56, Hq57, Hq58, Hq59, Hq60, Hq61, Hq62, Hq63⟩, Hh0⟩, ⟨HT0, HT1, HT2⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((kernelRun0_A c (grid0.coords t) _ _ _ _ _ _ _ _ _ _ _ _ _ _ _ _ _ _ _ _ _ _ (iblk m hO c 0 t) (iblk m hO c 1 t) (iblk m hO c 2 t) (iblk m hO c 3 t) (iblk m hO c 4 t) (iblk m hO c 5 t) (iblk m hO c 6 t) (iblk m hO c 7 t) (iblk m hO c 8 t) (tbl m 0) (tbl m 1) (tbl m 2) (V m c main_v0) (hH c)) W _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [HS0]; · iexact HS0
  isplitl [HT0]; · iexact HT0
  isplitl [HT1]; · iexact HT1
  isplitl [HT2]; · iexact HT2
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [Hq8]; · iexact Hq8
  isplitl [Hq9]; · iexact Hq9
  isplitl [Hq10]; · iexact Hq10
  isplitl [Hq11]; · iexact Hq11
  isplitl [Hq12]; · iexact Hq12
  isplitl [Hq13]; · iexact Hq13
  isplitl [Hq14]; · iexact Hq14
  isplitl [Hq15]; · iexact Hq15
  isplitl [Hq16]; · iexact Hq16
  isplitl [Hq17]; · iexact Hq17
  isplitl [Hq18]; · iexact Hq18
  isplitl [Hq19]; · iexact Hq19
  isplitl [Hq20]; · iexact Hq20
  isplitl [Hq21]; · iexact Hq21
  isplitl [Hq22]; · iexact Hq22
  isplitl [Hq23]; · iexact Hq23
  isplitl [Hq24]; · iexact Hq24
  isplitl [Hq25]; · iexact Hq25
  isplitl [Hq26]; · iexact Hq26
  isplitl [Hq27]; · iexact Hq27
  isplitl [Hq28]; · iexact Hq28
  isplitl [Hq29]; · iexact Hq29
  isplitl [Hq30]; · iexact Hq30
  isplitl [Hq31]; · iexact Hq31
  isplitl [Hq32]; · iexact Hq32
  isplitl [Hq33]; · iexact Hq33
  isplitl [Hq34]; · iexact Hq34
  isplitl [Hq35]; · iexact Hq35
  isplitl [Hq36]; · iexact Hq36
  isplitl [Hq37]; · iexact Hq37
  isplitl [Hq38]; · iexact Hq38
  isplitl [Hq39]; · iexact Hq39
  isplitl [Hq40]; · iexact Hq40
  isplitl [Hq41]; · iexact Hq41
  isplitl [Hq42]; · iexact Hq42
  isplitl [Hq43]; · iexact Hq43
  isplitl [Hq44]; · iexact Hq44
  isplitl [Hq45]; · iexact Hq45
  isplitl [Hq46]; · iexact Hq46
  isplitl [Hq47]; · iexact Hq47
  isplitl [Hq48]; · iexact Hq48
  isplitl [Hq49]; · iexact Hq49
  isplitl [Hq50]; · iexact Hq50
  isplitl [Hq51]; · iexact Hq51
  isplitl [Hq52]; · iexact Hq52
  isplitl [Hq53]; · iexact Hq53
  isplitl [Hq54]; · iexact Hq54
  isplitl [Hq55]; · iexact Hq55
  isplitl [Hq56]; · iexact Hq56
  isplitl [Hq57]; · iexact Hq57
  isplitl [Hq58]; · iexact Hq58
  isplitl [Hq59]; · iexact Hq59
  isplitl [Hq60]; · iexact Hq60
  isplitl [Hq61]; · iexact Hq61
  isplitl [Hq62]; · iexact Hq62
  isplitl [Hq63]; · iexact Hq63
  isplitl [Hh0]; · iexact Hh0
  isplitl [HW]; · iexact HW
  iintro ⟨H0, H1, H2, H3, H4, H5, H6, H7, H8, H9, HS0, HT0, HT1, HT2, Hq0, Hq1, Hq2, Hq3, Hq4, Hq5, Hq6, Hq7, Hq8, Hq9, Hq10, Hq11, Hq12, Hq13, Hq14, Hq15, Hq16, Hq17, Hq18, Hq19, Hq20, Hq21, Hq22, Hq23, Hq24, Hq25, Hq26, Hq27, Hq28, Hq29, Hq30, Hq31, Hq32, Hq33, Hq34, Hq35, Hq36, Hq37, Hq38, Hq39, Hq40, Hq41, Hq42, Hq43, Hq44, Hq45, Hq46, Hq47, Hq48, Hq49, Hq50, Hq51, Hq52, Hq53, Hq54, Hq55, Hq56, Hq57, Hq58, Hq59, Hq60, Hq61, Hq62, Hq63, Hh0, ⟨%W', HW'⟩⟩
  isplitl [HS0 Hg Hq0 Hq1 Hq2 Hq3 Hq4 Hq5 Hq6 Hq7 Hq8 Hq9 Hq10 Hq11 Hq12 Hq13 Hq14 Hq15 Hq16 Hq17 Hq18 Hq19 Hq20 Hq21 Hq22 Hq23 Hq24 Hq25 Hq26 Hq27 Hq28 Hq29 Hq30 Hq31 Hq32 Hq33 Hq34 Hq35 Hq36 Hq37 Hq38 Hq39 Hq40 Hq41 Hq42 Hq43 Hq44 Hq45 Hq46 Hq47 Hq48 Hq49 Hq50 Hq51 Hq52 Hq53 Hq54 Hq55 Hq56 Hq57 Hq58 Hq59 Hq60 Hq61 Hq62 Hq63 Hh0 HT0 HT1 HT2]
  · isplitl [HS0 Hg Hq0 Hq1 Hq2 Hq3 Hq4 Hq5 Hq6 Hq7 Hq8 Hq9 Hq10 Hq11 Hq12 Hq13 Hq14 Hq15 Hq16 Hq17 Hq18 Hq19 Hq20 Hq21 Hq22 Hq23 Hq24 Hq25 Hq26 Hq27 Hq28 Hq29 Hq30 Hq31 Hq32 Hq33 Hq34 Hq35 Hq36 Hq37 Hq38 Hq39 Hq40 Hq41 Hq42 Hq43 Hq44 Hq45 Hq46 Hq47 Hq48 Hq49 Hq50 Hq51 Hq52 Hq53 Hq54 Hq55 Hq56 Hq57 Hq58 Hq59 Hq60 Hq61 Hq62 Hq63 Hh0]
    · isplitl [HS0]
      · iexact HS0
      isplitl [Hg]
      · iexact Hg
      isplitl [Hq0 Hq1 Hq2 Hq3 Hq4 Hq5 Hq6 Hq7 Hq8 Hq9 Hq10 Hq11 Hq12 Hq13 Hq14 Hq15 Hq16 Hq17 Hq18 Hq19 Hq20 Hq21 Hq22 Hq23 Hq24 Hq25 Hq26 Hq27 Hq28 Hq29 Hq30 Hq31 Hq32 Hq33 Hq34 Hq35 Hq36 Hq37 Hq38 Hq39 Hq40 Hq41 Hq42 Hq43 Hq44 Hq45 Hq46 Hq47 Hq48 Hq49 Hq50 Hq51 Hq52 Hq53 Hq54 Hq55 Hq56 Hq57 Hq58 Hq59 Hq60 Hq61 Hq62 Hq63]
      · isplitl [Hq0]; · iexact Hq0
        isplitl [Hq1]; · iexact Hq1
        isplitl [Hq2]; · iexact Hq2
        isplitl [Hq3]; · iexact Hq3
        isplitl [Hq4]; · iexact Hq4
        isplitl [Hq5]; · iexact Hq5
        isplitl [Hq6]; · iexact Hq6
        isplitl [Hq7]; · iexact Hq7
        isplitl [Hq8]; · iexact Hq8
        isplitl [Hq9]; · iexact Hq9
        isplitl [Hq10]; · iexact Hq10
        isplitl [Hq11]; · iexact Hq11
        isplitl [Hq12]; · iexact Hq12
        isplitl [Hq13]; · iexact Hq13
        isplitl [Hq14]; · iexact Hq14
        isplitl [Hq15]; · iexact Hq15
        isplitl [Hq16]; · iexact Hq16
        isplitl [Hq17]; · iexact Hq17
        isplitl [Hq18]; · iexact Hq18
        isplitl [Hq19]; · iexact Hq19
        isplitl [Hq20]; · iexact Hq20
        isplitl [Hq21]; · iexact Hq21
        isplitl [Hq22]; · iexact Hq22
        isplitl [Hq23]; · iexact Hq23
        isplitl [Hq24]; · iexact Hq24
        isplitl [Hq25]; · iexact Hq25
        isplitl [Hq26]; · iexact Hq26
        isplitl [Hq27]; · iexact Hq27
        isplitl [Hq28]; · iexact Hq28
        isplitl [Hq29]; · iexact Hq29
        isplitl [Hq30]; · iexact Hq30
        isplitl [Hq31]; · iexact Hq31
        isplitl [Hq32]; · iexact Hq32
        isplitl [Hq33]; · iexact Hq33
        isplitl [Hq34]; · iexact Hq34
        isplitl [Hq35]; · iexact Hq35
        isplitl [Hq36]; · iexact Hq36
        isplitl [Hq37]; · iexact Hq37
        isplitl [Hq38]; · iexact Hq38
        isplitl [Hq39]; · iexact Hq39
        isplitl [Hq40]; · iexact Hq40
        isplitl [Hq41]; · iexact Hq41
        isplitl [Hq42]; · iexact Hq42
        isplitl [Hq43]; · iexact Hq43
        isplitl [Hq44]; · iexact Hq44
        isplitl [Hq45]; · iexact Hq45
        isplitl [Hq46]; · iexact Hq46
        isplitl [Hq47]; · iexact Hq47
        isplitl [Hq48]; · iexact Hq48
        isplitl [Hq49]; · iexact Hq49
        isplitl [Hq50]; · iexact Hq50
        isplitl [Hq51]; · iexact Hq51
        isplitl [Hq52]; · iexact Hq52
        isplitl [Hq53]; · iexact Hq53
        isplitl [Hq54]; · iexact Hq54
        isplitl [Hq55]; · iexact Hq55
        isplitl [Hq56]; · iexact Hq56
        isplitl [Hq57]; · iexact Hq57
        isplitl [Hq58]; · iexact Hq58
        isplitl [Hq59]; · iexact Hq59
        isplitl [Hq60]; · iexact Hq60
        isplitl [Hq61]; · iexact Hq61
        isplitl [Hq62]; · iexact Hq62
        iexact Hq63
      iexact Hh0
    isplitl [HT0]; · iexact HT0
    isplitl [HT1]; · iexact HT1
    iexact HT2
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body table's row at a point is the body at that point. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The body's obligation at every point. -/
theorem body_obligation (hO : Ok m) (hH : TabsOk m) (c : Dev nD) : BodyObligation (dats (F := F) m hO hH 0 c) (defs₀ (F := F)) Variants.none () Set.univ := fun t => by
  rw [bigSep_W0, bigSep_W0, defs₀_row m hO]
  exact triple_restated (sound_body m hO hH c t) rfl .rfl fun _ => .rfl
/-! ## The run and the frame -/

set_option backward.isDefEq.respectTransparency.types false in
/-- The launch: every array ends at what the points leave in it, every other buffer at what the host code left, and every
    counter at zero. -/
theorem run_main (hO : Ok m) (hH : TabsOk m) : θ_run defs (onTc (τ := τ) (main (F := F))) (s₀ m ρ) (fun r => Pipeline.FramePost (Pipeline.pin pcfgs fun _ => adm m hO) (dats m hO hH) 0 (V m) r ∧ r.2.sem = fun _ => 0) :=
  Pipeline.θ_run_frameP_dma (Q' := _) pcfgs (fun _ => adm m hO) (dats m hO hH) (0 : Fin 1) launch0 osem0 defs₀ Variants.none ownSemFacts0 H0 H0_sub m ρ main
    (hbody := fun c => (body_obligation m hO hH c).loose) (hshare := fun c => (dats m hO hH 0 c).share_full fun _ => rfl)
    (howed := fun _ _ => rfl) (V := V m) (hmain := hmain m Variants.none) (hA := A_eq m hO hH) (hpf := V_pre m) (hin := fun _ => .rfl) (hout := fun c => by change iprop(_ ∗ _) ⊢ _; iintro ⟨HD, -⟩; iexact HD)

/-- The launch read at the result and the arguments: the result ends at what the points leave in it, the arguments unchanged. -/
theorem run_value (hO : Ok m) (hH : TabsOk m) : θ_run defs (onTc (τ := τ) (main (F := F))) ⟨m, fun _ => 0, ρ⟩ (fun r => (∀ c : Dev nD,
      r.2.mem ((c.tc : Thread nD τ).loc main_v57) = (dats m hO hH 0 c).arrAt 9 (cfgM m hO).N ∧
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun _ h => ⟨fun c => ⟨(h.1 c).1 9,
      ((h.1 c).2 main_arg0 (by decide : main_arg0 ∈ Pipeline.restRefs sig spec0)).trans (V_main_arg0 m c),
      ((h.1 c).2 main_arg1 (by decide : main_arg1 ∈ Pipeline.restRefs sig spec0)).trans (V_main_arg1 m c),
      ((h.1 c).2 main_arg2 (by decide : main_arg2 ∈ Pipeline.restRefs sig spec0)).trans (V_main_arg2 m c),
      ((h.1 c).2 main_arg3 (by decide : main_arg3 ∈ Pipeline.restRefs sig spec0)).trans (V_main_arg3 m c),
      ((h.1 c).2 main_arg4 (by decide : main_arg4 ∈ Pipeline.restRefs sig spec0)).trans (V_main_arg4 m c),
      ((h.1 c).2 main_arg5 (by decide : main_arg5 ∈ Pipeline.restRefs sig spec0)).trans (V_main_arg5 m c),
      ((h.1 c).2 main_arg6 (by decide : main_arg6 ∈ Pipeline.restRefs sig spec0)).trans (V_main_arg6 m c),
      ((h.1 c).2 main_arg7 (by decide : main_arg7 ∈ Pipeline.restRefs sig spec0)).trans (V_main_arg7 m c),
      ((h.1 c).2 main_arg8 (by decide : main_arg8 ∈ Pipeline.restRefs sig spec0)).trans (V_main_arg8 m c),
      ((h.1 c).2 main_arg9 (by decide : main_arg9 ∈ Pipeline.restRefs sig spec0)).trans (V_main_arg9 m c)⟩, h.2⟩) (run_main m ρ hO hH)

/-- The frame: the arguments end unchanged and every counter at zero. -/
theorem frame (hO : Ok m) (hH : TabsOk m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun _ h => ⟨fun c => (h.1 c).2, h.2⟩) (run_value m ρ hO hH)

end Cert.KernelIdeal.Roi
-- ==== Proof.Ideal.Tables.lean ====
/- The three tables of the launch: what the host code puts in them, and that every box's patch lies inside the map. -/
module

public import proofs.«01_k».proof.Proof.Ideal.Launch
public import proofs.«01_k».proof.Proof.Boxes
public import Idealize.ShloMosaic.Lib.StableHlo.RunRead
public import Idealize.ShloMosaic.Lib.StableHlo.ReadAt

@[expose] public section

set_option maxRecDepth 16384

noncomputable section

namespace Cert.KernelIdeal.Roi

open Cert.KernelIdeal Cert.KernelIdeal.Gen
open Idealize.ShloMosaic Idealize.ShloMosaic.TcCoe Idealize.ShloMosaic.Tactic

variable {F : FTy → Type} [FloatOps F]
variable (m : (ℓ : Loc nD τ sig) → Buf (Elt F) ℓ)

/-- The boxes of the launch. -/
abbrev boxes (c : Dev nD) : FVec F S4096x5 .f32 := m ((c : Thread nD τ).loc main_arg1)

/-- The first table: the batch numbers. -/
theorem V_batch (c : Dev nD) (n : Fin 4096) : V m c main_v3 (ix1 n) = FloatOps.fptosi 32 (Cert.Roi.box (boxes m c) n 0) := by
  unfold V
  after_reads_at
  rfl

/-- The second table: the first rows of the patches. -/
theorem V_row (c : Dev nD) (n : Fin 4096) :
    V m c main_v24 (ix1 n) = IntOp.minsi 240#32 (IntOp.maxsi 0#32 (FloatOps.fptosi 32 (FloatOps.hostUnary .floor (Cert.Roi.box (boxes m c) n 2)))) := by
  unfold V
  after_reads_at
  rfl

/-- The third table: the first columns of the patches. -/
theorem V_col (c : Dev nD) (n : Fin 4096) :
    V m c main_v27 (ix1 n) = IntOp.minsi 240#32 (IntOp.maxsi 0#32 (FloatOps.fptosi 32 (FloatOps.hostUnary .floor (Cert.Roi.box (boxes m c) n 1)))) := by
  unfold V
  after_reads_at
  rfl

/-- A word clamped to 0 .. 240 is a number there. -/
theorem clamp_le (x : BitVec 32) : (IntOp.minsi 240#32 (IntOp.maxsi 0#32 x)).toNat ≤ 240 := by
  have hx := x.isLt
  unfold IntOp.minsi IntOp.maxsi
  simp only [BitVec.slt, BitVec.toInt_eq_toNat_cond, BitVec.toNat_ofNat, decide_eq_true_eq]
  split_ifs <;> simp_all <;> omega

/-- A batch word in range. -/
theorem batch_le (w : BitVec 32) (h0 : IntOp.cmpi .sge w 0#32 = 1#1) (h1 : IntOp.cmpi .sle w 3#32 = 1#1) : w.toNat ≤ 3 := by
  have h0 := IntOp.cmpi_sge.1 h0
  have h1 := IntOp.cmpi_sle.1 h1
  have := w.isLt
  simp only [BitVec.toInt_eq_toNat_cond, BitVec.toNat_ofNat] at h0 h1
  split_ifs at h0 h1 <;> omega

/-- A word triple within the bounds names a patch inside the feature map. -/
theorem chk_of_le (w0 w1 w2 : BitVec 32) (h0 : w0.toNat ≤ 3) (h1 : w1.toNat ≤ 240) (h2 : w2.toNat ≤ 240) : k0_chk1 w0 w1 w2 := by
  have : ∀ a, (![w0.toNat, w1.toNat, w2.toNat, 0] : Fin 4 → Nat) a + S1x16x16x64.size a ≤ S4x256x256x64.size a := by
    intro a
    fin_cases a
    · show w0.toNat + 1 ≤ 4
      omega
    · show w1.toNat + 16 ≤ 256
      omega
    · show w2.toNat + 16 ≤ 256
      omega
    · show 0 + 64 ≤ 64
      omega
  exact ⟨this, this⟩

/-- Tables whose entries are within the bounds. -/
theorem tabOk_of (c : Dev nD) (xt0 : TbBuf0 (F := F) c tbM0_0) (xt1 : TbBuf0 (F := F) c tbM0_1) (xt2 : TbBuf0 (F := F) c tbM0_2)
    (h0 : ∀ n, (xt0 n : BitVec 32).toNat ≤ 3) (h1 : ∀ n, (xt1 n : BitVec 32).toNat ≤ 240) (h2 : ∀ n, (xt2 n : BitVec 32).toNat ≤ 240) :
    TabOk (F := F) c xt0 xt1 xt2 := fun o h => chk_of_le _ _ _ (h0 _) (h1 _) (h2 _)

/-- Every place of a table has a number. -/
theorem place_eq1 (n : S4096.Idx) : n = ix1 (n 0) := by
  funext a; fin_cases a; rfl

/-- With every box of one of the images, every word triple of the tables names a patch inside the feature map. -/
theorem tabsOk (hb : ∀ c n, Cert.Roi.InBatch (F := F) (Cert.Roi.box (boxes m c) n)) : TabsOk m := fun c =>
  tabOk_of c _ _ _
    (fun n => by rw [place_eq1 n]; exact (congrArg BitVec.toNat (V_batch m 0 (n 0))).le.trans (batch_le _ (hb 0 (n 0)).batch_lo (hb 0 (n 0)).batch_hi))
    (fun n => by rw [place_eq1 n]; exact (congrArg BitVec.toNat (V_row m 0 (n 0))).le.trans (clamp_le _))
    (fun n => by rw [place_eq1 n]; exact (congrArg BitVec.toNat (V_col m 0 (n 0))).le.trans (clamp_le _))

end Cert.KernelIdeal.Roi

end
-- ==== Proof.Ideal.Inputs.lean ====
/- What a grid point reads: the blocks of the operands, the patches, and the host code's arrays, read at an index; and the
   result array from what the points store. -/
module

public import proofs.«01_k».proof.Proof.Ideal.Tables
public import Idealize.ShloMosaic.Lib.Pointwise
public import Idealize.ShloMosaic.PureOps.Ideal
public import Idealize.ShloMosaic.Lib.Pipeline.ValueKit

@[expose] public section

set_option maxRecDepth 16384

noncomputable section

namespace Cert.KernelIdeal.Roi

open Cert.KernelIdeal Cert.KernelIdeal.Gen
open Idealize.ShloMosaic Idealize.ShloMosaic.TcCoe Idealize.ShloMosaic.Tactic

variable (m : (ℓ : Loc nD τ sig) → Buf (Elt Ideal) ℓ)

/-! ## The host code's arrays -/

/-- The feature map with its channels last. -/
theorem V_map (c : Dev nD) (b : Fin 4) (y x : Fin 256) (k : Fin 64) : V m c main_v0 (ix4 b y x k) = m ((c : Thread nD τ).loc main_arg0) (ix4 b k y x) := by
  unfold V
  after_reads_at

/-- The size of a bin along one side, from the two ends of the side. -/
def bin (lo hi : EReal) : EReal := Ideal.div (max (hi - lo) 1) (Ideal.ofBits .f32 1088421888#32)

/-- A box's first row within its patch. -/
theorem V_par0 (c : Dev nD) (n : Fin 4096) :
    (V m c main_v41 (ix2 n 0) : EReal) = Cert.Roi.box (boxes m c) n 2 - FloatOps.sitofp (F := Ideal) .f32 (V m c main_v24 (ix1 n)) := by
  rw [V_row]
  unfold V
  after_reads_at
  pointwise
  after_reads_at
  rfl

/-- A box's bins, in rows. -/
theorem V_par1 (c : Dev nD) (n : Fin 4096) :
    (V m c main_v41 (ix2 n 1) : EReal) = bin (Cert.Roi.box (boxes m c) n 2) (Cert.Roi.box (boxes m c) n 4) := by
  unfold V
  after_reads_at
  pointwise
  after_reads_at
  rfl

/-- A box's first column within its patch. -/
theorem V_par2 (c : Dev nD) (n : Fin 4096) :
    (V m c main_v41 (ix2 n 2) : EReal) = Cert.Roi.box (boxes m c) n 1 - FloatOps.sitofp (F := Ideal) .f32 (V m c main_v27 (ix1 n)) := by
  rw [V_col]
  unfold V
  after_reads_at
  pointwise
  after_reads_at
  rfl

/-- A box's bins, in columns. -/
theorem V_par3 (c : Dev nD) (n : Fin 4096) :
    (V m c main_v41 (ix2 n 3) : EReal) = bin (Cert.Roi.box (boxes m c) n 1) (Cert.Roi.box (boxes m c) n 3) := by
  unfold V
  after_reads_at
  pointwise
  after_reads_at
  rfl

/-- The first convolution's weights. -/
theorem V_w1 (c : Dev nD) (i j : Fin 3) (k : Fin 64) (o : Fin 128) :
    V m c main_v43 (ix2 ⟨(j.val * 3 + i.val) * 64 + k.val, by omega⟩ o) = m ((c : Thread nD τ).loc main_arg2) (ix4 o k i j) := by
  unfold V
  after_reads_at

/-- The second convolution's weights. -/
theorem V_w2 (c : Dev nD) (i j : Fin 3) (k o : Fin 128) :
    V m c main_v45 (ix2 ⟨(j.val * 3 + i.val) * 128 + k.val, by omega⟩ o) = m ((c : Thread nD τ).loc main_arg4) (ix4 o k i j) := by
  unfold V
  after_reads_at

/-- The first dense layer's weights. -/
theorem V_fw1 (c : Dev nD) (q p : Fin 7) (o : Fin 128) (f : Fin 256) :
    V m c main_v48 (ix2 ⟨(q.val * 7 + p.val) * 128 + o.val, by omega⟩ f)
      = m ((c : Thread nD τ).loc main_arg6) (ix2 ⟨(o.val * 7 + p.val) * 7 + q.val, by omega⟩ f) := by
  unfold V
  after_reads_at
  pointwise
  blk_ext

/-- The second dense layer's weights. -/
theorem V_fw2 (c : Dev nD) (k : Fin 256) : V m c main_v50 (ix2 k 0) = m ((c : Thread nD τ).loc main_arg8) (ix2 k 0) := by
  unfold V
  after_reads_at

/-- The first convolution's bias. -/
theorem V_b1 (c : Dev nD) (k : Fin 128) : V m c main_v54 (ix2 0 k) = m ((c : Thread nD τ).loc main_arg3) (ix1 k) := by
  unfold V
  after_reads_at

/-- The second convolution's bias. -/
theorem V_b2 (c : Dev nD) (k : Fin 128) : V m c main_v55 (ix2 0 k) = m ((c : Thread nD τ).loc main_arg5) (ix1 k) := by
  unfold V
  after_reads_at

/-- The first dense layer's bias. -/
theorem V_fb1 (c : Dev nD) (k : Fin 256) : V m c main_v56 (ix2 0 k) = m ((c : Thread nD τ).loc main_arg7) (ix1 k) := by
  unfold V
  after_reads_at

/-- The second dense layer's bias. -/
theorem V_fb2 (c : Dev nD) : V m c main_v53 (ix2 0 0) = m ((c : Thread nD τ).loc main_arg9) (ix1 0) := by
  unfold V
  after_reads_at
  pointwise
  after_reads_at

/-! ## The blocks -/

theorem place0 : ∀ t : Fin grid0.N, cc0_transform_1 (grid0.coords t) = ![t.val, 0] := by decide +kernel
theorem place1 : ∀ t : Fin grid0.N, cc0_transform_2 (grid0.coords t) = ![0, 0] := by decide +kernel
theorem place2 : ∀ t : Fin grid0.N, cc0_transform_3 (grid0.coords t) = ![0, 0] := by decide +kernel
theorem place3 : ∀ t : Fin grid0.N, cc0_transform_4 (grid0.coords t) = ![0, 0] := by decide +kernel
theorem place4 : ∀ t : Fin grid0.N, cc0_transform_5 (grid0.coords t) = ![0, 0] := by decide +kernel
theorem place5 : ∀ t : Fin grid0.N, cc0_transform_6 (grid0.coords t) = ![0, 0] := by decide +kernel
theorem place6 : ∀ t : Fin grid0.N, cc0_transform_7 (grid0.coords t) = ![0, 0] := by decide +kernel
theorem place7 : ∀ t : Fin grid0.N, cc0_transform_8 (grid0.coords t) = ![0, 0] := by decide +kernel
theorem place8 : ∀ t : Fin grid0.N, cc0_transform_9 (grid0.coords t) = ![0, 0] := by decide +kernel
theorem place9 : ∀ t : Fin grid0.N, cc0_transform_10 (grid0.coords t) = ![t.val, 0] := by decide +kernel
theorem coords_at : ∀ t : Fin grid0.N, (grid0.coords t 0).val = t.val := by decide +kernel

/-- A grid point is a number below 64. -/
theorem point_lt (hO : Ok m) (t : Fin (cfgM m hO).N) : t.val < 64 := t.isLt

theorem iblk0 (hO : Ok m) (c : Dev nD) (t : Fin (cfgM m hO).N) (n : Fin 64) (k : Fin 8) :
    iblk m hO c 0 t (ix2 n k) = V m c main_v41 (ix2 ⟨64 * t.val + n.val, by have := point_lt m hO t; omega⟩ k) := by
  have e : ((cfgM m hO).win 0).index t = ![t.val, 0] := place0 t
  blk_ext [iblk, e]

theorem iblk1 (hO : Ok m) (c : Dev nD) (t : Fin (cfgM m hO).N) (n : Fin 576) (k : Fin 128) : iblk m hO c 1 t (ix2 n k) = V m c main_v43 (ix2 n k) := by
  have e : ((cfgM m hO).win 1).index t = ![0, 0] := place1 t
  blk_ext [iblk, e]

theorem iblk2 (hO : Ok m) (c : Dev nD) (t : Fin (cfgM m hO).N) (k : Fin 128) : iblk m hO c 2 t (ix2 0 k) = V m c main_v54 (ix2 0 k) := by
  have e : ((cfgM m hO).win 2).index t = ![0, 0] := place2 t
  blk_ext [iblk, e]

theorem iblk3 (hO : Ok m) (c : Dev nD) (t : Fin (cfgM m hO).N) (n : Fin 1152) (k : Fin 128) : iblk m hO c 3 t (ix2 n k) = V m c main_v45 (ix2 n k) := by
  have e : ((cfgM m hO).win 3).index t = ![0, 0] := place3 t
  blk_ext [iblk, e]

theorem iblk4 (hO : Ok m) (c : Dev nD) (t : Fin (cfgM m hO).N) (k : Fin 128) : iblk m hO c 4 t (ix2 0 k) = V m c main_v55 (ix2 0 k) := by
  have e : ((cfgM m hO).win 4).index t = ![0, 0] := place4 t
  blk_ext [iblk, e]

theorem iblk5 (hO : Ok m) (c : Dev nD) (t : Fin (cfgM m hO).N) (n : Fin 6272) (k : Fin 256) : iblk m hO c 5 t (ix2 n k) = V m c main_v48 (ix2 n k) := by
  have e : ((cfgM m hO).win 5).index t = ![0, 0] := place5 t
  blk_ext [iblk, e]

theorem iblk6 (hO : Ok m) (c : Dev nD) (t : Fin (cfgM m hO).N) (k : Fin 256) : iblk m hO c 6 t (ix2 0 k) = V m c main_v56 (ix2 0 k) := by
  have e : ((cfgM m hO).win 6).index t = ![0, 0] := place6 t
  blk_ext [iblk, e]

theorem iblk7 (hO : Ok m) (c : Dev nD) (t : Fin (cfgM m hO).N) (n : Fin 256) (k : Fin 128) : iblk m hO c 7 t (ix2 n k) = V m c main_v50 (ix2 n k) := by
  have e : ((cfgM m hO).win 7).index t = ![0, 0] := place7 t
  blk_ext [iblk, e]

theorem iblk8 (hO : Ok m) (c : Dev nD) (t : Fin (cfgM m hO).N) (k : Fin 128) : iblk m hO c 8 t (ix2 0 k) = V m c main_v53 (ix2 0 k) := by
  have e : ((cfgM m hO).win 8).index t = ![0, 0] := place8 t
  blk_ext [iblk, e]

/-! ## The result array -/

/-- The pipeline with tables of zeros. -/
def noTables : (pcfg0 (F := Ideal)).Adm :=
  ⟨fun j => match j with | 0 => fun _ => (0#32 : BitVec 32) | 1 => fun _ => (0#32 : BitVec 32) | 2 => fun _ => (0#32 : BitVec 32), trivial⟩

theorem covers_noTables : ((cfg0 noTables).win 9).Covers := by decide +kernel

/-- The stored blocks make up the result, whatever the tables hold. -/
theorem covers9 (hO : Ok m) : ((cfgM m hO).win 9).Covers := covers_noTables

/-- The result array is what each grid point stores at its 64 rows. -/
theorem result_of (hO : Ok m) (hH : TabsOk m) (c : Dev nD) (G : FVec Ideal S4096x1 .f32)
    (h : ∀ (t : Fin (cfgM m hO).N) (n : Fin 64), outBlk m hO hH c t (ix2 n 0) = G (ix2 ⟨64 * t.val + n.val, by have := point_lt m hO t; omega⟩ 0)) :
    (dats m hO hH 0 c).arrAt 9 (cfgM m hO).N = G := by
  refine (dats m hO hH 0 c).arrAt_eq_of_covers 9 G (covers9 m hO) fun t hf y => ?_
  have e : ((cfgM m hO).win 9).index t = ![t.val, 0] := place9 t
  blk_simp
  rw [after0_9]
  refine Eq.trans (congrArg (outBlk m hO hH c t) (?_ : y = ix2 (y ⟨0, Nat.zero_lt_two⟩ : Fin 64) (0 : Fin 1))) ((h t (y ⟨0, Nat.zero_lt_two⟩)).trans ?_)
  · funext a
    fin_cases a
    · rfl
    · exact Subsingleton.elim (α := Fin 1) _ _
  · blk_ext [e]

/-! ## The patches -/

/-- The patch at an offset, read at a row, a column and a channel. -/
theorem patchAt_at (c : Dev nD) (fh0 : HbBuf0 (F := Ideal) c hbM0_0) (off : Fin 4 → Nat) (h : ∀ a, off a + S1x16x16x64.size a ≤ S4x256x256x64.size a)
    (y x : Fin 16) (k : Fin 64) (b : Fin 4) (r s : Fin 256) (hb : b.val = off 0) (hr : r.val = off 1 + y.val) (hs : s.val = off 2 + x.val) (h3 : off 3 = 0) :
    patchAt c fh0 off h (ix3 y x k) = fh0 (ix4 b r s k) := by
  have hq : S1x16x16x64.ShapeCasts S16x16x64 := by decide
  unfold patchAt
  have e := Memref.read_squeeze_slice (Val := Elt Ideal) (Memref.whole main_v0) (Rect.unit (s := S4x256x256x64) off S1x16x16x64.size h) (fun _ => rfl) squeezes_S1x16x16x64_S16x16x64 hq fh0
  refine (congrFun e _).trans ?_
  clear e
  have e2 : ∀ X : S1x16x16x64.Idx → EReal, shapeCast S16x16x64 X hq (ix3 y x k) = X (ix4 0 y x k) := by
    intro X
    pointwise
  refine (e2 _).trans ?_
  refine congrArg fh0 ?_
  funext a
  apply Fin.ext
  fin_cases a
  · exact (show off 0 + 1 * 0 = b.val by omega)
  · exact (show off 1 + 1 * y.val = r.val by omega)
  · exact (show off 2 + 1 * x.val = s.val by omega)
  · exact (show off 3 + 1 * k.val = k.val by omega)

/-- A word of the first table. -/
theorem word0_at (c : Dev nD) (xt0 : TbBuf0 (F := Ideal) c tbM0_0) (o : Fin 1 → Nat) (h : ∀ a, o a + S1.size a ≤ S4096.size a) (n : Fin 4096) (hn : o 0 = n.val) :
    word0 (F := Ideal) c xt0 o h = xt0 (ix1 n) := by
  refine congrArg xt0 ?_
  funext a
  apply Fin.ext
  fin_cases a
  exact (show o 0 + 1 * 0 = n.val by omega)

/-- A word of the second table. -/
theorem word1_at (c : Dev nD) (xt1 : TbBuf0 (F := Ideal) c tbM0_1) (o : Fin 1 → Nat) (h : ∀ a, o a + S1.size a ≤ S4096.size a) (n : Fin 4096) (hn : o 0 = n.val) :
    word1 (F := Ideal) c xt1 o h = xt1 (ix1 n) := by
  refine congrArg xt1 ?_
  funext a
  apply Fin.ext
  fin_cases a
  exact (show o 0 + 1 * 0 = n.val by omega)

/-- A word of the third table. -/
theorem word2_at (c : Dev nD) (xt2 : TbBuf0 (F := Ideal) c tbM0_2) (o : Fin 1 → Nat) (h : ∀ a, o a + S1.size a ≤ S4096.size a) (n : Fin 4096) (hn : o 0 = n.val) :
    word2 (F := Ideal) c xt2 o h = xt2 (ix1 n) := by
  refine congrArg xt2 ?_
  funext a
  apply Fin.ext
  fin_cases a
  exact (show o 0 + 1 * 0 = n.val by omega)

/-- A patch cut out at the words of three tables. -/
theorem patch_at (c : Dev nD) (i : grid0.Coords) (xt0 : TbBuf0 (F := Ideal) c tbM0_0) (xt1 : TbBuf0 (F := Ideal) c tbM0_1) (xt2 : TbBuf0 (F := Ideal) c tbM0_2)
    (fh0 : HbBuf0 (F := Ideal) c hbM0_0) (hT : TabOk (F := Ideal) c xt0 xt1 xt2) (j : Fin 64) (n : Fin 4096) (hn : 64 * (i 0).val + j.val = n.val)
    (y x : Fin 16) (k : Fin 64) (b : Fin 4) (r s : Fin 256) (hb : b.val = (xt0 (ix1 n) : BitVec 32).toNat)
    (hr : r.val = (xt1 (ix1 n) : BitVec 32).toNat + y.val) (hs : s.val = (xt2 (ix1 n) : BitVec 32).toNat + x.val) :
    patch c i xt0 xt1 xt2 fh0 hT j (ix3 y x k) = fh0 (ix4 b r s k) := by
  unfold patch
  refine patchAt_at c fh0 _ _ y x k b r s ?_ ?_ ?_ rfl
  · exact hb.trans (congrArg BitVec.toNat (word0_at c xt0 _ (place_lt i j) n hn).symm)
  · exact hr.trans (congrArg (fun w : BitVec 32 => w.toNat + y.val) (word1_at c xt1 _ (place_lt i j) n hn).symm)
  · exact hs.trans (congrArg (fun w : BitVec 32 => w.toNat + x.val) (word2_at c xt2 _ (place_lt i j) n hn).symm)

/-- Patches side by side, read at a patch. -/
theorem stack_at (P : Fin 64 → S16x16x64.Idx → Elt Ideal .f32) (j : Fin 64) (y x : Fin 16) (k : Fin 64) :
    Cert.Slabs.stack (Val := Elt Ideal) P (ix4 j y x k) = P j (ix3 y x k) := rfl

/-- The patch of box n, read at a row, a column and a channel: the map from the box's first row and column on. -/
theorem patches_at (hH : TabsOk m) (t : Fin grid0.N) (j : Fin 64) (n : Fin 4096) (hn : n.val = 64 * t.val + j.val)
    (y x : Fin 16) (k : Fin 64) (b : Fin 4) (r s : Fin 256) (hb : b.val = (V m 0 main_v3 (ix1 n) : BitVec 32).toNat)
    (hr : r.val = (V m 0 main_v24 (ix1 n) : BitVec 32).toNat + y.val) (hs : s.val = (V m 0 main_v27 (ix1 n) : BitVec 32).toNat + x.val) :
    Cert.Slabs.stack (Val := Elt Ideal) (patch 0 (grid0.coords t) (tbl m 0) (tbl m 1) (tbl m 2) (V m 0 main_v0) (hH 0)) (ix4 j y x k)
      = m ((0 : Dev nD).tc.loc main_arg0) (ix4 b k r s) := by
  rw [stack_at]
  refine (patch_at 0 (grid0.coords t) (tbl m 0) (tbl m 1) (tbl m 2) (V m 0 main_v0) (hH 0) j n ?_ y x k b r s hb hr hs).trans (V_map m 0 b r s k)
  rw [coords_at t]; omega

end Cert.KernelIdeal.Roi

end
-- ==== Proof.Head.lean ====
/- The head of the network, one box at a time, over the extended reals. -/
module

public import Idealize.ShloMosaic.PureOps.Ideal
public import Mathlib.Algebra.BigOperators.Fin

@[expose] public section

noncomputable section

namespace Cert.Roi

open Idealize.ShloMosaic

/-- A 7 x 7 image with a frame of zeros, read at a pair of numbers. -/
def framed (X : Fin 7 → Fin 7 → EReal) (a b : ℕ) : EReal :=
  if h : (1 ≤ a ∧ a < 8) ∧ 1 ≤ b ∧ b < 8 then X ⟨a - 1, by omega⟩ ⟨b - 1, by omega⟩ else 0

/-- A 3 x 3 convolution of a 7 x 7 image with a bias, cut off below at zero, at row p, column q and channel o. -/
def conv {C O : ℕ} (X : Fin 7 → Fin 7 → Fin C → EReal) (w : Fin O → Fin C → Fin 3 → Fin 3 → EReal) (b : Fin O → EReal)
    (p q : Fin 7) (o : Fin O) : EReal :=
  max ((∑ j : Fin 3, ∑ i : Fin 3, ∑ c : Fin C, framed (fun p q => X p q c) (p.val + i.val) (q.val + j.val) * w o c i j) + b o) 0

/-- Two dense layers and the logistic function. -/
def dense (X : Fin 7 → Fin 7 → Fin 128 → EReal) (w1 : Fin 128 → Fin 7 → Fin 7 → Fin 256 → EReal) (b1 w2 : Fin 256 → EReal) (b2 : EReal) : EReal :=
  Ideal.logistic ((∑ f, max ((∑ o, ∑ p, ∑ q, X p q o * w1 o p q f) + b1 f) 0 * w2 f) + b2)

/-- A sum over the numbers below a product, as a double sum. -/
theorem sum_mul {M : Type*} [AddCommMonoid M] {n : ℕ} (a b : ℕ) (h : n = a * b) (f : Fin n → M) :
    ∑ k, f k = ∑ i : Fin a, ∑ j : Fin b, f ⟨i.val * b + j.val, by subst h; have := i.isLt; have := j.isLt; nlinarith⟩ := by
  subst h
  rw [← Fintype.sum_prod_type', ← Equiv.sum_comp finProdFinEquiv]
  refine Finset.sum_congr rfl fun x _ => congrArg f (Fin.ext ?_)
  show x.2.val + b * x.1.val = x.1.val * b + x.2.val
  ring

/-- The numbers below 6272, as column, row and channel. -/
theorem sum_columns {M : Type*} [AddCommMonoid M] (f : Fin 6272 → M) :
    ∑ k, f k = ∑ o : Fin 128, ∑ p : Fin 7, ∑ q : Fin 7, f ⟨(q.val * 7 + p.val) * 128 + o.val, by omega⟩ := by
  rw [sum_mul 49 128 rfl f, sum_mul 7 7 rfl (fun k : Fin 49 => ∑ o : Fin 128, f ⟨k.val * 128 + o.val, by omega⟩)]
  calc _ = ∑ q : Fin 7, ∑ o : Fin 128, ∑ p : Fin 7, f ⟨(q.val * 7 + p.val) * 128 + o.val, by omega⟩ :=
        Finset.sum_congr rfl fun q _ => Finset.sum_comm
    _ = ∑ o : Fin 128, ∑ q : Fin 7, ∑ p : Fin 7, f ⟨(q.val * 7 + p.val) * 128 + o.val, by omega⟩ := Finset.sum_comm
    _ = _ := Finset.sum_congr rfl fun o _ => Finset.sum_comm

/-- The numbers below 6272, as channel, row and column. -/
theorem sum_channels {M : Type*} [AddCommMonoid M] (f : Fin 6272 → M) :
    ∑ k, f k = ∑ o : Fin 128, ∑ p : Fin 7, ∑ q : Fin 7, f ⟨(o.val * 7 + p.val) * 7 + q.val, by omega⟩ := by
  rw [sum_mul 128 49 rfl f]
  refine Finset.sum_congr rfl fun o _ => ?_
  rw [sum_mul 7 7 rfl (fun k : Fin 49 => f ⟨o.val * 49 + k.val, by omega⟩)]
  refine Finset.sum_congr rfl fun p _ => Finset.sum_congr rfl fun q _ => congrArg f (Fin.ext ?_)
  show o.val * 49 + (p.val * 7 + q.val) = (o.val * 7 + p.val) * 7 + q.val
  ring

/-- A sum over the numbers below 16. -/
theorem sum16 {M : Type*} [AddCommMonoid M] (f : Fin 16 → M) :
    ∑ k, f k = f 0 + f 1 + f 2 + f 3 + f 4 + f 5 + f 6 + f 7 + f 8 + f 9 + f 10 + f 11 + f 12 + f 13 + f 14 + f 15 := by
  simp only [Fin.sum_univ_castSucc, Fin.sum_univ_zero, zero_add]
  rfl

end Cert.Roi

end
-- ==== Proof.Ideal.Network.lean ====
/- The value of a grid point's block: the head of the network, read at a box. -/
module

public import proofs.«01_k».proof.Proof.Gen.KernelIdeal.Skeleton
public import proofs.«01_k».proof.Proof.Gen.KernelIdeal
public import proofs.«01_k».proof.Proof.Head
public import Idealize.ShloMosaic.Lib.Pointwise

@[expose] public section

set_option maxRecDepth 16384

noncomputable section

namespace Cert.KernelIdeal.Roi

open Idealize.ShloMosaic Cert.KernelIdeal Cert.KernelIdeal.Gen Cert.Roi

variable {F : FTy → Type} [FloatOps F]

/-- The last terms of the sum over the columns of the patches. -/
def lastColumns (v1353 : FVec F S64x7x16 .f32) (v1513 : FVec F S64x7x16x64 .f32) (v1642 v1649 v1650 : FVec F S64x7x7x64 .f32) : FVec F S64x7x7x64 .f32 :=
  have v1651 : FVec F S64x7x7x64 .f32 := mulf v1649 v1650
  have v1652 : FVec F S64x7x7x64 .f32 := addf v1642 v1651
  have v1653 : FVec F S64x7x1 .f32 := extractStridedSlice S64x7x1 ![0, 0, 14] v1353 slices_S64x7x16_o0_0_14_S64x7x1
  have v1654 : FVec F S64x7 .f32 := shapeCast S64x7 v1653 shapeCasts_S64x7x1_S64x7
  have v1655 : FVec F S64x7x1x1 .f32 := shapeCast S64x7x1x1 v1654 shapeCasts_S64x7_S64x7x1x1
  have v1656 : FVec F S64x7x1x64 .f32 := extractStridedSlice S64x7x1x64 ![0, 0, 14, 0] v1513 slices_S64x7x16x64_o0_0_14_0_S64x7x1x64
  have v1657 : FVec F S64x7x64 .f32 := shapeCast S64x7x64 v1656 shapeCasts_S64x7x1x64_S64x7x64
  have v1658 : FVec F S64x1x7x64 .f32 := shapeCast S64x1x7x64 v1657 shapeCasts_S64x7x64_S64x1x7x64
  have v1659 : FVec F S64x7x7x64 .f32 := broadcastTo S64x7x7x64 v1655 broadcasts_S64x7x1x1_S64x7x7x64
  have v1660 : FVec F S64x7x7x64 .f32 := broadcastTo S64x7x7x64 v1658 broadcasts_S64x1x7x64_S64x7x7x64
  have v1661 : FVec F S64x7x7x64 .f32 := mulf v1659 v1660
  have v1662 : FVec F S64x7x7x64 .f32 := addf v1652 v1661
  have v1663 : FVec F S64x7x1 .f32 := extractStridedSlice S64x7x1 ![0, 0, 15] v1353 slices_S64x7x16_o0_0_15_S64x7x1
  have v1664 : FVec F S64x7 .f32 := shapeCast S64x7 v1663 shapeCasts_S64x7x1_S64x7
  have v1665 : FVec F S64x7x1x1 .f32 := shapeCast S64x7x1x1 v1664 shapeCasts_S64x7_S64x7x1x1
  have v1666 : FVec F S64x7x1x64 .f32 := extractStridedSlice S64x7x1x64 ![0, 0, 15, 0] v1513 slices_S64x7x16x64_o0_0_15_0_S64x7x1x64
  have v1667 : FVec F S64x7x64 .f32 := shapeCast S64x7x64 v1666 shapeCasts_S64x7x1x64_S64x7x64
  have v1668 : FVec F S64x1x7x64 .f32 := shapeCast S64x1x7x64 v1667 shapeCasts_S64x7x64_S64x1x7x64
  have v1669 : FVec F S64x7x7x64 .f32 := broadcastTo S64x7x7x64 v1665 broadcasts_S64x7x1x1_S64x7x7x64
  have v1670 : FVec F S64x7x7x64 .f32 := broadcastTo S64x7x7x64 v1668 broadcasts_S64x1x7x64_S64x7x7x64
  have v1671 : FVec F S64x7x7x64 .f32 := mulf v1669 v1670
  have v1672 : FVec F S64x7x7x64 .f32 := addf v1662 v1671
  v1672

/-- The features of the boxes with a frame of zeros. -/
def frame64 (v1672 : FVec F S64x7x7x64 .f32) : FVec F S64x9x9x64 .f32 :=
  have v1673 : F .f32 := Scalar.sitofp .f32 0#32
  have v1674 : FVec F S64x1x7x64 .f32 := broadcast S64x1x7x64 v1673
  have v1675 : FVec F S64x8x7x64 .f32 := concatenate S64x8x7x64 1 [⟨S64x1x7x64, v1674⟩, ⟨S64x7x7x64, v1672⟩] concatenates_S64x1x7x64_S64x7x7x64_S64x8x7x64_d1
  have v1676 : FVec F S64x1x7x64 .f32 := broadcast S64x1x7x64 v1673
  have v1677 : FVec F S64x9x7x64 .f32 := concatenate S64x9x7x64 1 [⟨S64x8x7x64, v1675⟩, ⟨S64x1x7x64, v1676⟩] concatenates_S64x8x7x64_S64x1x7x64_S64x9x7x64_d1
  have v1678 : FVec F S64x9x1x64 .f32 := broadcast S64x9x1x64 v1673
  have v1679 : FVec F S64x9x8x64 .f32 := concatenate S64x9x8x64 2 [⟨S64x9x1x64, v1678⟩, ⟨S64x9x7x64, v1677⟩] concatenates_S64x9x1x64_S64x9x7x64_S64x9x8x64_d2
  have v1680 : FVec F S64x9x1x64 .f32 := broadcast S64x9x1x64 v1673
  have v1681 : FVec F S64x9x9x64 .f32 := concatenate S64x9x9x64 2 [⟨S64x9x8x64, v1679⟩, ⟨S64x9x1x64, v1680⟩] concatenates_S64x9x8x64_S64x9x1x64_S64x9x9x64_d2
  v1681

/-- The first convolution of framed features. -/
def conv1 (v1681 : FVec F S64x9x9x64 .f32) (v1693 : Vec F S576x128 .f32) (v1696 : Vec F S1x128 .f32) : FVec F S64x7x7x128 .f32 :=
  have v1682 : FVec F S64x7x7x64 .f32 := extractStridedSlice S64x7x7x64 ![0, 0, 0, 0] v1681 slices_S64x9x9x64_o0_0_0_0_S64x7x7x64
  have v1683 : FVec F S64x7x7x64 .f32 := extractStridedSlice S64x7x7x64 ![0, 0, 1, 0] v1681 slices_S64x9x9x64_o0_0_1_0_S64x7x7x64
  have v1684 : FVec F S64x7x7x64 .f32 := extractStridedSlice S64x7x7x64 ![0, 0, 2, 0] v1681 slices_S64x9x9x64_o0_0_2_0_S64x7x7x64
  have v1685 : FVec F S64x7x7x64 .f32 := extractStridedSlice S64x7x7x64 ![0, 1, 0, 0] v1681 slices_S64x9x9x64_o0_1_0_0_S64x7x7x64
  have v1686 : FVec F S64x7x7x64 .f32 := extractStridedSlice S64x7x7x64 ![0, 1, 1, 0] v1681 slices_S64x9x9x64_o0_1_1_0_S64x7x7x64
  have v1687 : FVec F S64x7x7x64 .f32 := extractStridedSlice S64x7x7x64 ![0, 1, 2, 0] v1681 slices_S64x9x9x64_o0_1_2_0_S64x7x7x64
  have v1688 : FVec F S64x7x7x64 .f32 := extractStridedSlice S64x7x7x64 ![0, 2, 0, 0] v1681 slices_S64x9x9x64_o0_2_0_0_S64x7x7x64
  have v1689 : FVec F S64x7x7x64 .f32 := extractStridedSlice S64x7x7x64 ![0, 2, 1, 0] v1681 slices_S64x9x9x64_o0_2_1_0_S64x7x7x64
  have v1690 : FVec F S64x7x7x64 .f32 := extractStridedSlice S64x7x7x64 ![0, 2, 2, 0] v1681 slices_S64x9x9x64_o0_2_2_0_S64x7x7x64
  have v1691 : FVec F S64x7x7x576 .f32 := concatenate S64x7x7x576 3 [⟨S64x7x7x64, v1682⟩, ⟨S64x7x7x64, v1683⟩, ⟨S64x7x7x64, v1684⟩, ⟨S64x7x7x64, v1685⟩, ⟨S64x7x7x64, v1686⟩, ⟨S64x7x7x64, v1687⟩, ⟨S64x7x7x64, v1688⟩, ⟨S64x7x7x64, v1689⟩, ⟨S64x7x7x64, v1690⟩] concatenates_S64x7x7x64_S64x7x7x64_S64x7x7x64_S64x7x7x64_S64x7x7x64_S64x7x7x64_S64x7x7x64_S64x7x7x64_S64x7x7x64_S64x7x7x576_d3
  have v1692 : FVec F S3136x576 .f32 := shapeCast S3136x576 v1691 shapeCasts_S64x7x7x576_S3136x576
  have v1694 : FVec F S576x128 .f32 := shapeCast S576x128 v1693 shapeCasts_S576x128_S576x128
  have cst_852 : FVec F S3136x128 .f32 := constant S3136x128 .f32 0x00000000#32
  have v1695 : FVec F S3136x128 .f32 := matmul dot_S3136x576_S576x128_S3136x128_1_0_0_1_n_n none v1692 v1694 cst_852
  have v1697 : FVec F S1x128 .f32 := shapeCast S1x128 v1696 shapeCasts_S1x128_S1x128
  have v1698 : FVec F S3136x128 .f32 := broadcastTo S3136x128 v1697 broadcasts_S1x128_S3136x128
  have v1699 : FVec F S3136x128 .f32 := addf v1695 v1698
  have cst_855 : F .f32 := Scalar.ofBits .f32 0x00000000#32
  have v1700 : FVec F S3136x128 .f32 := broadcast S3136x128 cst_855
  have v1701 : FVec F S3136x128 .f32 := maximumf v1699 v1700
  have v1702 : FVec F S64x7x7x128 .f32 := shapeCast S64x7x7x128 v1701 shapeCasts_S3136x128_S64x7x7x128
  v1702

theorem pay27_eq (px : FVec F S64x7x16 .f32) (t : FVec F S64x7x16x64 .f32) (b3 u v : FVec F S64x7x7x64 .f32) (x1 : Vec F S576x128 .f32) (x2 : Vec F S1x128 .f32) :
    k0_pay27 px t b3 u v x1 x2 = conv1 (frame64 (lastColumns px t b3 u v)) x1 x2 := rfl

theorem frame64_at (x : FVec Ideal S64x7x7x64 .f32) (n : Fin 64) (a b : Fin 9) (c : Fin 64) :
    frame64 x (ix4 n a b c) = framed (fun p q => x (ix4 n q p c)) b.val a.val := by
  pointwise [frame64]
  unfold framed
  have h0 : ((((0#32 : BitVec 32).toInt : ℤ) : ℝ) : EReal) = 0 := by simp
  simp only [h0]
  split_ifs
  all_goals first | (exfalso; omega) | rfl | rw [dif_pos (by omega)]

theorem frame128_at (x : FVec Ideal S64x7x7x128 .f32) (n : Fin 64) (a b : Fin 9) (c : Fin 128) :
    k0_pay28 x 0#32 (ix4 n a b c) = framed (fun p q => x (ix4 n q p c)) b.val a.val := by
  pointwise [k0_pay28]
  unfold framed
  have h0 : ((((0#32 : BitVec 32).toInt : ℤ) : ℝ) : EReal) = 0 := by simp
  simp only [h0]
  split_ifs
  all_goals first | (exfalso; omega) | rfl | rw [dif_pos (by omega)]

/-- Nine pieces of 64 laid side by side, read at place c of piece t. -/
theorem pick9 (f : Fin 9 → Fin 64 → EReal) (t : Fin 9) (c : Fin 64) (k : ℕ) (hk : k = t.val * 64 + c.val) :
    (if h : k < 64 then f 0 ⟨k, h⟩
      else if h : k - 64 < 64 then f 1 ⟨k - 64, h⟩
      else if h : k - 64 - 64 < 64 then f 2 ⟨k - 64 - 64, h⟩
      else if h : k - 64 - 64 - 64 < 64 then f 3 ⟨k - 64 - 64 - 64, h⟩
      else if h : k - 64 - 64 - 64 - 64 < 64 then f 4 ⟨k - 64 - 64 - 64 - 64, h⟩
      else if h : k - 64 - 64 - 64 - 64 - 64 < 64 then f 5 ⟨k - 64 - 64 - 64 - 64 - 64, h⟩
      else if h : k - 64 - 64 - 64 - 64 - 64 - 64 < 64 then f 6 ⟨k - 64 - 64 - 64 - 64 - 64 - 64, h⟩
      else if h : k - 64 - 64 - 64 - 64 - 64 - 64 - 64 < 64 then f 7 ⟨k - 64 - 64 - 64 - 64 - 64 - 64 - 64, h⟩
      else f 8 ⟨k - 64 - 64 - 64 - 64 - 64 - 64 - 64 - 64, by omega⟩) = f t c := by
  have ht := t.isLt
  have hc := c.isLt
  split_ifs
  all_goals refine congrArg₂ f (Fin.ext ?_) (Fin.ext ?_)
  all_goals simp
  all_goals omega

theorem conv1_at (x : FVec Ideal S64x7x7x64 .f32) (x1 : FVec Ideal S576x128 .f32) (x2 : FVec Ideal S1x128 .f32) (n : Fin 64) (a b : Fin 7) (o : Fin 128) :
    conv1 (frame64 x) x1 x2 (ix4 n a b o)
      = conv (fun p q c => x (ix4 n q p c)) (fun o c i j => x1 (ix2 ⟨(j.val * 3 + i.val) * 64 + c.val, by omega⟩ o)) (fun o => x2 (ix2 0 o)) b a o := by
  pointwise [conv1]
  unfold conv
  simp only [frame64_at]
  rw [sum_mul 9 64 rfl]
  rw [sum_mul 3 3 rfl]
  refine congrArg (fun z => max (z + x2 (ix2 0 o)) 0) ?_
  refine Finset.sum_congr rfl fun j _ => Finset.sum_congr rfl fun i _ => Finset.sum_congr rfl fun k _ => ?_
  refine congrArg (· * _) ?_
  simp only [Nat.add_comm 1, Nat.add_comm 2]
  refine (pick9 (fun t c => framed (fun p q => x (ix4 n q p c)) (b.val + t.val % 3) (a.val + t.val / 3)) ⟨j.val * 3 + i.val, by omega⟩ k _ rfl).trans ?_
  have h1 : (j.val * 3 + i.val) % 3 = i.val := by omega
  have h2 : (j.val * 3 + i.val) / 3 = j.val := by omega
  simp only [h1, h2]

theorem tail_at (y : FVec Ideal S64x7x7x128 .f32) (W : Fin 9 → FVec Ideal S128x128 .f32) (x4 : FVec Ideal S1x128 .f32) (x5 : FVec Ideal S6272x256 .f32)
    (x6 : FVec Ideal S1x256 .f32) (x7 : FVec Ideal S256x128 .f32) (x8 : FVec Ideal S1x128 .f32) (n : Fin 64) :
    k0_pay33 (k0_pay32 (k0_pay28 y 0#32) (k0_pay29 y 0#32 (W 0) (W 1) (W 2) (W 3) (W 4)) (k0_pay30 y 0#32) (k0_pay31 (W 5))
        (constant S3136x128 .f32 0x00000000#32) (W 6) (W 7) (W 8) x4 x5 x6 x7) x8 (ix2 n 0)
      = dense (conv (fun p q c => y (ix4 n q p c)) (fun o c i j => W ⟨j.val * 3 + i.val, by omega⟩ (ix2 c o)) (fun o => x4 (ix2 0 o)))
          (fun o p q f => x5 (ix2 ⟨(q.val * 7 + p.val) * 128 + o.val, by omega⟩ f)) (fun f => x6 (ix2 0 f)) (fun f => x7 (ix2 f 0)) (x8 (ix2 0 0)) := by
  pointwise [k0_pay33, k0_pay32, k0_pay29, k0_pay30, k0_pay31]
  unfold dense
  refine congrArg (fun z => Ideal.logistic (z + x8 (ix2 0 0))) (Finset.sum_congr rfl fun f _ => ?_)
  refine congrArg (fun z => max (z + x6 (ix2 0 f)) 0 * x7 (ix2 f 0)) ?_
  rw [sum_columns]
  refine Finset.sum_congr rfl fun o _ => Finset.sum_congr rfl fun p _ => Finset.sum_congr rfl fun q _ => ?_
  refine congrArg (· * _) ?_
  have h1 : ((q.val * 7 + p.val) * 128 + o.val) / 128 = q.val * 7 + p.val := by omega
  have h2 : ((q.val * 7 + p.val) * 128 + o.val) % 128 = o.val := by omega
  have h3 : (n.val * 49 + (q.val * 7 + p.val)) / 7 % 7 = q.val := by omega
  have h4 : (n.val * 49 + (q.val * 7 + p.val)) % 7 = p.val := by omega
  have h5 : (n.val * 49 + (q.val * 7 + p.val)) / 49 = n.val := by omega
  simp only [frame128_at, h1, h2, h3, h4, h5]
  unfold conv
  simp only [Fin.sum_univ_three]
  simp [Nat.add_comm]
  simp only [add_assoc]

end Cert.KernelIdeal.Roi

end
-- ==== Proof.Ideal.Align.lean ====
/- The value of a grid point's block: the alignment of the boxes, read at a box. -/
module

public import proofs.«01_k».proof.Proof.Ideal.Network
public import proofs.«01_k».proof.Proof.Ideal.Body

@[expose] public section

set_option maxRecDepth 16384

noncomputable section

namespace Cert.KernelIdeal.Roi

open Idealize.ShloMosaic Cert.KernelIdeal Cert.KernelIdeal.Gen Cert.Roi

/-- What a sample at coordinate u takes from row y of a patch. -/
def tap (u : EReal) (y : ℕ) : EReal :=
  Scalar.select (IntOp.cmpi .eq (BitVec.ofNat 32 y) (FloatOps.fptosi (F := Ideal) (φ := .f32) 32 (Ideal.liftRound Int.floor u))) (1 - (u - Ideal.liftRound Int.floor u)) 0
    + Scalar.select (IntOp.cmpi .eq (BitVec.ofNat 32 y) (IntOp.addi (FloatOps.fptosi (F := Ideal) (φ := .f32) 32 (Ideal.liftRound Int.floor u)) 1#32)) (u - Ideal.liftRound Int.floor u) 0

/-- Sample s of a box's side, in bins. -/
def step (s : ℕ) : EReal :=
  Ideal.div (FloatOps.sitofp (F := Ideal) .f32 (BitVec.ofNat 32 s) + Ideal.ofBits .f32 1056964608#32) (Ideal.ofBits .f32 1073741824#32)

/-- The weights of the rows. -/
def rowWeight (x0 : Vec Ideal S64x8 .f32) : FVec Ideal S64x7x16 .f32 :=
  k0_pay9 (k0_pay6 x0) (k0_pay7 x0) (iota .tc S64x14x16 32 [2] iota_S64x14x16_d2_w32) (k0_pay8 x0)

/-- The weights of the columns. -/
def columnWeight (x0 : Vec Ideal S64x8 .f32) : FVec Ideal S64x7x16 .f32 :=
  k0_pay10 (k0_pay4 x0)

theorem rowWeight_at (x0 : FVec Ideal S64x8 .f32) (n : Fin 64) (s : Fin 7) (y : Fin 16) :
    rowWeight x0 (ix3 n s y)
      = (∑ t : Fin 2, tap (x0 (ix2 n 0) + x0 (ix2 n 1) * step (s.val * 2 + t.val)) y.val) * Ideal.ofBits .f32 1056964608#32 := by
  pointwise [rowWeight, k0_pay9, k0_pay8, k0_pay7, k0_pay6, k0_pay5, k0_pay3, k0_pay2, k0_pay1]
  rfl

theorem columnWeight_at (x0 : FVec Ideal S64x8 .f32) (n : Fin 64) (s : Fin 7) (y : Fin 16) :
    columnWeight x0 (ix3 n s y)
      = (∑ t : Fin 2, tap (x0 (ix2 n 2) + x0 (ix2 n 3) * step (s.val * 2 + t.val)) y.val) * Ideal.ofBits .f32 1056964608#32 := by
  pointwise [columnWeight, k0_pay10, k0_pay4, k0_pay2, k0_pay1]
  rfl

/-- The rows of the patches, interpolated. -/
def rowsOf (py : FVec Ideal S64x7x16 .f32) (p : FVec Ideal S64x16x16x64 .f32) : FVec Ideal S64x7x16x64 .f32 :=
  k0_pay17 py p (k0_pay14 py p (k0_pay11 py p) (k0_pay12 p) (k0_pay13 py)) (k0_pay15 p) (k0_pay16 py)

theorem rowsOf_at (py : FVec Ideal S64x7x16 .f32) (p : FVec Ideal S64x16x16x64 .f32) (n : Fin 64) (s : Fin 7) (x : Fin 16) (c : Fin 64) :
    rowsOf py p (ix4 n s x c) = ∑ y : Fin 16, py (ix3 n s y) * p (ix4 n y x c) := by
  rw [sum16]
  pointwise [rowsOf, k0_pay17, k0_pay14, k0_pay11, k0_pay12, k0_pay13, k0_pay15, k0_pay16]

/-- The patches interpolated on both axes. -/
def aligned (px py : FVec Ideal S64x7x16 .f32) (p : FVec Ideal S64x16x16x64 .f32) : FVec Ideal S64x7x7x64 .f32 :=
  let a2 := k0_pay14 py p (k0_pay11 py p) (k0_pay12 p) (k0_pay13 py)
  let b1 := k0_pay18 py px p a2 (k0_pay15 p) (k0_pay16 py)
  let b2 := k0_pay21 px (rowsOf py p) b1 (k0_pay19 px) (k0_pay20 py p a2 (k0_pay15 p) (k0_pay16 py))
  let b3 := k0_pay24 px (rowsOf py p) b2 (k0_pay22 px) (k0_pay23 (rowsOf py p))
  lastColumns px (rowsOf py p) b3 (k0_pay25 px) (k0_pay26 (rowsOf py p))

theorem aligned_at (px py : FVec Ideal S64x7x16 .f32) (p : FVec Ideal S64x16x16x64 .f32) (n : Fin 64) (a b : Fin 7) (c : Fin 64) :
    aligned px py p (ix4 n a b c) = ∑ x : Fin 16, px (ix3 n a x) * ∑ y : Fin 16, py (ix3 n b y) * p (ix4 n y x c) := by
  simp only [← rowsOf_at]
  rw [sum16]
  unfold aligned rowsOf
  pointwise [lastColumns, k0_pay18, k0_pay19, k0_pay20, k0_pay21, k0_pay22, k0_pay23, k0_pay24, k0_pay25, k0_pay26]

/-- The features of box n of a grid point: its patch P, its corner and sides in x0. -/
def kernelRoi (x0 : FVec Ideal S64x8 .f32) (P : FVec Ideal S64x16x16x64 .f32) (n : Fin 64) (p q : Fin 7) (c : Fin 64) : EReal :=
  ∑ x : Fin 16, ((∑ t : Fin 2, tap (x0 (ix2 n 2) + x0 (ix2 n 3) * step (q.val * 2 + t.val)) x.val) * Ideal.ofBits .f32 1056964608#32)
    * ∑ y : Fin 16, ((∑ t : Fin 2, tap (x0 (ix2 n 0) + x0 (ix2 n 1) * step (p.val * 2 + t.val)) y.val) * Ideal.ofBits .f32 1056964608#32) * P (ix4 n y x c)

theorem kVal_eq (x0 : Vec Ideal S64x8 .f32) (p : Vec Ideal S64x16x16x64 .f32) (x1 : Vec Ideal S576x128 .f32) (x2 : Vec Ideal S1x128 .f32)
    (w0 w1 w2 w3 w4 w5 w6 w7 w8 : Vec Ideal S128x128 .f32) (x4 : Vec Ideal S1x128 .f32)
    (x5 : Vec Ideal S6272x256 .f32) (x6 : Vec Ideal S1x256 .f32) (x7 : Vec Ideal S256x128 .f32) (x8 : Vec Ideal S1x128 .f32) :
    kVal x0 p x1 x2 w0 w1 w2 w3 w4 w5 w6 w7 w8 x4 x5 x6 x7 x8
      = k0_pay33 (k0_pay32 (k0_pay28 (conv1 (frame64 (aligned (columnWeight x0) (rowWeight x0) p)) x1 x2) 0#32)
          (k0_pay29 (conv1 (frame64 (aligned (columnWeight x0) (rowWeight x0) p)) x1 x2) 0#32 w0 w1 w2 w3 w4)
          (k0_pay30 (conv1 (frame64 (aligned (columnWeight x0) (rowWeight x0) p)) x1 x2) 0#32) (k0_pay31 w5)
          (constant S3136x128 .f32 0x00000000#32) w6 w7 w8 x4 x5 x6 x7) x8 := by
  unfold kVal
  simp only [pay27_eq]
  rfl

/-- The nine pieces of the second convolution's weights. -/
def pieces (x3 : Vec Ideal S1152x128 .f32) : Fin 9 → Vec Ideal S128x128 .f32 :=
  ![rows128 x3 0 inb_S1152x128_S128x128_0_0, rows128 x3 128 inb_S1152x128_S128x128_128_0, rows128 x3 256 inb_S1152x128_S128x128_256_0,
    rows128 x3 384 inb_S1152x128_S128x128_384_0, rows128 x3 512 inb_S1152x128_S128x128_512_0, rows128 x3 640 inb_S1152x128_S128x128_640_0,
    rows128 x3 768 inb_S1152x128_S128x128_768_0, rows128 x3 896 inb_S1152x128_S128x128_896_0, rows128 x3 1024 inb_S1152x128_S128x128_1024_0]

theorem rows128_at (x : FVec Ideal S1152x128 .f32) (o : ℕ) (h : ∀ a, (![o, 0] : Fin 2 → Nat) a + S128x128.size a ≤ S1152x128.size a) (c d : Fin 128)
    (k : Fin 1152) (hk : k.val = o + c.val) : rows128 (F := Ideal) x o h (ix2 c d) = x (ix2 k d) := by
  unfold rows128
  refine congrArg x (funext fun a => Fin.ext ?_)
  fin_cases a
  · show o + 1 * c.val = k.val; omega
  · show 0 + 1 * d.val = d.val; omega

theorem pieces_at (x : FVec Ideal S1152x128 .f32) (t : Fin 9) (c d : Fin 128) : pieces x t (ix2 c d) = x (ix2 ⟨t.val * 128 + c.val, by omega⟩ d) := by
  fin_cases t
  all_goals exact rows128_at x _ _ c d _ (by simp)

/-- A grid point's block of the output, read at a box. -/
theorem kOut_at (x0 : FVec Ideal S64x8 .f32) (x1 : FVec Ideal S576x128 .f32) (x2 : FVec Ideal S1x128 .f32) (x3 : FVec Ideal S1152x128 .f32) (x4 : FVec Ideal S1x128 .f32)
    (x5 : FVec Ideal S6272x256 .f32) (x6 : FVec Ideal S1x256 .f32) (x7 : FVec Ideal S256x128 .f32) (x8 : FVec Ideal S1x128 .f32) (P : FVec Ideal S64x16x16x64 .f32) (n : Fin 64) :
    kOut (F := Ideal) x0 x1 x2 x3 x4 x5 x6 x7 x8 P (ix2 n 0)
      = dense (conv (conv (kernelRoi x0 P n) (fun o c i j => x1 (ix2 ⟨(j.val * 3 + i.val) * 64 + c.val, by omega⟩ o)) (fun o => x2 (ix2 0 o)))
            (fun o c i j => x3 (ix2 ⟨(j.val * 3 + i.val) * 128 + c.val, by omega⟩ o)) (fun o => x4 (ix2 0 o)))
          (fun o p q f => x5 (ix2 ⟨(q.val * 7 + p.val) * 128 + o.val, by omega⟩ f)) (fun f => x6 (ix2 0 f)) (fun f => x7 (ix2 f 0)) (x8 (ix2 0 0)) := by
  have hr : (fun p q c => aligned (columnWeight x0) (rowWeight x0) P (ix4 n q p c)) = kernelRoi x0 P n := by
    funext p q c
    unfold kernelRoi
    rw [aligned_at]
    simp only [rowWeight_at, columnWeight_at]
  unfold kOut
  rw [kVal_eq]
  refine (tail_at (conv1 (frame64 (aligned (columnWeight x0) (rowWeight x0) P)) x1 x2) (pieces x3) x4 x5 x6 x7 x8 n).trans ?_
  refine congrArg (fun X => dense X _ _ _ _) ?_
  have h1 : (fun p q c => conv1 (frame64 (aligned (columnWeight x0) (rowWeight x0) P)) x1 x2 (ix4 n q p c))
      = conv (kernelRoi x0 P n) (fun o c i j => x1 (ix2 ⟨(j.val * 3 + i.val) * 64 + c.val, by omega⟩ o)) (fun o => x2 (ix2 0 o)) := by
    funext p q o
    rw [conv1_at, hr]
  rw [h1]
  refine congrArg (fun w => conv _ w _) ?_
  funext o c i j
  exact pieces_at x3 _ c o

end Cert.KernelIdeal.Roi

end
-- ==== Proof.Ideal.Axis.lean ====
/- One axis of the alignment: where a box's samples fall, in the whole map and in the box's own patch. -/
module

public import proofs.«01_k».proof.Proof.Ideal.Inputs
public import proofs.«01_k».proof.Proof.Ideal.Align

@[expose] public section

set_option maxRecDepth 16384

noncomputable section

namespace Cert.KernelIdeal.Roi

open Idealize.ShloMosaic Cert.KernelIdeal Cert.KernelIdeal.Gen Cert.Roi

/-- The first row (or column) of a box's patch, as a word. -/
def word (y : EReal) : BitVec 32 :=
  IntOp.minsi 240#32 (IntOp.maxsi 0#32 (FloatOps.fptosi (F := Ideal) (φ := .f32) 32 (FloatOps.hostUnary (F := Ideal) (φ := .f32) .floor y)))

/-- A coordinate held inside the map. -/
def held (v : EReal) : EReal :=
  min (FloatOps.sitofp (F := Ideal) .f32 255#32) (max (0 : EReal) v)

/-! ## Numbers -/

/-- The word of one half. -/
theorem bits_half : Ideal.ofBits .f32 1056964608#32 = ((1 / 2 : ℝ) : EReal) := by
  simp [Ideal.ofBits, Ideal.ieee]
  rw [← EReal.coe_mul]
  norm_num

/-- The word of two. -/
theorem bits_two : Ideal.ofBits .f32 1073741824#32 = ((2 : ℝ) : EReal) := by
  simp [Ideal.ofBits, Ideal.ieee]
  rw [← EReal.coe_mul]
  norm_num

/-- The word of four. -/
theorem bits_four : Ideal.ofBits .f32 1082130432#32 = ((4 : ℝ) : EReal) := by
  simp [Ideal.ofBits, Ideal.ieee]
  rw [← EReal.coe_mul]
  norm_num

/-- The word of seven. -/
theorem bits_seven : Ideal.ofBits .f32 1088421888#32 = ((7 : ℝ) : EReal) := by
  simp [Ideal.ofBits, Ideal.ieee]
  rw [← EReal.coe_mul]
  norm_num

/-- The word of 14.5, the longest side of a box. -/
theorem bits_side : Ideal.ofBits .f32 1097334784#32 = ((29 / 2 : ℝ) : EReal) := by
  simp [Ideal.ofBits, Ideal.ieee]
  rw [← EReal.coe_mul]
  norm_num

/-- The word of 241, the last corner of a box. -/
theorem bits_corner : Ideal.ofBits .f32 1131479040#32 = ((241 : ℝ) : EReal) := by
  simp [Ideal.ofBits, Ideal.ieee]
  rw [← EReal.coe_mul]
  norm_num

/-- The word of minus one. -/
theorem bits_neg : Ideal.ofBits .f32 3212836864#32 = ((-1 : ℝ) : EReal) := by
  simp [Ideal.ofBits, Ideal.ieee]
  rw [← EReal.coe_mul]
  norm_num

/-- The word of 256, the map's side. -/
theorem bits_side_map : Ideal.ofBits .f32 1132462080#32 = ((256 : ℝ) : EReal) := by
  simp [Ideal.ofBits, Ideal.ieee]
  rw [← EReal.coe_mul]
  norm_num

/-- Division of real numbers. -/
theorem div_coe (a b : ℝ) (hb : b ≠ 0) : Ideal.div (a : EReal) (b : EReal) = ((a / b : ℝ) : EReal) := by
  unfold Ideal.div
  rw [if_neg (by exact_mod_cast hb), ← EReal.coe_inv, ← EReal.coe_mul, div_eq_mul_inv]

/-- Rounding down a real number that is not negative gives a natural number. -/
theorem floor_coe (u : ℝ) (h : 0 ≤ u) : Ideal.liftRound Int.floor (u : EReal) = (((⌊u⌋₊ : ℕ) : ℝ) : EReal) := by
  show (((⌊u⌋ : ℤ) : ℝ) : EReal) = _
  rw [← natCast_floor_eq_intCast_floor h]

/-- A natural number as a word. -/
theorem fptosi_nat (k : ℕ) (hk : k < 1000) : FloatOps.fptosi (F := Ideal) (φ := .f32) 32 (((k : ℝ) : EReal) : Ideal .f32) = BitVec.ofNat 32 k := by
  show BitVec.ofInt 32 (max (-(2 ^ 31)) (min (2 ^ 31 - 1) (if (0 : ℝ) ≤ (k : ℝ) then ⌊(k : ℝ)⌋ else ⌈(k : ℝ)⌉))) = _
  rw [if_pos (Nat.cast_nonneg k), Int.floor_natCast, min_eq_right (by omega), max_eq_right (by omega), BitVec.ofInt_natCast]

/-- A word of a natural number as a number. -/
theorem sitofp_nat (k : ℕ) (hk : k < 1000) : FloatOps.sitofp (F := Ideal) .f32 (BitVec.ofNat 32 k) = (((k : ℝ) : EReal) : Ideal .f32) := by
  show ((((BitVec.ofNat 32 k).toInt : ℤ) : ℝ) : EReal) = _
  have : (BitVec.ofNat 32 k).toInt = (k : ℤ) := by
    rw [BitVec.toInt_eq_toNat_cond, BitVec.toNat_ofNat]
    omega
  rw [this, Int.cast_natCast]

/-- Clamping a natural number to 0 .. 240. -/
theorem clamp_nat (k : ℕ) (hk : k ≤ 241) : IntOp.minsi 240#32 (IntOp.maxsi 0#32 (BitVec.ofNat 32 k)) = BitVec.ofNat 32 (min 240 k) := by
  have : ∀ k : Fin 242, IntOp.minsi 240#32 (IntOp.maxsi 0#32 (BitVec.ofNat 32 k.val)) = BitVec.ofNat 32 (min 240 k.val) := by decide +kernel
  exact this ⟨k, by omega⟩

/-- A choice by equality of two small words. -/
theorem select_eq (x l : ℕ) (hx : x < 1000) (hl : l < 1000) (a b : EReal) :
    Scalar.select (IntOp.cmpi .eq (BitVec.ofNat 32 x) (BitVec.ofNat 32 l)) a b = if x = l then a else b := by
  by_cases h : x = l
  · subst h
    rw [if_pos rfl, IntOp.cmpi_eq.2 rfl]
    rfl
  · rw [if_neg h]
    have hn : BitVec.ofNat 32 x ≠ BitVec.ofNat 32 l := fun e => h (by
      have := congrArg BitVec.toNat e
      simp only [BitVec.toNat_ofNat] at this
      omega)
    have : IntOp.cmpi .eq (BitVec.ofNat 32 x) (BitVec.ofNat 32 l) = 0#1 := by
      show BitVec.ofBool (BitVec.ofNat 32 x == BitVec.ofNat 32 l) = 0#1
      rw [beq_eq_false_iff_ne.2 hn]
      rfl
    rw [this]
    rfl

/-! ## A sample in the patch and in the map -/

/-- What a sample takes from a row of the patch: the rows below and above it, weighted by the distance to the other. -/
theorem tap_coe (u : ℝ) (h0 : 0 ≤ u) (h1 : u < 15) (x : ℕ) (hx : x < 16) :
    tap (u : EReal) x = (if x = ⌊u⌋₊ then ((1 - (u - ⌊u⌋₊) : ℝ) : EReal) else 0) + (if x = ⌊u⌋₊ + 1 then ((u - ⌊u⌋₊ : ℝ) : EReal) else 0) := by
  have hl : ⌊u⌋₊ < 15 := (Nat.floor_lt h0).2 (by exact_mod_cast h1)
  unfold tap
  rw [floor_coe u h0, fptosi_nat _ (by omega)]
  have e : IntOp.addi (BitVec.ofNat 32 ⌊u⌋₊) 1#32 = BitVec.ofNat 32 (⌊u⌋₊ + 1) := by
    show BitVec.ofNat 32 ⌊u⌋₊ + BitVec.ofNat 32 1 = _
    rw [BitVec.ofNat_add]
  rw [e, select_eq x _ (by omega) (by omega), select_eq x _ (by omega) (by omega)]
  rfl

/-- A sample's place in bins, as a real number. -/
theorem step_coe (s : ℕ) (hs : s < 14) : step s = ((((s : ℝ) + 1 / 2) / 2 : ℝ) : EReal) := by
  unfold step
  rw [sitofp_nat s (by omega), bits_half, bits_two]
  exact (congrArg (fun a : EReal => Ideal.div a _) (EReal.coe_add _ _).symm).trans (div_coe _ _ two_ne_zero)

/-- A box's side over seven is a number between 1/7 and 29/14. -/
theorem bin_coe (Y : ℝ) (z : EReal) (h : z - (Y : EReal) ≤ ((29 / 2 : ℝ) : EReal)) : ∃ H : ℝ, bin (Y : EReal) z = (H : EReal) ∧ 1 / 7 ≤ H ∧ H ≤ 29 / 14 := by
  have hm : max (z - (Y : EReal)) 1 ≤ ((29 / 2 : ℝ) : EReal) := max_le h (by exact_mod_cast (by norm_num : (1 : ℝ) ≤ 29 / 2))
  have hl : ((1 : ℝ) : EReal) ≤ max (z - (Y : EReal)) 1 := le_max_right _ _
  have hr : ((max (z - (Y : EReal)) 1).toReal : EReal) = max (z - (Y : EReal)) 1 :=
    EReal.coe_toReal (ne_top_of_le_ne_top (EReal.coe_ne_top _) hm) (ne_bot_of_le_ne_bot (EReal.coe_ne_bot _) hl)
  rw [← hr] at hm hl
  have hm := EReal.coe_le_coe_iff.1 hm
  have hl := EReal.coe_le_coe_iff.1 hl
  refine ⟨(max (z - (Y : EReal)) 1).toReal / 7, ?_, by linarith, by linarith⟩
  unfold bin
  rw [← hr, bits_seven]
  exact div_coe _ _ (by norm_num)

/-- The samples of a box on one axis: a first row R of the patch, and for each sample a row l of the patch and a distance f
from it. The patch is read there, and the map is read at R + l. -/
theorem axis (y z : EReal) (h0 : 0 ≤ y) (h1 : y ≤ ((241 : ℝ) : EReal)) (hw : z - y ≤ ((29 / 2 : ℝ) : EReal)) :
    ∃ R : ℕ, R ≤ 240 ∧ word y = BitVec.ofNat 32 R ∧ ∀ s : ℕ, s < 14 → ∃ (l : ℕ) (f : ℝ), l ≤ 14 ∧ 0 ≤ f ∧ f ≤ 1 ∧
      (∀ x : ℕ, x < 16 → tap (y - FloatOps.sitofp (F := Ideal) .f32 (word y) + bin y z * step s) x
        = (if x = l then ((1 - f : ℝ) : EReal) else 0) + (if x = l + 1 then (f : EReal) else 0))
      ∧ FloatOps.fptosi (F := Ideal) (φ := .f32) 32 (Ideal.liftRound Int.floor (held (y + bin y z * step s))) = BitVec.ofNat 32 (R + l)
      ∧ held (y + bin y z * step s) - FloatOps.sitofp (F := Ideal) .f32 (BitVec.ofNat 32 (R + l)) = (f : EReal)
      ∧ ((-1 : ℝ) : EReal) ≤ y + bin y z * step s ∧ y + bin y z * step s ≤ ((256 : ℝ) : EReal) := by
  have hy : ((y.toReal : ℝ) : EReal) = y :=
    EReal.coe_toReal (ne_top_of_le_ne_top (EReal.coe_ne_top _) h1) (ne_bot_of_le_ne_bot EReal.zero_ne_bot h0)
  generalize y.toReal = Y at hy
  subst hy
  have h0 : 0 ≤ Y := EReal.coe_nonneg.1 h0
  have h1 : Y ≤ 241 := EReal.coe_le_coe_iff.1 h1
  obtain ⟨H, eH, hH0, hH1⟩ := bin_coe Y z hw
  have hk : ⌊Y⌋₊ ≤ 241 := Nat.floor_le_of_le (by exact_mod_cast h1)
  have ew : word (Y : EReal) = BitVec.ofNat 32 (min 240 ⌊Y⌋₊) := by
    unfold word
    have : FloatOps.hostUnary (F := Ideal) (φ := .f32) .floor (Y : EReal) = (((⌊Y⌋₊ : ℕ) : ℝ) : EReal) := floor_coe Y h0
    rw [this, fptosi_nat _ (by omega), clamp_nat _ hk]
  refine ⟨min 240 ⌊Y⌋₊, min_le_left _ _, ew, fun s hs => ?_⟩
  have hRle : ((min 240 ⌊Y⌋₊ : ℕ) : ℝ) ≤ Y := le_trans (by exact_mod_cast min_le_right _ _) (Nat.floor_le h0)
  have hRge : Y - ((min 240 ⌊Y⌋₊ : ℕ) : ℝ) ≤ 1 := by
    rcases le_total 240 ⌊Y⌋₊ with h | h
    · rw [min_eq_left h]; push_cast; linarith
    · rw [min_eq_right h]; linarith [Nat.lt_floor_add_one Y]
  have hR240 : min 240 ⌊Y⌋₊ ≤ 240 := min_le_left _ _
  rw [ew, sitofp_nat _ (by omega), eH, step_coe s hs]
  generalize min 240 ⌊Y⌋₊ = R at *
  have hs' : (s : ℝ) ≤ 13 := by exact_mod_cast (by omega : s ≤ 13)
  have hs0 : (0 : ℝ) ≤ s := Nat.cast_nonneg s
  generalize hT : ((s : ℝ) + 1 / 2) / 2 = T
  have hT0 : 0 ≤ T := by rw [← hT]; positivity
  have hT1 : T ≤ 27 / 4 := by rw [← hT]; linarith
  have hd0 : 0 ≤ H * T := mul_nonneg (by linarith) hT0
  have hd1 : H * T < 14 := lt_of_le_of_lt (mul_le_mul hH1 hT1 hT0 (by norm_num)) (by norm_num)
  have hd2 : H * T ≤ 783 / 56 := (mul_le_mul hH1 hT1 hT0 (by norm_num)).trans (by norm_num)
  have eu : (Y : EReal) - ((R : ℝ) : EReal) + (H : EReal) * (T : EReal) = ((Y - R + H * T : ℝ) : EReal) := by push_cast; rfl
  have ev : (Y : EReal) + (H : EReal) * (T : EReal) = ((Y + H * T : ℝ) : EReal) := by push_cast; rfl
  have eheld : held ((Y + H * T : ℝ) : EReal) = ((Y + H * T : ℝ) : EReal) := by
    unfold held
    rw [sitofp_nat 255 (by omega), max_eq_right (by exact_mod_cast (by linarith : 0 ≤ Y + H * T)), min_eq_right]
    exact EReal.coe_le_coe_iff.2 (by push_cast; linarith)
  have hu0 : 0 ≤ Y - R + H * T := by linarith
  have hl : ⌊Y - R + H * T⌋₊ < 15 := (Nat.floor_lt hu0).2 (by push_cast; linarith)
  have efl : ⌊Y + H * T⌋₊ = R + ⌊Y - R + H * T⌋₊ := by
    have : Y + H * T = (Y - R + H * T) + (R : ℕ) := by ring
    rw [this, Nat.floor_add_natCast hu0, Nat.add_comm]
  refine ⟨⌊Y - R + H * T⌋₊, (Y - R + H * T) - ⌊Y - R + H * T⌋₊, by omega, by linarith [Nat.floor_le hu0], by linarith [Nat.lt_floor_add_one (Y - R + H * T)],
    fun x hx => ?_, ?_, ?_, ?_, ?_⟩
  · rw [eu]
    exact tap_coe _ hu0 (by linarith) x hx
  · rw [ev, eheld, floor_coe _ (by linarith), efl, fptosi_nat _ (by omega)]
  · rw [ev, eheld, sitofp_nat _ (by omega)]
    refine (EReal.coe_sub _ _).symm.trans (congrArg _ ?_)
    push_cast
    ring
  · rw [ev]
    exact EReal.coe_le_coe_iff.2 (by linarith)
  · rw [ev]
    exact EReal.coe_le_coe_iff.2 (by linarith)

end Cert.KernelIdeal.Roi

end
-- ==== Proof.Interp.lean ====
/- Sampling a patch between its rows and columns: weights laid along both axes give the mean of four interpolated samples. -/
module

public import Idealize.ShloMosaic.PureOps.Ideal
public import Idealize.ShloMosaic.Lib.Pointwise

@[expose] public section

noncomputable section

namespace Cert.Roi

open Idealize.ShloMosaic

/-- A real weight that is not negative distributes over a sum of extended reals. -/
theorem weight_mul (c : ℝ) (hc : 0 ≤ c) (a b : EReal) : (c : EReal) * (a + b) = c * a + c * b :=
  EReal.left_distrib_of_nonneg_of_ne_top (EReal.coe_nonneg.2 hc) (EReal.coe_ne_top c) a b

/-- Two real weights, one after the other, are their product. -/
theorem weight_weight (c d : ℝ) (a : EReal) : (c : EReal) * ((d : EReal) * a) = ((c * d : ℝ) : EReal) * a := by
  rw [← mul_assoc, ← EReal.coe_mul]

/-- A sum with one place that counts. -/
theorem sum_place (l : ℕ) (h : l < 16) (g : Fin 16 → EReal) : ∑ x : Fin 16, (if x.val = l then g x else 0) = g ⟨l, h⟩ := by
  rw [Finset.sum_eq_single ⟨l, h⟩ (fun b _ hb => if_neg fun e => hb (Fin.ext e)) (fun hn => absurd (Finset.mem_univ _) hn)]
  exact if_pos rfl

/-- What a sample takes from row x: 1 - f of row l and f of the row after it. -/
def share (l : ℕ) (f : ℝ) (x : ℕ) : EReal := (if x = l then ((1 - f : ℝ) : EReal) else 0) + (if x = l + 1 then (f : EReal) else 0)

/-- A share is not negative. -/
theorem share_nonneg (l : ℕ) (f : ℝ) (h0 : 0 ≤ f) (h1 : f ≤ 1) (x : ℕ) : 0 ≤ share l f x := by
  unfold share
  refine add_nonneg ?_ ?_
  · split_ifs
    · exact EReal.coe_nonneg.2 (by linarith)
    · exact le_refl _
  · split_ifs
    · exact EReal.coe_nonneg.2 h0
    · exact le_refl _

/-- One sample's shares of the rows, summed. -/
theorem share_sum (l : ℕ) (f : ℝ) (hl : l ≤ 14) (h0 : 0 ≤ f) (h1 : f ≤ 1) (G : Fin 16 → EReal) :
    ∑ x : Fin 16, share l f x.val * G x = ((1 - f : ℝ) : EReal) * G ⟨l, by omega⟩ + (f : EReal) * G ⟨l + 1, by omega⟩ := by
  rw [← sum_place l (by omega) (fun x => ((1 - f : ℝ) : EReal) * G x), ← sum_place (l + 1) (by omega) (fun x => (f : EReal) * G x),
    ← Finset.sum_add_distrib]
  refine Finset.sum_congr rfl fun x _ => ?_
  unfold share
  rw [EReal.right_distrib_of_nonneg]
  · congr 1 <;> split_ifs <;> first | rfl | exact zero_mul _
  · split_ifs
    · exact EReal.coe_nonneg.2 (by linarith)
    · exact le_refl _
  · split_ifs
    · exact EReal.coe_nonneg.2 h0
    · exact le_refl _

/-- Two samples' shares, halved. -/
theorem shares_sum (l : Fin 2 → ℕ) (f : Fin 2 → ℝ) (hl : ∀ t, l t ≤ 14) (h0 : ∀ t, 0 ≤ f t) (h1 : ∀ t, f t ≤ 1) (G : Fin 16 → EReal) :
    ∑ x : Fin 16, ((∑ t : Fin 2, share (l t) (f t) x.val) * ((1 / 2 : ℝ) : EReal)) * G x
      = ∑ t : Fin 2, ((1 / 2 : ℝ) : EReal) * (((1 - f t : ℝ) : EReal) * G ⟨l t, by have := hl t; omega⟩ + (f t : EReal) * G ⟨l t + 1, by have := hl t; omega⟩) := by
  have e : ∀ t, ((1 / 2 : ℝ) : EReal) * (((1 - f t : ℝ) : EReal) * G ⟨l t, by have := hl t; omega⟩ + (f t : EReal) * G ⟨l t + 1, by have := hl t; omega⟩)
      = ∑ x : Fin 16, share (l t) (f t) x.val * (((1 / 2 : ℝ) : EReal) * G x) := by
    intro t
    rw [share_sum _ _ (hl t) (h0 t) (h1 t), weight_mul _ (by norm_num), mul_left_comm, mul_left_comm _ (f t : EReal)]
  simp only [e]
  rw [Finset.sum_comm]
  refine Finset.sum_congr rfl fun x _ => ?_
  rw [Fin.sum_univ_two, Fin.sum_univ_two, mul_assoc,
    EReal.right_distrib_of_nonneg (share_nonneg _ _ (h0 0) (h1 0) _) (share_nonneg _ _ (h0 1) (h1 1) _)]

/-- A sample between two rows and two columns. -/
def between (fy fx : ℝ) (a b c d : EReal) : EReal :=
  (1 - (fy : EReal)) * (1 - (fx : EReal)) * a + (1 - (fy : EReal)) * fx * b + fy * (1 - (fx : EReal)) * c + fy * fx * d

/-- Shares along both axes give the mean of the four samples. -/
theorem shares_mean (ly lx : Fin 2 → ℕ) (fy fx : Fin 2 → ℝ) (hly : ∀ t, ly t ≤ 14) (hlx : ∀ t, lx t ≤ 14)
    (hy0 : ∀ t, 0 ≤ fy t) (hy1 : ∀ t, fy t ≤ 1) (hx0 : ∀ t, 0 ≤ fx t) (hx1 : ∀ t, fx t ≤ 1) (P : Fin 16 → Fin 16 → EReal) :
    ∑ x : Fin 16, ((∑ t : Fin 2, share (lx t) (fx t) x.val) * ((1 / 2 : ℝ) : EReal))
        * ∑ y : Fin 16, ((∑ t : Fin 2, share (ly t) (fy t) y.val) * ((1 / 2 : ℝ) : EReal)) * P y x
      = (∑ s : Fin 2, ∑ t : Fin 2, between (fy s) (fx t)
          (P ⟨ly s, by have := hly s; omega⟩ ⟨lx t, by have := hlx t; omega⟩) (P ⟨ly s, by have := hly s; omega⟩ ⟨lx t + 1, by have := hlx t; omega⟩)
          (P ⟨ly s + 1, by have := hly s; omega⟩ ⟨lx t, by have := hlx t; omega⟩) (P ⟨ly s + 1, by have := hly s; omega⟩ ⟨lx t + 1, by have := hlx t; omega⟩))
        * ((1 / 4 : ℝ) : EReal) := by
  simp only [shares_sum ly fy hly hy0 hy1]
  rw [shares_sum lx fx hlx hx0 hx1 (fun x => ∑ t : Fin 2, ((1 / 2 : ℝ) : EReal) * (((1 - fy t : ℝ) : EReal) * P ⟨ly t, by have := hly t; omega⟩ x
    + (fy t : EReal) * P ⟨ly t + 1, by have := hly t; omega⟩ x))]
  have one_sub : ∀ r : ℝ, (1 : EReal) - (r : EReal) = ((1 - r : ℝ) : EReal) := fun r => (EReal.coe_sub 1 r).symm
  have ny : ∀ t, 0 ≤ 1 - fy t := fun t => by have := hy1 t; linarith
  have nx : ∀ t, 0 ≤ 1 - fx t := fun t => by have := hx1 t; linarith
  have half : (0 : ℝ) ≤ 1 / 2 := by norm_num
  have quarter : (0 : ℝ) ≤ 1 / 4 := by norm_num
  rw [mul_comm (Finset.sum _ _)]
  simp only [Fin.sum_univ_two, between, one_sub, ← EReal.coe_mul, weight_mul _ half, weight_mul _ quarter, weight_mul _ (ny 0), weight_mul _ (ny 1),
    weight_mul _ (nx 0), weight_mul _ (nx 1), weight_mul _ (hy0 0), weight_mul _ (hy0 1), weight_mul _ (hx0 0), weight_mul _ (hx0 1), weight_weight]
  have q : ∀ a b : ℝ, 1 / 2 * a * (1 / 2 * b) = 1 / 4 * (b * a) := fun a b => by ring
  simp only [weight_mul _ (mul_nonneg half (nx 0)), weight_mul _ (mul_nonneg half (nx 1)), weight_mul _ (mul_nonneg half (hx0 0)),
    weight_mul _ (mul_nonneg half (hx0 1)), weight_weight, q]
  abel

end Cert.Roi

end
-- ==== Proof.Ref.Value.lean ====
/- The reference's pieces, read at an index. -/
module

public import proofs.«01_k».proof.Proof.Ref.Gather
public import proofs.«01_k».proof.Proof.Ideal.Axis
public import proofs.«01_k».proof.Proof.Interp

@[expose] public section

set_option maxRecDepth 16384

noncomputable section

namespace Cert.ReferenceIdeal.Roi

open Cert.ReferenceIdeal Cert.ReferenceIdeal.Value Cert.Roi
open Cert.KernelIdeal.Roi (bin step held)
open Idealize.ShloMosaic Idealize.ShloMosaic.TcCoe

/-- The row below a coordinate. -/
def low (v : EReal) : BitVec 32 := FloatOps.fptosi (F := Ideal) (φ := .f32) 32 (Ideal.liftRound Int.floor (held v))

/-- The coordinate's distance from that row. -/
def frac (v : EReal) : EReal := held v - FloatOps.sitofp (F := Ideal) .f32 (low v)

/-- The row after a row, held inside the map. -/
def next (w : BitVec 32) : BitVec 32 := IntOp.minsi (IntOp.addi w 1#32) 255#32

/-- A word counted from the end of an axis where it is below zero. -/
def wrap (w N : BitVec 32) : BitVec 32 := Scalar.select (IntOp.cmpi .slt w 0#32) (IntOp.addi w N) w

/-- The constant zero. -/
theorem zero_at : id (constant (F := Ideal) S_ .f32 0#32) ix0 = (0 : EReal) := Ideal.ofBits_zero_f32

/-- The word zero as a number. -/
theorem sitofp_zero : (FloatOps.sitofp (F := Ideal) .f32 0#32 : EReal) = 0 := by
  show (((0 : ℤ) : ℝ) : EReal) = 0
  norm_num

variable (V0 : Valuation τ sig (Elt Ideal))

/-- A box's entries. -/
abbrev entry (n : Fin 4096) (k : Fin 5) : EReal := V0 (Proc.tc.devRef main_arg1) (ix2 n k)

/-- The rows of a box's samples. -/
theorem v35_at (n : Fin 4096) (s : Fin 14) : res_main_v35 V0 (ix2 n s) = entry V0 n 2 + bin (entry V0 n 2) (entry V0 n 4) * step s.val := by
  pointwise [res_main_v35, res_main_v7, res_main_v27]
  rfl

/-- The columns of a box's samples. -/
theorem v43_at (n : Fin 4096) (s : Fin 14) : res_main_v43 V0 (ix2 n s) = entry V0 n 1 + bin (entry V0 n 1) (entry V0 n 3) * step s.val := by
  pointwise [res_main_v43, res_main_v5, res_main_v27]
  rfl

/-- The rows, held inside the map. -/
theorem v49_at (n : Fin 4096) (s : Fin 14) : res_main_v49 V0 (ix2 n s) = held (res_main_v35 V0 (ix2 n s)) := by
  pointwise [res_main_v49]
  rw [zero_at]
  rfl

/-- The map's row below a sample. -/
theorem v51_at (n : Fin 4096) (s : Fin 14) : res_main_v51 V0 (ix2 n s) = low (res_main_v35 V0 (ix2 n s)) := by
  pointwise [res_main_v51]
  rw [v49_at]
  rfl

/-- A sample's distance from that row. -/
theorem v57_at (n : Fin 4096) (s : Fin 14) : res_main_v57 V0 (ix2 n s) = frac (res_main_v35 V0 (ix2 n s)) := by
  pointwise [res_main_v57]
  rw [v49_at, v51_at]
  rfl

/-- The columns, held inside the map. -/
theorem v63_at (n : Fin 4096) (s : Fin 14) : res_main_v63 V0 (ix2 n s) = held (res_main_v43 V0 (ix2 n s)) := by
  pointwise [res_main_v63]
  rw [zero_at]
  rfl

/-- The map's column before a sample. -/
theorem v65_at (n : Fin 4096) (s : Fin 14) : res_main_v65 V0 (ix2 n s) = low (res_main_v43 V0 (ix2 n s)) := by
  pointwise [res_main_v65]
  rw [v63_at]
  rfl

/-- A sample's distance from that column. -/
theorem v71_at (n : Fin 4096) (s : Fin 14) : res_main_v71 V0 (ix2 n s) = frac (res_main_v43 V0 (ix2 n s)) := by
  pointwise [res_main_v71]
  rw [v63_at, v65_at]
  rfl

/-- A sample at row v and column u of the map: the four entries around it, weighted. -/
def sample (F : S4x256x256x64.Idx → EReal) (b : BitVec 32) (v u : EReal) (k : Fin 64) : EReal :=
  (1 - frac v) * (1 - frac u) * pick F (wrap b 4#32) (wrap (low v) 256#32) (wrap (low u) 256#32) k
    + (1 - frac v) * frac u * pick F (wrap b 4#32) (wrap (low v) 256#32) (wrap (next (low u)) 256#32) k
    + frac v * (1 - frac u) * pick F (wrap b 4#32) (wrap (next (low v)) 256#32) (wrap (low u) 256#32) k
    + frac v * frac u * pick F (wrap b 4#32) (wrap (next (low v)) 256#32) (wrap (next (low u)) 256#32) k

/-- A coordinate counts where it is no further than one from the map. -/
def counts (v : EReal) : BitVec 1 :=
  IntOp.andi (BitVec.ofBool (decide (Ideal.ofBits .f32 3212836864#32 ≤ v))) (BitVec.ofBool (decide (v ≤ Ideal.ofBits .f32 1132462080#32)))

/-- The aligned box: the mean of four samples in each of its bins. -/
def refRoi (F : S4x256x256x64.Idx → EReal) (b : Fin 5 → EReal) (p q : Fin 7) (k : Fin 64) : EReal :=
  Ideal.div (∑ s : Fin 2, ∑ t : Fin 2, Scalar.select
    (IntOp.andi (counts (b 2 + bin (b 2) (b 4) * step (p.val * 2 + s.val))) (counts (b 1 + bin (b 1) (b 3) * step (q.val * 2 + t.val))))
    (sample F (FloatOps.fptosi (F := Ideal) (φ := .f32) 32 (b 0)) (b 2 + bin (b 2) (b 4) * step (p.val * 2 + s.val)) (b 1 + bin (b 1) (b 3) * step (q.val * 2 + t.val)) k) 0)
    (Ideal.ofBits .f32 1082130432#32)

/-- The map with its channels last. -/
theorem v0_at (a : Fin 4) (r s : Fin 256) (k : Fin 64) : res_main_v0 V0 (ix4 a r s k) = V0 (Proc.tc.devRef main_arg0) (ix4 a k r s) := by
  pointwise [res_main_v0]

/-- Three of the four weighted entries around a sample. -/
theorem v170_at (n : Fin 4096) (s t : Fin 14) (k : Fin 64) :
    res_main_v170 V0 (ix4 n s t k)
      = (1 - frac (res_main_v35 V0 (ix2 n s))) * (1 - frac (res_main_v43 V0 (ix2 n t)))
        * pick (res_main_v0 V0) (wrap (FloatOps.fptosi (F := Ideal) (φ := .f32) 32 (entry V0 n 0)) 4#32) (wrap (low (res_main_v35 V0 (ix2 n s))) 256#32) (wrap (low (res_main_v43 V0 (ix2 n t))) 256#32) k
      + (1 - frac (res_main_v35 V0 (ix2 n s))) * frac (res_main_v43 V0 (ix2 n t))
        * pick (res_main_v0 V0) (wrap (FloatOps.fptosi (F := Ideal) (φ := .f32) 32 (entry V0 n 0)) 4#32) (wrap (low (res_main_v35 V0 (ix2 n s))) 256#32) (wrap (next (low (res_main_v43 V0 (ix2 n t)))) 256#32) k
      + frac (res_main_v35 V0 (ix2 n s)) * (1 - frac (res_main_v43 V0 (ix2 n t)))
        * pick (res_main_v0 V0) (wrap (FloatOps.fptosi (F := Ideal) (φ := .f32) 32 (entry V0 n 0)) 4#32) (wrap (next (low (res_main_v35 V0 (ix2 n s)))) 256#32) (wrap (low (res_main_v43 V0 (ix2 n t))) 256#32) k := by
  pointwise [res_main_v170]
  simp only [gather_at]
  pointwise [res_main_v76, res_main_v77, res_main_v78, res_main_v79, res_main_v80, res_main_v81, res_main_v82, res_main_v83, res_main_v84]
  simp only [v57_at, v71_at, v51_at, v65_at]
  rfl

/-- The aligned box with a frame of zeros. -/
theorem v212_at (n : Fin 4096) (s t : Fin 9) (k : Fin 64) :
    res_main_v212 V0 (ix4 n k s t) = framed (fun p q => refRoi (res_main_v0 V0) (entry V0 n) p q k) s.val t.val := by
  pointwise [res_main_v212]
  simp only [sums_at]
  pointwise
  simp only [gather_at]
  pointwise [res_main_v76, res_main_v77, res_main_v78, res_main_v79, res_main_v80, res_main_v81, res_main_v82, res_main_v83, res_main_v84]
  simp only [v170_at, v57_at, v71_at, v51_at, v65_at, v35_at, v43_at]
  rw [zero_at, sitofp_zero]
  unfold framed
  by_cases h : (1 ≤ s.val ∧ s.val - 1 < 7) ∧ 1 ≤ t.val ∧ t.val - 1 < 7
  · rw [dif_pos h, dif_pos (by omega)]
    rfl
  · rw [dif_neg h, dif_neg (by omega)]

/-- Nine shifted products are a convolution's sum. -/
theorem nine {C O : ℕ} (X : Fin 7 → Fin 7 → Fin C → EReal) (w : Fin O → Fin C → Fin 3 → Fin 3 → EReal) (p q : Fin 7) (o : Fin O)
    (T : ℕ → ℕ → Fin C → EReal) (hT : ∀ s t c, T s t c = framed (fun p q => X p q c) s t) :
    ∑ c, w o c 0 0 * T p.val q.val c + ∑ c, w o c 0 1 * T p.val (1 + q.val) c + ∑ c, w o c 0 2 * T p.val (2 + q.val) c
      + ∑ c, w o c 1 0 * T (1 + p.val) q.val c + ∑ c, w o c 1 1 * T (1 + p.val) (1 + q.val) c + ∑ c, w o c 1 2 * T (1 + p.val) (2 + q.val) c
      + ∑ c, w o c 2 0 * T (2 + p.val) q.val c + ∑ c, w o c 2 1 * T (2 + p.val) (1 + q.val) c + ∑ c, w o c 2 2 * T (2 + p.val) (2 + q.val) c
      = ∑ j : Fin 3, ∑ i : Fin 3, ∑ c : Fin C, framed (fun p q => X p q c) (p.val + i.val) (q.val + j.val) * w o c i j := by
  simp only [hT, Fin.sum_univ_three, Fin.val_zero, Fin.val_one, Fin.val_two, Nat.add_zero, Nat.add_comm 1, Nat.add_comm 2, mul_comm (w o _ _ _)]
  abel

/-- The weights of the first convolution. -/
abbrev w1 (o : Fin 128) (c : Fin 64) (i j : Fin 3) : EReal := V0 (Proc.tc.devRef main_arg2) (ix4 o c i j)

/-- The biases of the first convolution. -/
abbrev b1 (o : Fin 128) : EReal := V0 (Proc.tc.devRef main_arg3) (ix1 o)

/-- The weights of the second convolution. -/
abbrev w2 (o : Fin 128) (c : Fin 128) (i j : Fin 3) : EReal := V0 (Proc.tc.devRef main_arg4) (ix4 o c i j)

/-- The biases of the second convolution. -/
abbrev b2 (o : Fin 128) : EReal := V0 (Proc.tc.devRef main_arg5) (ix1 o)

/-- The box's image. -/
abbrev image (n : Fin 4096) (p q : Fin 7) (k : Fin 64) : EReal := refRoi (res_main_v0 V0) (entry V0 n) p q k

/-- The first convolution, before its bias. -/
theorem v267_at (n : Fin 4096) (o : Fin 128) (s t : Fin 7) :
    res_main_v267 V0 (ix4 n o s t)
      = ∑ j : Fin 3, ∑ i : Fin 3, ∑ c : Fin 64, framed (fun p q => image V0 n p q c) (s.val + i.val) (t.val + j.val) * w1 V0 o c i j := by
  pointwise [res_main_v267]
  simp only [v212_at]
  exact nine (image V0 n) (w1 V0) s t o (fun s t c => framed (fun p q => image V0 n p q c) s t) fun s t c => rfl

/-- The first convolution's image with a frame of zeros. -/
theorem v272_at (n : Fin 4096) (o : Fin 128) (s t : Fin 9) :
    res_main_v272 V0 (ix4 n o s t) = framed (fun p q => conv (image V0 n) (w1 V0) (b1 V0) p q o) s.val t.val := by
  pointwise [res_main_v272]
  rw [sitofp_zero]
  unfold framed
  by_cases h : (1 ≤ s.val ∧ s.val < 8) ∧ 1 ≤ t.val ∧ t.val < 8
  · rw [dif_pos h]
    refine (dif_pos ?_).trans ?_
    · intro a
      fin_cases a
      · exact ⟨Nat.zero_le _, Nat.mod_one _, (Nat.div_one _).le.trans_lt n.isLt⟩
      · exact ⟨Nat.zero_le _, Nat.mod_one _, (Nat.div_one _).le.trans_lt o.isLt⟩
      · exact ⟨h.1.1, Nat.mod_one _, (Nat.div_one _).le.trans_lt (by show s.val - 1 < 7; omega)⟩
      · exact ⟨h.2.1, Nat.mod_one _, (Nat.div_one _).le.trans_lt (by show t.val - 1 < 7; omega)⟩
    · rw [v267_at]
      rfl
  · rw [dif_neg h]
    refine dif_neg fun hn => h ?_
    have h2 : 1 ≤ s.val ∧ (s.val - 1) % 1 = 0 ∧ (s.val - 1) / 1 < 7 := hn 2
    have h3 : 1 ≤ t.val ∧ (t.val - 1) % 1 = 0 ∧ (t.val - 1) / 1 < 7 := hn 3
    omega

/-- The second convolution, before its bias. -/
theorem v327_at (n : Fin 4096) (o : Fin 128) (s t : Fin 7) :
    res_main_v327 V0 (ix4 n o s t)
      = ∑ j : Fin 3, ∑ i : Fin 3, ∑ c : Fin 128, framed (fun p q => conv (image V0 n) (w1 V0) (b1 V0) p q c) (s.val + i.val) (t.val + j.val) * w2 V0 o c i j := by
  pointwise [res_main_v327]
  simp only [v272_at]
  exact nine (conv (image V0 n) (w1 V0) (b1 V0)) (w2 V0) s t o (fun s t c => framed (fun p q => conv (image V0 n) (w1 V0) (b1 V0) p q c) s t) fun s t c => rfl

/-- A sum over channels, rows and columns laid in one axis. -/
theorem flat (Y : Fin 7 → Fin 7 → Fin 128 → EReal) (g : Fin 6272 → EReal) :
    ∑ x : Fin 6272, Y ⟨x.val / 7 % 7, by omega⟩ ⟨x.val % 7, by omega⟩ ⟨x.val / 49, by omega⟩ * g x
      = ∑ o : Fin 128, ∑ p : Fin 7, ∑ q : Fin 7, Y p q o * g ⟨(o.val * 7 + p.val) * 7 + q.val, by omega⟩ := by
  rw [sum_channels]
  refine Finset.sum_congr rfl fun o _ => Finset.sum_congr rfl fun p _ => Finset.sum_congr rfl fun q _ => ?_
  have ho : (⟨((o.val * 7 + p.val) * 7 + q.val) / 49, by omega⟩ : Fin 128) = o := Fin.ext (by show ((o.val * 7 + p.val) * 7 + q.val) / 49 = o.val; omega)
  have hp : (⟨((o.val * 7 + p.val) * 7 + q.val) / 7 % 7, by omega⟩ : Fin 7) = p := Fin.ext (by show ((o.val * 7 + p.val) * 7 + q.val) / 7 % 7 = p.val; omega)
  have hq : (⟨((o.val * 7 + p.val) * 7 + q.val) % 7, by omega⟩ : Fin 7) = q := Fin.ext (by show ((o.val * 7 + p.val) * 7 + q.val) % 7 = q.val; omega)
  exact congrArg (· * _) (by rw [ho, hp, hq])

/-- The reference's result for a box. -/
theorem result_at (n : Fin 4096) :
    val7 V0 (Proc.tc.devRef main_v347) (ix2 n 0)
      = dense (conv (conv (image V0 n) (w1 V0) (b1 V0)) (w2 V0) (b2 V0))
          (fun o p q f => (V0 (Proc.tc.devRef main_arg6) (ix2 ⟨(o.val * 7 + p.val) * 7 + q.val, by omega⟩ f) : EReal))
          (fun f => (V0 (Proc.tc.devRef main_arg7) (ix1 f) : EReal)) (fun f => (V0 (Proc.tc.devRef main_arg8) (ix2 f 0) : EReal))
          (V0 (Proc.tc.devRef main_arg9) (ix1 0) : EReal) := by
  refine (congrFun (val7_main_v347 V0) (ix2 n 0)).trans ?_
  pointwise
  have h : ∀ (o : Fin 128) (p q : Fin 7), max (@HAdd.hAdd EReal EReal EReal _ (res_main_v327 V0 (ix4 n o p q)) (b2 V0 o)) 0
      = conv (conv (image V0 n) (w1 V0) (b1 V0)) (w2 V0) (b2 V0) p q o := by
    intro o p q
    rw [v327_at]
    rfl
  unfold dense
  refine congrArg (fun e : EReal => Ideal.div 1 (1 + Ideal.exp (-(e + (V0 (Proc.tc.devRef main_arg9) (ix1 0) : EReal))))) ?_
  refine Finset.sum_congr rfl fun f _ => ?_
  refine congrArg (fun e : EReal => max (e + (V0 (Proc.tc.devRef main_arg7) (ix1 f) : EReal)) 0 * (V0 (Proc.tc.devRef main_arg8) (ix2 f 0) : EReal)) ?_
  refine (Finset.sum_congr rfl fun x _ => ?_).trans
    (flat (conv (conv (image V0 n) (w1 V0) (b1 V0)) (w2 V0) (b2 V0)) (fun x => (V0 (Proc.tc.devRef main_arg6) (ix2 x f) : EReal)))
  exact congrArg (fun e : EReal => e * (V0 (Proc.tc.devRef main_arg6) (ix2 x f) : EReal)) (h _ _ _)

end Cert.ReferenceIdeal.Roi
-- ==== Proof.Meets.lean ====
/- The kernel's result is the reference's, box by box. -/
module

public import proofs.«01_k».proof.Proof.Ref.Value

@[expose] public section

set_option maxRecDepth 16384

noncomputable section

namespace Cert.Roi

open Idealize.ShloMosaic
open Cert.ReferenceIdeal (S4x256x256x64)
open Cert.KernelIdeal.Roi (bin step held word tap kernelRoi)
open Cert.ReferenceIdeal.Roi (low frac next wrap sample counts refRoi pick)

/-! ## Words -/

/-- A small word is not below zero, so it isn't counted from the end. -/
theorem wrap_nat (k : ℕ) (hk : k < 1000) (N : BitVec 32) : wrap (BitVec.ofNat 32 k) N = BitVec.ofNat 32 k := by
  have h : IntOp.cmpi .slt (BitVec.ofNat 32 k) 0#32 = 0#1 := by
    show BitVec.ofBool ((BitVec.ofNat 32 k).slt 0#32) = 0#1
    have : (BitVec.ofNat 32 k).slt 0#32 = false := by
      rw [BitVec.slt, decide_eq_false_iff_not, BitVec.toInt_eq_toNat_cond, BitVec.toInt_eq_toNat_cond, BitVec.toNat_ofNat, BitVec.toNat_ofNat]
      omega
    rw [this]
    rfl
  unfold wrap
  rw [h]
  rfl

/-- The row after a row that is not the last. -/
theorem next_nat (k : ℕ) (hk : k ≤ 254) : next (BitVec.ofNat 32 k) = BitVec.ofNat 32 (k + 1) := by
  have : ∀ k : Fin 255, next (BitVec.ofNat 32 k.val) = BitVec.ofNat 32 (k.val + 1) := by decide +kernel
  exact this ⟨k, by omega⟩

/-- A small word as a number. -/
theorem toInt_nat (k : ℕ) (hk : k < 1000) : (BitVec.ofNat 32 k).toInt.toNat = k := by
  rw [BitVec.toInt_eq_toNat_cond, BitVec.toNat_ofNat]
  omega

/-- The map's entry at three words in range. -/
theorem pick_nat (F : S4x256x256x64.Idx → EReal) (b r s : ℕ) (hb : b < 4) (hr : r < 256) (hs : s < 256) (k : Fin 64) :
    pick F (BitVec.ofNat 32 b) (BitVec.ofNat 32 r) (BitVec.ofNat 32 s) k = F (ix4 ⟨b, hb⟩ ⟨r, hr⟩ ⟨s, hs⟩ k) := by
  unfold pick
  have eb : (⟨min (BitVec.ofNat 32 b).toInt.toNat 3, by omega⟩ : Fin 4) = ⟨b, hb⟩ := Fin.ext (by show min (BitVec.ofNat 32 b).toInt.toNat 3 = b; rw [toInt_nat b (by omega)]; omega)
  have er : (⟨min (BitVec.ofNat 32 r).toInt.toNat 255, by omega⟩ : Fin 256) = ⟨r, hr⟩ := Fin.ext (by show min (BitVec.ofNat 32 r).toInt.toNat 255 = r; rw [toInt_nat r (by omega)]; omega)
  have es : (⟨min (BitVec.ofNat 32 s).toInt.toNat 255, by omega⟩ : Fin 256) = ⟨s, hs⟩ := Fin.ext (by show min (BitVec.ofNat 32 s).toInt.toNat 255 = s; rw [toInt_nat s (by omega)]; omega)
  rw [eb, er, es]

/-- A truth value that is one is true. -/
theorem ofBool_one {d : Bool} (h : BitVec.ofBool d = 1#1) : d = true := by
  cases d
  · exact absurd h (by decide)
  · rfl

/-! ## A box -/

/-- What the range of a box says on one axis. -/
structure Side (y z : EReal) : Prop where
  lo : 0 ≤ y
  hi : y ≤ ((241 : ℝ) : EReal)
  side : z - y ≤ ((29 / 2 : ℝ) : EReal)

/-- A box in range, on the axis of the columns. -/
theorem side_x {b : Fin 5 → EReal} (h : InRange (F := Ideal) b) : Side (b 1) (b 3) where
  lo := by
    have := of_decide_eq_true (ofBool_one h.x_lo)
    rwa [show (FloatOps.ofBits (F := Ideal) .f32 0#32 : EReal) = 0 from Ideal.ofBits_zero_f32] at this
  hi := by rw [← Cert.KernelIdeal.Roi.bits_corner]; exact of_decide_eq_true (ofBool_one h.x_hi)
  side := by rw [← Cert.KernelIdeal.Roi.bits_side]; exact of_decide_eq_true (ofBool_one h.width)

/-- A box in range, on the axis of the rows. -/
theorem side_y {b : Fin 5 → EReal} (h : InRange (F := Ideal) b) : Side (b 2) (b 4) where
  lo := by
    have := of_decide_eq_true (ofBool_one h.y_lo)
    rwa [show (FloatOps.ofBits (F := Ideal) .f32 0#32 : EReal) = 0 from Ideal.ofBits_zero_f32] at this
  hi := by rw [← Cert.KernelIdeal.Roi.bits_corner]; exact of_decide_eq_true (ofBool_one h.y_hi)
  side := by rw [← Cert.KernelIdeal.Roi.bits_side]; exact of_decide_eq_true (ofBool_one h.height)

/-- Division by four. -/
theorem div_four (a : EReal) : Ideal.div a ((4 : ℝ) : EReal) = a * ((1 / 4 : ℝ) : EReal) := by
  unfold Ideal.div
  rw [if_neg (by exact_mod_cast (by norm_num : (4 : ℝ) ≠ 0)), ← EReal.coe_inv, one_div]

/-- A coordinate near the map counts. -/
theorem counts_of (v : EReal) (h0 : ((-1 : ℝ) : EReal) ≤ v) (h1 : v ≤ ((256 : ℝ) : EReal)) : counts v = 1#1 := by
  unfold counts
  rw [Cert.KernelIdeal.Roi.bits_neg, Cert.KernelIdeal.Roi.bits_side_map, decide_eq_true h0, decide_eq_true h1]
  rfl

/-- The kernel's weighted sum over a box's patch is the mean of the reference's four samples of the map. -/
theorem roi_eq (b : Fin 5 → EReal) (hb : InRange (F := Ideal) b) (F : S4x256x256x64.Idx → EReal) (k : Fin 64) (P : Fin 16 → Fin 16 → EReal)
    (hP : ∀ (y x : Fin 16) (a : Fin 4) (r s : Fin 256), a.val = (FloatOps.fptosi (F := Ideal) (φ := .f32) 32 (b 0)).toNat →
      r.val = (word (b 2)).toNat + y.val → s.val = (word (b 1)).toNat + x.val → P y x = F (ix4 a r s k)) (p q : Fin 7) :
    ∑ x : Fin 16, ((∑ t : Fin 2, tap (b 1 - FloatOps.sitofp (F := Ideal) .f32 (word (b 1)) + bin (b 1) (b 3) * step (q.val * 2 + t.val)) x.val) * Ideal.ofBits .f32 1056964608#32)
      * ∑ y : Fin 16, ((∑ t : Fin 2, tap (b 2 - FloatOps.sitofp (F := Ideal) .f32 (word (b 2)) + bin (b 2) (b 4) * step (p.val * 2 + t.val)) y.val) * Ideal.ofBits .f32 1056964608#32) * P y x
      = refRoi F b p q k := by
  obtain ⟨Rx, hRx, ewx, hx⟩ := Cert.KernelIdeal.Roi.axis _ _ (side_x hb).lo (side_x hb).hi (side_x hb).side
  obtain ⟨Ry, hRy, ewy, hy⟩ := Cert.KernelIdeal.Roi.axis _ _ (side_y hb).lo (side_y hb).hi (side_y hb).side
  choose lx fx hlx hx0 hx1 tx wx dx cx cx' using hx
  choose ly fy hly hy0 hy1 ty wy dy cy cy' using hy
  have hq : ∀ t : Fin 2, q.val * 2 + t.val < 14 := fun t => by omega
  have hp : ∀ t : Fin 2, p.val * 2 + t.val < 14 := fun t => by omega
  have hB : (FloatOps.fptosi (F := Ideal) (φ := .f32) 32 (b 0)).toNat ≤ 3 := Cert.KernelIdeal.Roi.batch_le _ hb.batch_lo hb.batch_hi
  have etx : ∀ (t : Fin 2) (x : Fin 16), tap (b 1 - FloatOps.sitofp (F := Ideal) .f32 (word (b 1)) + bin (b 1) (b 3) * step (q.val * 2 + t.val)) x.val
      = share (lx _ (hq t)) (fx _ (hq t)) x.val := fun t x => tx _ (hq t) x.val x.isLt
  have ety : ∀ (t : Fin 2) (y : Fin 16), tap (b 2 - FloatOps.sitofp (F := Ideal) .f32 (word (b 2)) + bin (b 2) (b 4) * step (p.val * 2 + t.val)) y.val
      = share (ly _ (hp t)) (fy _ (hp t)) y.val := fun t y => ty _ (hp t) y.val y.isLt
  simp only [etx, ety, Cert.KernelIdeal.Roi.bits_half]
  rw [shares_mean (fun t => ly _ (hp t)) (fun t => lx _ (hq t)) (fun t => fy _ (hp t)) (fun t => fx _ (hq t)) (fun t => hly _ (hp t)) (fun t => hlx _ (hq t))
    (fun t => hy0 _ (hp t)) (fun t => hy1 _ (hp t)) (fun t => hx0 _ (hq t)) (fun t => hx1 _ (hq t)) P]
  unfold refRoi
  rw [Cert.KernelIdeal.Roi.bits_four, div_four]
  refine congrArg (· * _) (Finset.sum_congr rfl fun s _ => Finset.sum_congr rfl fun t _ => ?_)
  rw [counts_of _ (cy _ (hp s)) (cy' _ (hp s)), counts_of _ (cx _ (hq t)) (cx' _ (hq t))]
  have eB : FloatOps.fptosi (F := Ideal) (φ := .f32) 32 (b 0) = BitVec.ofNat 32 (FloatOps.fptosi (F := Ideal) (φ := .f32) 32 (b 0)).toNat := BitVec.eq_of_toNat_eq (by simp)
  generalize (FloatOps.fptosi (F := Ideal) (φ := .f32) 32 (b 0)).toNat = B at *
  have ewx' : (word (b 1)).toNat = Rx := by rw [ewx, BitVec.toNat_ofNat]; omega
  have ewy' : (word (b 2)).toNat = Ry := by rw [ewy, BitVec.toNat_ofNat]; omega
  have lowx : low (b 1 + bin (b 1) (b 3) * step (q.val * 2 + t.val)) = BitVec.ofNat 32 (Rx + lx _ (hq t)) := wx _ (hq t)
  have lowy : low (b 2 + bin (b 2) (b 4) * step (p.val * 2 + s.val)) = BitVec.ofNat 32 (Ry + ly _ (hp s)) := wy _ (hp s)
  have fracx : frac (b 1 + bin (b 1) (b 3) * step (q.val * 2 + t.val)) = (fx _ (hq t) : EReal) := by unfold frac; rw [lowx]; exact dx _ (hq t)
  have fracy : frac (b 2 + bin (b 2) (b 4) * step (p.val * 2 + s.val)) = (fy _ (hp s) : EReal) := by unfold frac; rw [lowy]; exact dy _ (hp s)
  have bx := hlx _ (hq t)
  have by' := hly _ (hp s)
  refine Eq.trans ?_ (show sample F (FloatOps.fptosi (F := Ideal) (φ := .f32) 32 (b 0)) (b 2 + bin (b 2) (b 4) * step (p.val * 2 + s.val)) (b 1 + bin (b 1) (b 3) * step (q.val * 2 + t.val)) k = _ from rfl)
  unfold sample between
  rw [lowx, lowy, fracx, fracy, eB, wrap_nat B (by omega), next_nat _ (by omega), next_nat _ (by omega), wrap_nat _ (by omega), wrap_nat _ (by omega),
    wrap_nat _ (by omega), wrap_nat _ (by omega), pick_nat F _ _ _ (by omega) (by omega) (by omega), pick_nat F _ _ _ (by omega) (by omega) (by omega),
    pick_nat F _ _ _ (by omega) (by omega) (by omega), pick_nat F _ _ _ (by omega) (by omega) (by omega)]
  rw [← hP ⟨ly _ (hp s), by omega⟩ ⟨lx _ (hq t), by omega⟩ ⟨B, by omega⟩ ⟨Ry + ly _ (hp s), by omega⟩ ⟨Rx + lx _ (hq t), by omega⟩ rfl (by rw [ewy']) (by rw [ewx']),
    ← hP ⟨ly _ (hp s), by omega⟩ ⟨lx _ (hq t) + 1, by omega⟩ ⟨B, by omega⟩ ⟨Ry + ly _ (hp s), by omega⟩ ⟨Rx + lx _ (hq t) + 1, by omega⟩ rfl (by rw [ewy']) (by rw [ewx']; exact Nat.add_assoc _ _ _),
    ← hP ⟨ly _ (hp s) + 1, by omega⟩ ⟨lx _ (hq t), by omega⟩ ⟨B, by omega⟩ ⟨Ry + ly _ (hp s) + 1, by omega⟩ ⟨Rx + lx _ (hq t), by omega⟩ rfl (by rw [ewy']; exact Nat.add_assoc _ _ _) (by rw [ewx']),
    ← hP ⟨ly _ (hp s) + 1, by omega⟩ ⟨lx _ (hq t) + 1, by omega⟩ ⟨B, by omega⟩ ⟨Ry + ly _ (hp s) + 1, by omega⟩ ⟨Rx + lx _ (hq t) + 1, by omega⟩ rfl (by rw [ewy']; exact Nat.add_assoc _ _ _) (by rw [ewx']; exact Nat.add_assoc _ _ _)]

/-! ## The network -/

/-- The network's result depends on its image, weights and biases entry by entry. -/
theorem network_congr {X X' : Fin 7 → Fin 7 → Fin 64 → EReal} {u u' : Fin 128 → Fin 64 → Fin 3 → Fin 3 → EReal} {a a' : Fin 128 → EReal}
    {v v' : Fin 128 → Fin 128 → Fin 3 → Fin 3 → EReal} {b b' : Fin 128 → EReal} {w w' : Fin 128 → Fin 7 → Fin 7 → Fin 256 → EReal} {c c' e e' : Fin 256 → EReal} {d d' : EReal}
    (hX : ∀ p q k, X p q k = X' p q k) (hu : ∀ o k i j, u o k i j = u' o k i j) (ha : ∀ o, a o = a' o) (hv : ∀ o k i j, v o k i j = v' o k i j)
    (hb : ∀ o, b o = b' o) (hw : ∀ o p q f, w o p q f = w' o p q f) (hc : ∀ f, c f = c' f) (he : ∀ f, e f = e' f) (hd : d = d') :
    dense (conv (conv X u a) v b) w c e d = dense (conv (conv X' u' a') v' b') w' c' e' d' := by
  obtain rfl : X = X' := by funext p q k; exact hX p q k
  obtain rfl : u = u' := by funext o k i j; exact hu o k i j
  obtain rfl : a = a' := funext ha
  obtain rfl : v = v' := by funext o k i j; exact hv o k i j
  obtain rfl : b = b' := funext hb
  obtain rfl : w = w' := by funext o p q f; exact hw o p q f
  obtain rfl : c = c' := funext hc
  obtain rfl : e = e' := funext he
  obtain rfl : d = d' := hd
  rfl

end Cert.Roi

namespace Cert.KernelIdeal.Roi

open Idealize.ShloMosaic Idealize.ShloMosaic.TcCoe Idealize.SL.Sem Cert.KernelIdeal Cert.KernelIdeal.Gen Cert.Roi
open Cert.ReferenceIdeal.Roi (refRoi)

variable (m : (ℓ : Loc nD τ sig) → Buf (Elt Ideal) ℓ)

/-- The image of a box, from its block and its patch. -/
theorem image_at (hO : Ok m) (hH : TabsOk m) (t : Fin (cfgM m hO).N) (j : Fin 64) (n : Fin 4096) (hn : n.val = 64 * t.val + j.val)
    (hb : InRange (F := Ideal) (box (boxes m 0) n)) (F : S4x256x256x64.Idx → EReal)
    (hF : ∀ a r s k, F (ix4 a r s k) = m ((0 : Dev nD).tc.loc main_arg0) (ix4 a k r s)) (p q : Fin 7) (k : Fin 64) :
    kernelRoi (iblk m hO 0 0 t) (Cert.Slabs.stack (Val := Elt Ideal) (patch 0 (grid0.coords t) (tbl m 0) (tbl m 1) (tbl m 2) (V m 0 main_v0) (hH 0))) j p q k
      = refRoi F (box (boxes m 0) n) p q k := by
  have hlt : 64 * t.val + j.val < 4096 := by have := point_lt m hO t; omega
  obtain rfl : n = ⟨64 * t.val + j.val, hlt⟩ := Fin.ext hn
  generalize hN : (⟨64 * t.val + j.val, hlt⟩ : Fin 4096) = n at *
  have r0 : (V m 0 main_v24 (ix1 n) : BitVec 32) = word (box (boxes m 0) n 2) := V_row m 0 n
  have r1 : (V m 0 main_v27 (ix1 n) : BitVec 32) = word (box (boxes m 0) n 1) := V_col m 0 n
  have rb : (V m 0 main_v3 (ix1 n) : BitVec 32) = FloatOps.fptosi (F := Ideal) (φ := .f32) 32 (box (boxes m 0) n 0) := V_batch m 0 n
  have e : ∀ i : Fin 8, (iblk m hO 0 0 t (ix2 j i) : EReal) = V m 0 main_v41 (ix2 n i) := fun i => by rw [← hN]; exact iblk0 m hO 0 t j i
  have e0 := (e 0).trans (V_par0 m 0 n)
  have e1 := (e 1).trans (V_par1 m 0 n)
  have e2 := (e 2).trans (V_par2 m 0 n)
  have e3 := (e 3).trans (V_par3 m 0 n)
  rw [r0] at e0
  rw [r1] at e2
  unfold kernelRoi
  rw [e0, e1, e2, e3]
  refine roi_eq (box (boxes m 0) n) hb F k (fun y x => Cert.Slabs.stack (Val := Elt Ideal) (patch 0 (grid0.coords t) (tbl m 0) (tbl m 1) (tbl m 2) (V m 0 main_v0) (hH 0)) (ix4 j y x k)) ?_ p q
  intro y x a r s ha hr hs
  rw [hF]
  exact patches_at m hH t j n hn y x k a r s (ha.trans (congrArg BitVec.toNat rb.symm)) (hr.trans (by rw [r0])) (hs.trans (by rw [r1]))

/-- What a grid point stores is the reference's result at its boxes. -/
theorem outBlk_at (hO : Ok m) (hH : TabsOk m) (hb : ∀ n, InRange (F := Ideal) (box (boxes m 0) n)) (V0 : Valuation Cert.ReferenceIdeal.τ Cert.ReferenceIdeal.sig (Elt Ideal))
    (h0 : V0 (Proc.tc.devRef Cert.ReferenceIdeal.main_arg0) = m ((0 : Dev nD).tc.loc main_arg0)) (h1 : V0 (Proc.tc.devRef Cert.ReferenceIdeal.main_arg1) = m ((0 : Dev nD).tc.loc main_arg1))
    (h2 : V0 (Proc.tc.devRef Cert.ReferenceIdeal.main_arg2) = m ((0 : Dev nD).tc.loc main_arg2)) (h3 : V0 (Proc.tc.devRef Cert.ReferenceIdeal.main_arg3) = m ((0 : Dev nD).tc.loc main_arg3))
    (h4 : V0 (Proc.tc.devRef Cert.ReferenceIdeal.main_arg4) = m ((0 : Dev nD).tc.loc main_arg4)) (h5 : V0 (Proc.tc.devRef Cert.ReferenceIdeal.main_arg5) = m ((0 : Dev nD).tc.loc main_arg5))
    (h6 : V0 (Proc.tc.devRef Cert.ReferenceIdeal.main_arg6) = m ((0 : Dev nD).tc.loc main_arg6)) (h7 : V0 (Proc.tc.devRef Cert.ReferenceIdeal.main_arg7) = m ((0 : Dev nD).tc.loc main_arg7))
    (h8 : V0 (Proc.tc.devRef Cert.ReferenceIdeal.main_arg8) = m ((0 : Dev nD).tc.loc main_arg8)) (h9 : V0 (Proc.tc.devRef Cert.ReferenceIdeal.main_arg9) = m ((0 : Dev nD).tc.loc main_arg9))
    (t : Fin (cfgM m hO).N) (j : Fin 64) :
    outBlk m hO hH 0 t (ix2 j 0) = Cert.ReferenceIdeal.Value.val7 V0 (Proc.tc.devRef Cert.ReferenceIdeal.main_v347) (ix2 ⟨64 * t.val + j.val, by have := point_lt m hO t; omega⟩ 0) := by
  refine Eq.trans ?_ (Cert.ReferenceIdeal.Roi.result_at V0 _).symm
  unfold outBlk
  refine (kOut_at _ _ _ _ _ _ _ _ _ _ _).trans (network_congr (fun p q k => ?_) (fun o k i j => ?_) (fun o => ?_) (fun o k i j => ?_) (fun o => ?_) (fun o p q f => ?_)
    (fun f => ?_) (fun f => ?_) ?_)
  · refine (image_at m hO hH t j ⟨64 * t.val + j.val, by have := point_lt m hO t; omega⟩ rfl (hb _) (Cert.ReferenceIdeal.Value.res_main_v0 V0) (fun a r s k => ?_) p q k).trans ?_
    · exact (Cert.ReferenceIdeal.Roi.v0_at V0 a r s k).trans (congrFun h0 _)
    · exact congrArg (fun b : Fin 5 → EReal => refRoi _ b p q k) (funext fun i => (congrFun h1 (ix2 _ i)).symm)
  · exact ((iblk1 m hO 0 t _ o).trans (V_w1 m 0 i j k o)).trans (congrFun h2 _).symm
  · exact ((iblk2 m hO 0 t o).trans (V_b1 m 0 o)).trans (congrFun h3 _).symm
  · exact ((iblk3 m hO 0 t _ o).trans (V_w2 m 0 i j k o)).trans (congrFun h4 _).symm
  · exact ((iblk4 m hO 0 t o).trans (V_b2 m 0 o)).trans (congrFun h5 _).symm
  · exact ((iblk5 m hO 0 t _ f).trans (V_fw1 m 0 q p o f)).trans (congrFun h6 _).symm
  · exact ((iblk6 m hO 0 t f).trans (V_fb1 m 0 f)).trans (congrFun h7 _).symm
  · exact ((iblk7 m hO 0 t f 0).trans (V_fw2 m 0 f)).trans (congrFun h8 _).symm
  · exact ((iblk8 m hO 0 t 0).trans (V_fb2 m 0)).trans (congrFun h9 _).symm

end Cert.KernelIdeal.Roi

end
-- ==== Proof.lean ====
/- The claims, put together from the modules under Proof/. -/
module

public import proofs.«01_k».proof.Defs
public import proofs.«01_k».proof.Proof.Bits.Tables
public import proofs.«01_k».proof.Proof.Meets
public import proofs.«01_k».proof.Proof.Gen.ReferenceIdeal.Run
public import Idealize.ShloMosaic.Lib.Quiescent

@[expose] public section

noncomputable section

namespace Cert.Proof

open Idealize.ShloMosaic Idealize.SL.Sem

/-- The kernel on the machine's floats runs, leaves its arguments alone and every counter at zero. -/
theorem frame_kernel : Cert.quiescent_Kernel := fun m ρ h =>
  Cert.Kernel.Roi.frame m ρ trivial (Cert.Kernel.Roi.tabsOk m fun c n => Cert.Roi.inBatch_of_pre _ _ _ _ _ _ _ _ _ _ (h c) n)

/-- The kernel over the reals runs, leaves its arguments alone and every counter at zero. -/
theorem frame_ideal : Cert.quiescent_KernelIdeal := fun m ρ h =>
  Cert.KernelIdeal.Roi.frame m ρ trivial (Cert.KernelIdeal.Roi.tabsOk m fun c n => Cert.Roi.inBatch_of_pre _ _ _ _ _ _ _ _ _ _ (h c) n)

/-- The same under the value claim's precondition. -/
theorem frame_ideal_boxes : Cert.quiescent_KernelIdeal_pre_boxes_in_range := fun m ρ h =>
  Cert.KernelIdeal.Roi.frame m ρ trivial (Cert.KernelIdeal.Roi.tabsOk m fun c n => (Cert.Roi.inRange_of_pre _ _ _ _ _ _ _ _ _ _ (h c) n).toInBatch)

/-- The reference runs, leaves its arguments alone, and has no counter. -/
theorem frame_reference : Cert.quiescent_ReferenceIdeal := fun m ρ _ =>
  (θ_run Cert.ReferenceIdeal.defs _ _).mono (fun r h => ⟨fun c => (h c).2, sem_eq_zero_of_no_sems rfl r.2⟩) (Cert.ReferenceIdeal.Value.run m ρ)

/-- From memories that agree on the arguments the kernel over the reals and the reference end with the same result. -/
theorem algebraic : Cert.algebraic_KernelIdeal_ReferenceIdeal_pre_boxes_in_range := by
  intro m g m' g' hpre hargs
  have hb : ∀ c n, Cert.Roi.InRange (F := Ideal) (Cert.Roi.box (Cert.KernelIdeal.Roi.boxes m c) n) := fun c n => Cert.Roi.inRange_of_pre _ _ _ _ _ _ _ _ _ _ (hpre c) n
  have hH : Cert.KernelIdeal.Roi.TabsOk m := Cert.KernelIdeal.Roi.tabsOk m fun c n => (hb c n).toInBatch
  refine ⟨fun c => Cert.ReferenceIdeal.Value.val7 (StableHlo.launchContents m' c) (Proc.tc.devRef Cert.ReferenceIdeal.main_v347), ?_, ?_⟩
  · refine (θ_run _ _ _).mono (fun r h c => ?_) (Cert.KernelIdeal.Roi.run_value m g trivial hH)
    refine ⟨(h.1 c).1.trans ?_, (h.1 c).2⟩
    obtain rfl : c = 0 := Subsingleton.elim _ _
    obtain ⟨h0, h1, h2, h3, h4, h5, h6, h7, h8, h9⟩ := hargs 0
    exact Cert.KernelIdeal.Roi.result_of m trivial hH 0 _
      (Cert.KernelIdeal.Roi.outBlk_at m trivial hH (hb 0) (StableHlo.launchContents m' 0) h0 h1 h2 h3 h4 h5 h6 h7 h8 h9)
  · refine (θ_run _ _ _).mono (fun r h c => ?_) (Cert.ReferenceIdeal.Value.run m' g')
    exact ⟨(h c).1.trans (Cert.ReferenceIdeal.Value.val7_main_v347 (StableHlo.launchContents m' c)).symm, (h c).2⟩

/-- Every claim. -/
theorem claim : Cert.Claim := ⟨Cert.Kernel.Gen.facts, Cert.KernelIdeal.Gen.facts, Cert.ReferenceIdeal.Gen.facts, Cert.Pre_batch_in_range.Gen.facts, Cert.Pre_boxes_in_range.Gen.facts,
  frame_kernel, frame_ideal, frame_ideal_boxes, frame_reference, fun m ρ _ => frame_reference m ρ trivial, trivial, algebraic⟩

end Cert.Proof

end
